-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23)
      ∧ r.2.mem ((c.tc : Thread Cert.Kernel13.nD Cert.Kernel13.τ).loc Cert.Kernel13.main_arg24) = m ((c.tc : Thread Cert.Kernel13.nD Cert.Kernel13.τ).loc Cert.Kernel13.main_arg24)
      ∧ r.2.mem ((c.tc : Thread Cert.Kernel13.nD Cert.Kernel13.τ).loc Cert.Kernel13.main_arg25) = m ((c.tc : Thread Cert.Kernel13.nD Cert.Kernel13.τ).loc Cert.Kernel13.main_arg25)
      ∧ r.2.mem ((c.tc : Thread Cert.Kernel13.nD Cert.Kernel13.τ).loc Cert.Kernel13.main_arg26) = m ((c.tc : Thread Cert.Kernel13.nD Cert.Kernel13.τ).loc Cert.Kernel13.main_arg26)
      ∧ r.2.mem ((c.tc : Thread Cert.Kernel13.nD Cert.Kernel13.τ).loc Cert.Kernel13.main_arg27) = m ((c.tc : Thread Cert.Kernel13.nD Cert.Kernel13.τ).loc Cert.Kernel13.main_arg27)
      ∧ r.2.mem ((c.tc : Thread Cert.Kernel13.nD Cert.Kernel13.τ).loc Cert.Kernel13.main_arg28) = m ((c.tc : Thread Cert.Kernel13.nD Cert.Kernel13.τ).loc Cert.Kernel13.main_arg28)
      ∧ r.2.mem ((c.tc : Thread Cert.Kernel13.nD Cert.Kernel13.τ).loc Cert.Kernel13.main_arg29) = m ((c.tc : Thread Cert.Kernel13.nD Cert.Kernel13.τ).loc Cert.Kernel13.main_arg29)
      ∧ r.2.mem ((c.tc : Thread Cert.Kernel13.nD Cert.Kernel13.τ).loc Cert.Kernel13.main_arg30) = m ((c.tc : Thread Cert.Kernel13.nD Cert.Kernel13.τ).loc Cert.Kernel13.main_arg30)
      ∧ r.2.mem ((c.tc : Thread Cert.Kernel13.nD Cert.Kernel13.τ).loc Cert.Kernel13.main_arg31) = m ((c.tc : Thread Cert.Kernel13.nD Cert.Kernel13.τ).loc Cert.Kernel13.main_arg31)
      ∧ r.2.mem ((c.tc : Thread Cert.Kernel13.nD Cert.Kernel13.τ).loc Cert.Kernel13.main_arg32) = m ((c.tc : Thread Cert.Kernel13.nD Cert.Kernel13.τ).loc Cert.Kernel13.main_arg32)
      ∧ r.2.mem ((c.tc : Thread Cert.Kernel13.nD Cert.Kernel13.τ).loc Cert.Kernel13.main_arg33) = m ((c.tc : Thread Cert.Kernel13.nD Cert.Kernel13.τ).loc Cert.Kernel13.main_arg33)
      ∧ r.2.mem ((c.tc : Thread Cert.Kernel13.nD Cert.Kernel13.τ).loc Cert.Kernel13.main_arg34) = m ((c.tc : Thread Cert.Kernel13.nD Cert.Kernel13.τ).loc Cert.Kernel13.main_arg34)
      ∧ r.2.mem ((c.tc : Thread Cert.Kernel13.nD Cert.Kernel13.τ).loc Cert.Kernel13.main_arg35) = m ((c.tc : Thread Cert.Kernel13.nD Cert.Kernel13.τ).loc Cert.Kernel13.main_arg35)
      ∧ r.2.mem ((c.tc : Thread Cert.Kernel13.nD Cert.Kernel13.τ).loc Cert.Kernel13.main_arg36) = m ((c.tc : Thread Cert.Kernel13.nD Cert.Kernel13.τ).loc Cert.Kernel13.main_arg36)
      ∧ r.2.mem ((c.tc : Thread Cert.Kernel13.nD Cert.Kernel13.τ).loc Cert.Kernel13.main_arg37) = m ((c.tc : Thread Cert.Kernel13.nD Cert.Kernel13.τ).loc Cert.Kernel13.main_arg37)
      ∧ r.2.mem ((c.tc : Thread Cert.Kernel13.nD Cert.Kernel13.τ).loc Cert.Kernel13.main_arg38) = m ((c.tc : Thread Cert.Kernel13.nD Cert.Kernel13.τ).loc Cert.Kernel13.main_arg38)
      ∧ r.2.mem ((c.tc : Thread Cert.Kernel13.nD Cert.Kernel13.τ).loc Cert.Kernel13.main_arg39) = m ((c.tc : Thread Cert.Kernel13.nD Cert.Kernel13.τ).loc Cert.Kernel13.main_arg39)
      ∧ r.2.mem ((c.tc : Thread Cert.Kernel13.nD Cert.Kernel13.τ).loc Cert.Kernel13.main_arg40) = m ((c.tc : Thread Cert.Kernel13.nD Cert.Kernel13.τ).loc Cert.Kernel13.main_arg40)
      ∧ r.2.mem ((c.tc : Thread Cert.Kernel13.nD Cert.Kernel13.τ).loc Cert.Kernel13.main_arg41) = m ((c.tc : Thread Cert.Kernel13.nD Cert.Kernel13.τ).loc Cert.Kernel13.main_arg41)
      ∧ r.2.mem ((c.tc : Thread Cert.Kernel13.nD Cert.Kernel13.τ).loc Cert.Kernel13.main_arg42) = m ((c.tc : Thread Cert.Kernel13.nD Cert.Kernel13.τ).loc Cert.Kernel13.main_arg42)
      ∧ r.2.mem ((c.tc : Thread Cert.Kernel13.nD Cert.Kernel13.τ).loc Cert.Kernel13.main_arg43) = m ((c.tc : Thread Cert.Kernel13.nD Cert.Kernel13.τ).loc Cert.Kernel13.main_arg43)
      ∧ r.2.mem ((c.tc : Thread Cert.Kernel13.nD Cert.Kernel13.τ).loc Cert.Kernel13.main_arg44) = m ((c.tc : Thread Cert.Kernel13.nD Cert.Kernel13.τ).loc Cert.Kernel13.main_arg44)
      ∧ r.2.mem ((c.tc : Thread Cert.Kernel13.nD Cert.Kernel13.τ).loc Cert.Kernel13.main_arg45) = m ((c.tc : Thread Cert.Kernel13.nD Cert.Kernel13.τ).loc Cert.Kernel13.main_arg45)
      ∧ r.2.mem ((c.tc : Thread Cert.Kernel13.nD Cert.Kernel13.τ).loc Cert.Kernel13.main_arg46) = m ((c.tc : Thread Cert.Kernel13.nD Cert.Kernel13.τ).loc Cert.Kernel13.main_arg46)
      ∧ r.2.mem ((c.tc : Thread Cert.Kernel13.nD Cert.Kernel13.τ).loc Cert.Kernel13.main_arg47) = m ((c.tc : Thread Cert.Kernel13.nD Cert.Kernel13.τ).loc Cert.Kernel13.main_arg47))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
      ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
      ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
      ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
      ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
      ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
      ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
      ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
      ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
      ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
      ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
      ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
      ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35)
      ∧ r.2.mem ((c.tc : Thread Cert.Kernel13Ideal.nD Cert.Kernel13Ideal.τ).loc Cert.Kernel13Ideal.main_arg36) = m ((c.tc : Thread Cert.Kernel13Ideal.nD Cert.Kernel13Ideal.τ).loc Cert.Kernel13Ideal.main_arg36)
      ∧ r.2.mem ((c.tc : Thread Cert.Kernel13Ideal.nD Cert.Kernel13Ideal.τ).loc Cert.Kernel13Ideal.main_arg37) = m ((c.tc : Thread Cert.Kernel13Ideal.nD Cert.Kernel13Ideal.τ).loc Cert.Kernel13Ideal.main_arg37)
      ∧ r.2.mem ((c.tc : Thread Cert.Kernel13Ideal.nD Cert.Kernel13Ideal.τ).loc Cert.Kernel13Ideal.main_arg38) = m ((c.tc : Thread Cert.Kernel13Ideal.nD Cert.Kernel13Ideal.τ).loc Cert.Kernel13Ideal.main_arg38)
      ∧ r.2.mem ((c.tc : Thread Cert.Kernel13Ideal.nD Cert.Kernel13Ideal.τ).loc Cert.Kernel13Ideal.main_arg39) = m ((c.tc : Thread Cert.Kernel13Ideal.nD Cert.Kernel13Ideal.τ).loc Cert.Kernel13Ideal.main_arg39)
      ∧ r.2.mem ((c.tc : Thread Cert.Kernel13Ideal.nD Cert.Kernel13Ideal.τ).loc Cert.Kernel13Ideal.main_arg40) = m ((c.tc : Thread Cert.Kernel13Ideal.nD Cert.Kernel13Ideal.τ).loc Cert.Kernel13Ideal.main_arg40)
      ∧ r.2.mem ((c.tc : Thread Cert.Kernel13Ideal.nD Cert.Kernel13Ideal.τ).loc Cert.Kernel13Ideal.main_arg41) = m ((c.tc : Thread Cert.Kernel13Ideal.nD Cert.Kernel13Ideal.τ).loc Cert.Kernel13Ideal.main_arg41)
      ∧ r.2.mem ((c.tc : Thread Cert.Kernel13Ideal.nD Cert.Kernel13Ideal.τ).loc Cert.Kernel13Ideal.main_arg42) = m ((c.tc : Thread Cert.Kernel13Ideal.nD Cert.Kernel13Ideal.τ).loc Cert.Kernel13Ideal.main_arg42)
      ∧ r.2.mem ((c.tc : Thread Cert.Kernel13Ideal.nD Cert.Kernel13Ideal.τ).loc Cert.Kernel13Ideal.main_arg43) = m ((c.tc : Thread Cert.Kernel13Ideal.nD Cert.Kernel13Ideal.τ).loc Cert.Kernel13Ideal.main_arg43)
      ∧ r.2.mem ((c.tc : Thread Cert.Kernel13Ideal.nD Cert.Kernel13Ideal.τ).loc Cert.Kernel13Ideal.main_arg44) = m ((c.tc : Thread Cert.Kernel13Ideal.nD Cert.Kernel13Ideal.τ).loc Cert.Kernel13Ideal.main_arg44)
      ∧ r.2.mem ((c.tc : Thread Cert.Kernel13Ideal.nD Cert.Kernel13Ideal.τ).loc Cert.Kernel13Ideal.main_arg45) = m ((c.tc : Thread Cert.Kernel13Ideal.nD Cert.Kernel13Ideal.τ).loc Cert.Kernel13Ideal.main_arg45)
      ∧ r.2.mem ((c.tc : Thread Cert.Kernel13Ideal.nD Cert.Kernel13Ideal.τ).loc Cert.Kernel13Ideal.main_arg46) = m ((c.tc : Thread Cert.Kernel13Ideal.nD Cert.Kernel13Ideal.τ).loc Cert.Kernel13Ideal.main_arg46)
      ∧ r.2.mem ((c.tc : Thread Cert.Kernel13Ideal.nD Cert.Kernel13Ideal.τ).loc Cert.Kernel13Ideal.main_arg47) = m ((c.tc : Thread Cert.Kernel13Ideal.nD Cert.Kernel13Ideal.τ).loc Cert.Kernel13Ideal.main_arg47))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23)
      ∧ r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24)
      ∧ r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25)
      ∧ r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26)
      ∧ r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27)
      ∧ r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28)
      ∧ r.2.mem ((c.tc : Thread Cert.Reference13Ideal.nD Cert.Reference13Ideal.τ).loc Cert.Reference13Ideal.main_arg29) = m ((c.tc : Thread Cert.Reference13Ideal.nD Cert.Reference13Ideal.τ).loc Cert.Reference13Ideal.main_arg29)
      ∧ r.2.mem ((c.tc : Thread Cert.Reference13Ideal.nD Cert.Reference13Ideal.τ).loc Cert.Reference13Ideal.main_arg30) = m ((c.tc : Thread Cert.Reference13Ideal.nD Cert.Reference13Ideal.τ).loc Cert.Reference13Ideal.main_arg30)
      ∧ r.2.mem ((c.tc : Thread Cert.Reference13Ideal.nD Cert.Reference13Ideal.τ).loc Cert.Reference13Ideal.main_arg31) = m ((c.tc : Thread Cert.Reference13Ideal.nD Cert.Reference13Ideal.τ).loc Cert.Reference13Ideal.main_arg31)
      ∧ r.2.mem ((c.tc : Thread Cert.Reference13Ideal.nD Cert.Reference13Ideal.τ).loc Cert.Reference13Ideal.main_arg32) = m ((c.tc : Thread Cert.Reference13Ideal.nD Cert.Reference13Ideal.τ).loc Cert.Reference13Ideal.main_arg32)
      ∧ r.2.mem ((c.tc : Thread Cert.Reference13Ideal.nD Cert.Reference13Ideal.τ).loc Cert.Reference13Ideal.main_arg33) = m ((c.tc : Thread Cert.Reference13Ideal.nD Cert.Reference13Ideal.τ).loc Cert.Reference13Ideal.main_arg33)
      ∧ r.2.mem ((c.tc : Thread Cert.Reference13Ideal.nD Cert.Reference13Ideal.τ).loc Cert.Reference13Ideal.main_arg34) = m ((c.tc : Thread Cert.Reference13Ideal.nD Cert.Reference13Ideal.τ).loc Cert.Reference13Ideal.main_arg34)
      ∧ r.2.mem ((c.tc : Thread Cert.Reference13Ideal.nD Cert.Reference13Ideal.τ).loc Cert.Reference13Ideal.main_arg35) = m ((c.tc : Thread Cert.Reference13Ideal.nD Cert.Reference13Ideal.τ).loc Cert.Reference13Ideal.main_arg35)
      ∧ r.2.mem ((c.tc : Thread Cert.Reference13Ideal.nD Cert.Reference13Ideal.τ).loc Cert.Reference13Ideal.main_arg36) = m ((c.tc : Thread Cert.Reference13Ideal.nD Cert.Reference13Ideal.τ).loc Cert.Reference13Ideal.main_arg36)
      ∧ r.2.mem ((c.tc : Thread Cert.Reference13Ideal.nD Cert.Reference13Ideal.τ).loc Cert.Reference13Ideal.main_arg37) = m ((c.tc : Thread Cert.Reference13Ideal.nD Cert.Reference13Ideal.τ).loc Cert.Reference13Ideal.main_arg37)
      ∧ r.2.mem ((c.tc : Thread Cert.Reference13Ideal.nD Cert.Reference13Ideal.τ).loc Cert.Reference13Ideal.main_arg38) = m ((c.tc : Thread Cert.Reference13Ideal.nD Cert.Reference13Ideal.τ).loc Cert.Reference13Ideal.main_arg38)
      ∧ r.2.mem ((c.tc : Thread Cert.Reference13Ideal.nD Cert.Reference13Ideal.τ).loc Cert.Reference13Ideal.main_arg39) = m ((c.tc : Thread Cert.Reference13Ideal.nD Cert.Reference13Ideal.τ).loc Cert.Reference13Ideal.main_arg39)
      ∧ r.2.mem ((c.tc : Thread Cert.Reference13Ideal.nD Cert.Reference13Ideal.τ).loc Cert.Reference13Ideal.main_arg40) = m ((c.tc : Thread Cert.Reference13Ideal.nD Cert.Reference13Ideal.τ).loc Cert.Reference13Ideal.main_arg40)
      ∧ r.2.mem ((c.tc : Thread Cert.Reference13Ideal.nD Cert.Reference13Ideal.τ).loc Cert.Reference13Ideal.main_arg41) = m ((c.tc : Thread Cert.Reference13Ideal.nD Cert.Reference13Ideal.τ).loc Cert.Reference13Ideal.main_arg41)
      ∧ r.2.mem ((c.tc : Thread Cert.Reference13Ideal.nD Cert.Reference13Ideal.τ).loc Cert.Reference13Ideal.main_arg42) = m ((c.tc : Thread Cert.Reference13Ideal.nD Cert.Reference13Ideal.τ).loc Cert.Reference13Ideal.main_arg42)
      ∧ r.2.mem ((c.tc : Thread Cert.Reference13Ideal.nD Cert.Reference13Ideal.τ).loc Cert.Reference13Ideal.main_arg43) = m ((c.tc : Thread Cert.Reference13Ideal.nD Cert.Reference13Ideal.τ).loc Cert.Reference13Ideal.main_arg43)
      ∧ r.2.mem ((c.tc : Thread Cert.Reference13Ideal.nD Cert.Reference13Ideal.τ).loc Cert.Reference13Ideal.main_arg44) = m ((c.tc : Thread Cert.Reference13Ideal.nD Cert.Reference13Ideal.τ).loc Cert.Reference13Ideal.main_arg44)
      ∧ r.2.mem ((c.tc : Thread Cert.Reference13Ideal.nD Cert.Reference13Ideal.τ).loc Cert.Reference13Ideal.main_arg45) = m ((c.tc : Thread Cert.Reference13Ideal.nD Cert.Reference13Ideal.τ).loc Cert.Reference13Ideal.main_arg45)
      ∧ r.2.mem ((c.tc : Thread Cert.Reference13Ideal.nD Cert.Reference13Ideal.τ).loc Cert.Reference13Ideal.main_arg46) = m ((c.tc : Thread Cert.Reference13Ideal.nD Cert.Reference13Ideal.τ).loc Cert.Reference13Ideal.main_arg46)
      ∧ r.2.mem ((c.tc : Thread Cert.Reference13Ideal.nD Cert.Reference13Ideal.τ).loc Cert.Reference13Ideal.main_arg47) = m ((c.tc : Thread Cert.Reference13Ideal.nD Cert.Reference13Ideal.τ).loc Cert.Reference13Ideal.main_arg47))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)
      ∧ m' ((c.tc : Thread Cert.Reference13Ideal.nD Cert.Reference13Ideal.τ).loc Cert.Reference13Ideal.main_arg24) = m ((c.tc : Thread Cert.Kernel13Ideal.nD Cert.Kernel13Ideal.τ).loc Cert.Kernel13Ideal.main_arg24)
      ∧ m' ((c.tc : Thread Cert.Reference13Ideal.nD Cert.Reference13Ideal.τ).loc Cert.Reference13Ideal.main_arg25) = m ((c.tc : Thread Cert.Kernel13Ideal.nD Cert.Kernel13Ideal.τ).loc Cert.Kernel13Ideal.main_arg25)
      ∧ m' ((c.tc : Thread Cert.Reference13Ideal.nD Cert.Reference13Ideal.τ).loc Cert.Reference13Ideal.main_arg26) = m ((c.tc : Thread Cert.Kernel13Ideal.nD Cert.Kernel13Ideal.τ).loc Cert.Kernel13Ideal.main_arg26)
      ∧ m' ((c.tc : Thread Cert.Reference13Ideal.nD Cert.Reference13Ideal.τ).loc Cert.Reference13Ideal.main_arg27) = m ((c.tc : Thread Cert.Kernel13Ideal.nD Cert.Kernel13Ideal.τ).loc Cert.Kernel13Ideal.main_arg27)
      ∧ m' ((c.tc : Thread Cert.Reference13Ideal.nD Cert.Reference13Ideal.τ).loc Cert.Reference13Ideal.main_arg28) = m ((c.tc : Thread Cert.Kernel13Ideal.nD Cert.Kernel13Ideal.τ).loc Cert.Kernel13Ideal.main_arg28)
      ∧ m' ((c.tc : Thread Cert.Reference13Ideal.nD Cert.Reference13Ideal.τ).loc Cert.Reference13Ideal.main_arg29) = m ((c.tc : Thread Cert.Kernel13Ideal.nD Cert.Kernel13Ideal.τ).loc Cert.Kernel13Ideal.main_arg29)
      ∧ m' ((c.tc : Thread Cert.Reference13Ideal.nD Cert.Reference13Ideal.τ).loc Cert.Reference13Ideal.main_arg30) = m ((c.tc : Thread Cert.Kernel13Ideal.nD Cert.Kernel13Ideal.τ).loc Cert.Kernel13Ideal.main_arg30)
      ∧ m' ((c.tc : Thread Cert.Reference13Ideal.nD Cert.Reference13Ideal.τ).loc Cert.Reference13Ideal.main_arg31) = m ((c.tc : Thread Cert.Kernel13Ideal.nD Cert.Kernel13Ideal.τ).loc Cert.Kernel13Ideal.main_arg31)
      ∧ m' ((c.tc : Thread Cert.Reference13Ideal.nD Cert.Reference13Ideal.τ).loc Cert.Reference13Ideal.main_arg32) = m ((c.tc : Thread Cert.Kernel13Ideal.nD Cert.Kernel13Ideal.τ).loc Cert.Kernel13Ideal.main_arg32)
      ∧ m' ((c.tc : Thread Cert.Reference13Ideal.nD Cert.Reference13Ideal.τ).loc Cert.Reference13Ideal.main_arg33) = m ((c.tc : Thread Cert.Kernel13Ideal.nD Cert.Kernel13Ideal.τ).loc Cert.Kernel13Ideal.main_arg33)
      ∧ m' ((c.tc : Thread Cert.Reference13Ideal.nD Cert.Reference13Ideal.τ).loc Cert.Reference13Ideal.main_arg34) = m ((c.tc : Thread Cert.Kernel13Ideal.nD Cert.Kernel13Ideal.τ).loc Cert.Kernel13Ideal.main_arg34)
      ∧ m' ((c.tc : Thread Cert.Reference13Ideal.nD Cert.Reference13Ideal.τ).loc Cert.Reference13Ideal.main_arg35) = m ((c.tc : Thread Cert.Kernel13Ideal.nD Cert.Kernel13Ideal.τ).loc Cert.Kernel13Ideal.main_arg35)
      ∧ m' ((c.tc : Thread Cert.Reference13Ideal.nD Cert.Reference13Ideal.τ).loc Cert.Reference13Ideal.main_arg36) = m ((c.tc : Thread Cert.Kernel13Ideal.nD Cert.Kernel13Ideal.τ).loc Cert.Kernel13Ideal.main_arg36)
      ∧ m' ((c.tc : Thread Cert.Reference13Ideal.nD Cert.Reference13Ideal.τ).loc Cert.Reference13Ideal.main_arg37) = m ((c.tc : Thread Cert.Kernel13Ideal.nD Cert.Kernel13Ideal.τ).loc Cert.Kernel13Ideal.main_arg37)
      ∧ m' ((c.tc : Thread Cert.Reference13Ideal.nD Cert.Reference13Ideal.τ).loc Cert.Reference13Ideal.main_arg38) = m ((c.tc : Thread Cert.Kernel13Ideal.nD Cert.Kernel13Ideal.τ).loc Cert.Kernel13Ideal.main_arg38)
      ∧ m' ((c.tc : Thread Cert.Reference13Ideal.nD Cert.Reference13Ideal.τ).loc Cert.Reference13Ideal.main_arg39) = m ((c.tc : Thread Cert.Kernel13Ideal.nD Cert.Kernel13Ideal.τ).loc Cert.Kernel13Ideal.main_arg39)
      ∧ m' ((c.tc : Thread Cert.Reference13Ideal.nD Cert.Reference13Ideal.τ).loc Cert.Reference13Ideal.main_arg40) = m ((c.tc : Thread Cert.Kernel13Ideal.nD Cert.Kernel13Ideal.τ).loc Cert.Kernel13Ideal.main_arg40)
      ∧ m' ((c.tc : Thread Cert.Reference13Ideal.nD Cert.Reference13Ideal.τ).loc Cert.Reference13Ideal.main_arg41) = m ((c.tc : Thread Cert.Kernel13Ideal.nD Cert.Kernel13Ideal.τ).loc Cert.Kernel13Ideal.main_arg41)
      ∧ m' ((c.tc : Thread Cert.Reference13Ideal.nD Cert.Reference13Ideal.τ).loc Cert.Reference13Ideal.main_arg42) = m ((c.tc : Thread Cert.Kernel13Ideal.nD Cert.Kernel13Ideal.τ).loc Cert.Kernel13Ideal.main_arg42)
      ∧ m' ((c.tc : Thread Cert.Reference13Ideal.nD Cert.Reference13Ideal.τ).loc Cert.Reference13Ideal.main_arg43) = m ((c.tc : Thread Cert.Kernel13Ideal.nD Cert.Kernel13Ideal.τ).loc Cert.Kernel13Ideal.main_arg43)
      ∧ m' ((c.tc : Thread Cert.Reference13Ideal.nD Cert.Reference13Ideal.τ).loc Cert.Reference13Ideal.main_arg44) = m ((c.tc : Thread Cert.Kernel13Ideal.nD Cert.Kernel13Ideal.τ).loc Cert.Kernel13Ideal.main_arg44)
      ∧ m' ((c.tc : Thread Cert.Reference13Ideal.nD Cert.Reference13Ideal.τ).loc Cert.Reference13Ideal.main_arg45) = m ((c.tc : Thread Cert.Kernel13Ideal.nD Cert.Kernel13Ideal.τ).loc Cert.Kernel13Ideal.main_arg45)
      ∧ m' ((c.tc : Thread Cert.Reference13Ideal.nD Cert.Reference13Ideal.τ).loc Cert.Reference13Ideal.main_arg46) = m ((c.tc : Thread Cert.Kernel13Ideal.nD Cert.Kernel13Ideal.τ).loc Cert.Kernel13Ideal.main_arg46)
      ∧ m' ((c.tc : Thread Cert.Reference13Ideal.nD Cert.Reference13Ideal.τ).loc Cert.Reference13Ideal.main_arg47) = m ((c.tc : Thread Cert.Kernel13Ideal.nD Cert.Kernel13Ideal.τ).loc Cert.Kernel13Ideal.main_arg47)) →
    ∃ (v0 : (c : Dev Cert.Kernel13Ideal.nD) → Buf (Elt Ideal) ((c.tc : Thread Cert.Kernel13Ideal.nD Cert.Kernel13Ideal.τ).loc Cert.Kernel13Ideal.main_v59)) (v1 : (c : Dev Cert.Kernel13Ideal.nD) → Buf (Elt Ideal) ((c.tc : Thread Cert.Kernel13Ideal.nD Cert.Kernel13Ideal.τ).loc Cert.Kernel13Ideal.main_v61)) (v2 : (c : Dev Cert.Kernel13Ideal.nD) → Buf (Elt Ideal) ((c.tc : Thread Cert.Kernel13Ideal.nD Cert.Kernel13Ideal.τ).loc Cert.Kernel13Ideal.main_v63)) (v3 : (c : Dev Cert.Kernel13Ideal.nD) → Buf (Elt Ideal) ((c.tc : Thread Cert.Kernel13Ideal.nD Cert.Kernel13Ideal.τ).loc Cert.Kernel13Ideal.main_v65)) (v4 : (c : Dev Cert.Kernel13Ideal.nD) → Buf (Elt Ideal) ((c.tc : Thread Cert.Kernel13Ideal.nD Cert.Kernel13Ideal.τ).loc Cert.Kernel13Ideal.main_v67)) (v5 : (c : Dev Cert.Kernel13Ideal.nD) → Buf (Elt Ideal) ((c.tc : Thread Cert.Kernel13Ideal.nD Cert.Kernel13Ideal.τ).loc Cert.Kernel13Ideal.main_v69)) (v6 : (c : Dev Cert.Kernel13Ideal.nD) → Buf (Elt Ideal) ((c.tc : Thread Cert.Kernel13Ideal.nD Cert.Kernel13Ideal.τ).loc Cert.Kernel13Ideal.main_v71)) (v7 : (c : Dev Cert.Kernel13Ideal.nD) → Buf (Elt Ideal) ((c.tc : Thread Cert.Kernel13Ideal.nD Cert.Kernel13Ideal.τ).loc Cert.Kernel13Ideal.main_v73)) (v8 : (c : Dev Cert.Kernel13Ideal.nD) → Buf (Elt Ideal) ((c.tc : Thread Cert.Kernel13Ideal.nD Cert.Kernel13Ideal.τ).loc Cert.Kernel13Ideal.main_v75)) (v9 : (c : Dev Cert.Kernel13Ideal.nD) → Buf (Elt Ideal) ((c.tc : Thread Cert.Kernel13Ideal.nD Cert.Kernel13Ideal.τ).loc Cert.Kernel13Ideal.main_v77)) (v10 : (c : Dev Cert.Kernel13Ideal.nD) → Buf (Elt Ideal) ((c.tc : Thread Cert.Kernel13Ideal.nD Cert.Kernel13Ideal.τ).loc Cert.Kernel13Ideal.main_v78)) (v11 : (c : Dev Cert.Kernel13Ideal.nD) → Buf (Elt Ideal) ((c.tc : Thread Cert.Kernel13Ideal.nD Cert.Kernel13Ideal.τ).loc Cert.Kernel13Ideal.main_v80)) (v12 : (c : Dev Cert.Kernel13Ideal.nD) → Buf (Elt Ideal) ((c.tc : Thread Cert.Kernel13Ideal.nD Cert.Kernel13Ideal.τ).loc Cert.Kernel13Ideal.main_v83)) (v13 : (c : Dev Cert.Kernel13Ideal.nD) → Buf (Elt Ideal) ((c.tc : Thread Cert.Kernel13Ideal.nD Cert.Kernel13Ideal.τ).loc Cert.Kernel13Ideal.main_v85)) (v14 : (c : Dev Cert.Kernel13Ideal.nD) → Buf (Elt Ideal) ((c.tc : Thread Cert.Kernel13Ideal.nD Cert.Kernel13Ideal.τ).loc Cert.Kernel13Ideal.main_v87)) (v15 : (c : Dev Cert.Kernel13Ideal.nD) → Buf (Elt Ideal) ((c.tc : Thread Cert.Kernel13Ideal.nD Cert.Kernel13Ideal.τ).loc Cert.Kernel13Ideal.main_v89)) (v16 : (c : Dev Cert.Kernel13Ideal.nD) → Buf (Elt Ideal) ((c.tc : Thread Cert.Kernel13Ideal.nD Cert.Kernel13Ideal.τ).loc Cert.Kernel13Ideal.main_v91)) (v17 : (c : Dev Cert.Kernel13Ideal.nD) → Buf (Elt Ideal) ((c.tc : Thread Cert.Kernel13Ideal.nD Cert.Kernel13Ideal.τ).loc Cert.Kernel13Ideal.main_v93)) (v18 : (c : Dev Cert.Kernel13Ideal.nD) → Buf (Elt Ideal) ((c.tc : Thread Cert.Kernel13Ideal.nD Cert.Kernel13Ideal.τ).loc Cert.Kernel13Ideal.main_v95)) (v19 : (c : Dev Cert.Kernel13Ideal.nD) → Buf (Elt Ideal) ((c.tc : Thread Cert.Kernel13Ideal.nD Cert.Kernel13Ideal.τ).loc Cert.Kernel13Ideal.main_v97)) (v20 : (c : Dev Cert.Kernel13Ideal.nD) → Buf (Elt Ideal) ((c.tc : Thread Cert.Kernel13Ideal.nD Cert.Kernel13Ideal.τ).loc Cert.Kernel13Ideal.main_v99)) (v21 : (c : Dev Cert.Kernel13Ideal.nD) → Buf (Elt Ideal) ((c.tc : Thread Cert.Kernel13Ideal.nD Cert.Kernel13Ideal.τ).loc Cert.Kernel13Ideal.main_v101)) (v22 : (c : Dev Cert.Kernel13Ideal.nD) → Buf (Elt Ideal) ((c.tc : Thread Cert.Kernel13Ideal.nD Cert.Kernel13Ideal.τ).loc Cert.Kernel13Ideal.main_v102)) (v23 : (c : Dev Cert.Kernel13Ideal.nD) → Buf (Elt Ideal) ((c.tc : Thread Cert.Kernel13Ideal.nD Cert.Kernel13Ideal.τ).loc Cert.Kernel13Ideal.main_v104)) (v24 : (c : Dev Cert.Kernel13Ideal.nD) → Buf (Elt Ideal) ((c.tc : Thread Cert.Kernel13Ideal.nD Cert.Kernel13Ideal.τ).loc Cert.Kernel13Ideal.main_v107)) (v25 : (c : Dev Cert.Kernel13Ideal.nD) → Buf (Elt Ideal) ((c.tc : Thread Cert.Kernel13Ideal.nD Cert.Kernel13Ideal.τ).loc Cert.Kernel13Ideal.main_v109)) (v26 : (c : Dev Cert.Kernel13Ideal.nD) → Buf (Elt Ideal) ((c.tc : Thread Cert.Kernel13Ideal.nD Cert.Kernel13Ideal.τ).loc Cert.Kernel13Ideal.main_v111)) (v27 : (c : Dev Cert.Kernel13Ideal.nD) → Buf (Elt Ideal) ((c.tc : Thread Cert.Kernel13Ideal.nD Cert.Kernel13Ideal.τ).loc Cert.Kernel13Ideal.main_v113)) (v28 : (c : Dev Cert.Kernel13Ideal.nD) → Buf (Elt Ideal) ((c.tc : Thread Cert.Kernel13Ideal.nD Cert.Kernel13Ideal.τ).loc Cert.Kernel13Ideal.main_v115)) (v29 : (c : Dev Cert.Kernel13Ideal.nD) → Buf (Elt Ideal) ((c.tc : Thread Cert.Kernel13Ideal.nD Cert.Kernel13Ideal.τ).loc Cert.Kernel13Ideal.main_v117)) (v30 : (c : Dev Cert.Kernel13Ideal.nD) → Buf (Elt Ideal) ((c.tc : Thread Cert.Kernel13Ideal.nD Cert.Kernel13Ideal.τ).loc Cert.Kernel13Ideal.main_v119)) (v31 : (c : Dev Cert.Kernel13Ideal.nD) → Buf (Elt Ideal) ((c.tc : Thread Cert.Kernel13Ideal.nD Cert.Kernel13Ideal.τ).loc Cert.Kernel13Ideal.main_v121)) (v32 : (c : Dev Cert.Kernel13Ideal.nD) → Buf (Elt Ideal) ((c.tc : Thread Cert.Kernel13Ideal.nD Cert.Kernel13Ideal.τ).loc Cert.Kernel13Ideal.main_v123)) (v33 : (c : Dev Cert.Kernel13Ideal.nD) → Buf (Elt Ideal) ((c.tc : Thread Cert.Kernel13Ideal.nD Cert.Kernel13Ideal.τ).loc Cert.Kernel13Ideal.main_v125)) (v34 : (c : Dev Cert.Kernel13Ideal.nD) → Buf (Elt Ideal) ((c.tc : Thread Cert.Kernel13Ideal.nD Cert.Kernel13Ideal.τ).loc Cert.Kernel13Ideal.main_v126)) (v35 : (c : Dev Cert.Kernel13Ideal.nD) → Buf (Elt Ideal) ((c.tc : Thread Cert.Kernel13Ideal.nD Cert.Kernel13Ideal.τ).loc Cert.Kernel13Ideal.main_v128)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v59) = v0 c
          ∧ r.2.mem ((c.tc : Thread Cert.Kernel13Ideal.nD Cert.Kernel13Ideal.τ).loc Cert.Kernel13Ideal.main_v61) = v1 c
          ∧ r.2.mem ((c.tc : Thread Cert.Kernel13Ideal.nD Cert.Kernel13Ideal.τ).loc Cert.Kernel13Ideal.main_v63) = v2 c
          ∧ r.2.mem ((c.tc : Thread Cert.Kernel13Ideal.nD Cert.Kernel13Ideal.τ).loc Cert.Kernel13Ideal.main_v65) = v3 c
          ∧ r.2.mem ((c.tc : Thread Cert.Kernel13Ideal.nD Cert.Kernel13Ideal.τ).loc Cert.Kernel13Ideal.main_v67) = v4 c
          ∧ r.2.mem ((c.tc : Thread Cert.Kernel13Ideal.nD Cert.Kernel13Ideal.τ).loc Cert.Kernel13Ideal.main_v69) = v5 c
          ∧ r.2.mem ((c.tc : Thread Cert.Kernel13Ideal.nD Cert.Kernel13Ideal.τ).loc Cert.Kernel13Ideal.main_v71) = v6 c
          ∧ r.2.mem ((c.tc : Thread Cert.Kernel13Ideal.nD Cert.Kernel13Ideal.τ).loc Cert.Kernel13Ideal.main_v73) = v7 c
          ∧ r.2.mem ((c.tc : Thread Cert.Kernel13Ideal.nD Cert.Kernel13Ideal.τ).loc Cert.Kernel13Ideal.main_v75) = v8 c
          ∧ r.2.mem ((c.tc : Thread Cert.Kernel13Ideal.nD Cert.Kernel13Ideal.τ).loc Cert.Kernel13Ideal.main_v77) = v9 c
          ∧ r.2.mem ((c.tc : Thread Cert.Kernel13Ideal.nD Cert.Kernel13Ideal.τ).loc Cert.Kernel13Ideal.main_v78) = v10 c
          ∧ r.2.mem ((c.tc : Thread Cert.Kernel13Ideal.nD Cert.Kernel13Ideal.τ).loc Cert.Kernel13Ideal.main_v80) = v11 c
          ∧ r.2.mem ((c.tc : Thread Cert.Kernel13Ideal.nD Cert.Kernel13Ideal.τ).loc Cert.Kernel13Ideal.main_v83) = v12 c
          ∧ r.2.mem ((c.tc : Thread Cert.Kernel13Ideal.nD Cert.Kernel13Ideal.τ).loc Cert.Kernel13Ideal.main_v85) = v13 c
          ∧ r.2.mem ((c.tc : Thread Cert.Kernel13Ideal.nD Cert.Kernel13Ideal.τ).loc Cert.Kernel13Ideal.main_v87) = v14 c
          ∧ r.2.mem ((c.tc : Thread Cert.Kernel13Ideal.nD Cert.Kernel13Ideal.τ).loc Cert.Kernel13Ideal.main_v89) = v15 c
          ∧ r.2.mem ((c.tc : Thread Cert.Kernel13Ideal.nD Cert.Kernel13Ideal.τ).loc Cert.Kernel13Ideal.main_v91) = v16 c
          ∧ r.2.mem ((c.tc : Thread Cert.Kernel13Ideal.nD Cert.Kernel13Ideal.τ).loc Cert.Kernel13Ideal.main_v93) = v17 c
          ∧ r.2.mem ((c.tc : Thread Cert.Kernel13Ideal.nD Cert.Kernel13Ideal.τ).loc Cert.Kernel13Ideal.main_v95) = v18 c
          ∧ r.2.mem ((c.tc : Thread Cert.Kernel13Ideal.nD Cert.Kernel13Ideal.τ).loc Cert.Kernel13Ideal.main_v97) = v19 c
          ∧ r.2.mem ((c.tc : Thread Cert.Kernel13Ideal.nD Cert.Kernel13Ideal.τ).loc Cert.Kernel13Ideal.main_v99) = v20 c
          ∧ r.2.mem ((c.tc : Thread Cert.Kernel13Ideal.nD Cert.Kernel13Ideal.τ).loc Cert.Kernel13Ideal.main_v101) = v21 c
          ∧ r.2.mem ((c.tc : Thread Cert.Kernel13Ideal.nD Cert.Kernel13Ideal.τ).loc Cert.Kernel13Ideal.main_v102) = v22 c
          ∧ r.2.mem ((c.tc : Thread Cert.Kernel13Ideal.nD Cert.Kernel13Ideal.τ).loc Cert.Kernel13Ideal.main_v104) = v23 c
          ∧ r.2.mem ((c.tc : Thread Cert.Kernel13Ideal.nD Cert.Kernel13Ideal.τ).loc Cert.Kernel13Ideal.main_v107) = v24 c
          ∧ r.2.mem ((c.tc : Thread Cert.Kernel13Ideal.nD Cert.Kernel13Ideal.τ).loc Cert.Kernel13Ideal.main_v109) = v25 c
          ∧ r.2.mem ((c.tc : Thread Cert.Kernel13Ideal.nD Cert.Kernel13Ideal.τ).loc Cert.Kernel13Ideal.main_v111) = v26 c
          ∧ r.2.mem ((c.tc : Thread Cert.Kernel13Ideal.nD Cert.Kernel13Ideal.τ).loc Cert.Kernel13Ideal.main_v113) = v27 c
          ∧ r.2.mem ((c.tc : Thread Cert.Kernel13Ideal.nD Cert.Kernel13Ideal.τ).loc Cert.Kernel13Ideal.main_v115) = v28 c
          ∧ r.2.mem ((c.tc : Thread Cert.Kernel13Ideal.nD Cert.Kernel13Ideal.τ).loc Cert.Kernel13Ideal.main_v117) = v29 c
          ∧ r.2.mem ((c.tc : Thread Cert.Kernel13Ideal.nD Cert.Kernel13Ideal.τ).loc Cert.Kernel13Ideal.main_v119) = v30 c
          ∧ r.2.mem ((c.tc : Thread Cert.Kernel13Ideal.nD Cert.Kernel13Ideal.τ).loc Cert.Kernel13Ideal.main_v121) = v31 c
          ∧ r.2.mem ((c.tc : Thread Cert.Kernel13Ideal.nD Cert.Kernel13Ideal.τ).loc Cert.Kernel13Ideal.main_v123) = v32 c
          ∧ r.2.mem ((c.tc : Thread Cert.Kernel13Ideal.nD Cert.Kernel13Ideal.τ).loc Cert.Kernel13Ideal.main_v125) = v33 c
          ∧ r.2.mem ((c.tc : Thread Cert.Kernel13Ideal.nD Cert.Kernel13Ideal.τ).loc Cert.Kernel13Ideal.main_v126) = v34 c
          ∧ r.2.mem ((c.tc : Thread Cert.Kernel13Ideal.nD Cert.Kernel13Ideal.τ).loc Cert.Kernel13Ideal.main_v128) = v35 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
          ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
          ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
          ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
          ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
          ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
          ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
          ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
          ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
          ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
          ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
          ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
          ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35)
          ∧ r.2.mem ((c.tc : Thread Cert.Kernel13Ideal.nD Cert.Kernel13Ideal.τ).loc Cert.Kernel13Ideal.main_arg36) = m ((c.tc : Thread Cert.Kernel13Ideal.nD Cert.Kernel13Ideal.τ).loc Cert.Kernel13Ideal.main_arg36)
          ∧ r.2.mem ((c.tc : Thread Cert.Kernel13Ideal.nD Cert.Kernel13Ideal.τ).loc Cert.Kernel13Ideal.main_arg37) = m ((c.tc : Thread Cert.Kernel13Ideal.nD Cert.Kernel13Ideal.τ).loc Cert.Kernel13Ideal.main_arg37)
          ∧ r.2.mem ((c.tc : Thread Cert.Kernel13Ideal.nD Cert.Kernel13Ideal.τ).loc Cert.Kernel13Ideal.main_arg38) = m ((c.tc : Thread Cert.Kernel13Ideal.nD Cert.Kernel13Ideal.τ).loc Cert.Kernel13Ideal.main_arg38)
          ∧ r.2.mem ((c.tc : Thread Cert.Kernel13Ideal.nD Cert.Kernel13Ideal.τ).loc Cert.Kernel13Ideal.main_arg39) = m ((c.tc : Thread Cert.Kernel13Ideal.nD Cert.Kernel13Ideal.τ).loc Cert.Kernel13Ideal.main_arg39)
          ∧ r.2.mem ((c.tc : Thread Cert.Kernel13Ideal.nD Cert.Kernel13Ideal.τ).loc Cert.Kernel13Ideal.main_arg40) = m ((c.tc : Thread Cert.Kernel13Ideal.nD Cert.Kernel13Ideal.τ).loc Cert.Kernel13Ideal.main_arg40)
          ∧ r.2.mem ((c.tc : Thread Cert.Kernel13Ideal.nD Cert.Kernel13Ideal.τ).loc Cert.Kernel13Ideal.main_arg41) = m ((c.tc : Thread Cert.Kernel13Ideal.nD Cert.Kernel13Ideal.τ).loc Cert.Kernel13Ideal.main_arg41)
          ∧ r.2.mem ((c.tc : Thread Cert.Kernel13Ideal.nD Cert.Kernel13Ideal.τ).loc Cert.Kernel13Ideal.main_arg42) = m ((c.tc : Thread Cert.Kernel13Ideal.nD Cert.Kernel13Ideal.τ).loc Cert.Kernel13Ideal.main_arg42)
          ∧ r.2.mem ((c.tc : Thread Cert.Kernel13Ideal.nD Cert.Kernel13Ideal.τ).loc Cert.Kernel13Ideal.main_arg43) = m ((c.tc : Thread Cert.Kernel13Ideal.nD Cert.Kernel13Ideal.τ).loc Cert.Kernel13Ideal.main_arg43)
          ∧ r.2.mem ((c.tc : Thread Cert.Kernel13Ideal.nD Cert.Kernel13Ideal.τ).loc Cert.Kernel13Ideal.main_arg44) = m ((c.tc : Thread Cert.Kernel13Ideal.nD Cert.Kernel13Ideal.τ).loc Cert.Kernel13Ideal.main_arg44)
          ∧ r.2.mem ((c.tc : Thread Cert.Kernel13Ideal.nD Cert.Kernel13Ideal.τ).loc Cert.Kernel13Ideal.main_arg45) = m ((c.tc : Thread Cert.Kernel13Ideal.nD Cert.Kernel13Ideal.τ).loc Cert.Kernel13Ideal.main_arg45)
          ∧ r.2.mem ((c.tc : Thread Cert.Kernel13Ideal.nD Cert.Kernel13Ideal.τ).loc Cert.Kernel13Ideal.main_arg46) = m ((c.tc : Thread Cert.Kernel13Ideal.nD Cert.Kernel13Ideal.τ).loc Cert.Kernel13Ideal.main_arg46)
          ∧ r.2.mem ((c.tc : Thread Cert.Kernel13Ideal.nD Cert.Kernel13Ideal.τ).loc Cert.Kernel13Ideal.main_arg47) = m ((c.tc : Thread Cert.Kernel13Ideal.nD Cert.Kernel13Ideal.τ).loc Cert.Kernel13Ideal.main_arg47))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v47) = v1 c
          ∧ r.2.mem ((c.tc : Thread Cert.Reference13Ideal.nD Cert.Reference13Ideal.τ).loc Cert.Reference13Ideal.main_v71) = v2 c
          ∧ r.2.mem ((c.tc : Thread Cert.Reference13Ideal.nD Cert.Reference13Ideal.τ).loc Cert.Reference13Ideal.main_v95) = v3 c
          ∧ r.2.mem ((c.tc : Thread Cert.Reference13Ideal.nD Cert.Reference13Ideal.τ).loc Cert.Reference13Ideal.main_v119) = v4 c
          ∧ r.2.mem ((c.tc : Thread Cert.Reference13Ideal.nD Cert.Reference13Ideal.τ).loc Cert.Reference13Ideal.main_v143) = v5 c
          ∧ r.2.mem ((c.tc : Thread Cert.Reference13Ideal.nD Cert.Reference13Ideal.τ).loc Cert.Reference13Ideal.main_v167) = v6 c
          ∧ r.2.mem ((c.tc : Thread Cert.Reference13Ideal.nD Cert.Reference13Ideal.τ).loc Cert.Reference13Ideal.main_v191) = v7 c
          ∧ r.2.mem ((c.tc : Thread Cert.Reference13Ideal.nD Cert.Reference13Ideal.τ).loc Cert.Reference13Ideal.main_v215) = v8 c
          ∧ r.2.mem ((c.tc : Thread Cert.Reference13Ideal.nD Cert.Reference13Ideal.τ).loc Cert.Reference13Ideal.main_v239) = v9 c
          ∧ r.2.mem ((c.tc : Thread Cert.Reference13Ideal.nD Cert.Reference13Ideal.τ).loc Cert.Reference13Ideal.main_v263) = v10 c
          ∧ r.2.mem ((c.tc : Thread Cert.Reference13Ideal.nD Cert.Reference13Ideal.τ).loc Cert.Reference13Ideal.main_v287) = v11 c
          ∧ r.2.mem ((c.tc : Thread Cert.Reference13Ideal.nD Cert.Reference13Ideal.τ).loc Cert.Reference13Ideal.main_v4) = v12 c
          ∧ r.2.mem ((c.tc : Thread Cert.Reference13Ideal.nD Cert.Reference13Ideal.τ).loc Cert.Reference13Ideal.main_v28) = v13 c
          ∧ r.2.mem ((c.tc : Thread Cert.Reference13Ideal.nD Cert.Reference13Ideal.τ).loc Cert.Reference13Ideal.main_v52) = v14 c
          ∧ r.2.mem ((c.tc : Thread Cert.Reference13Ideal.nD Cert.Reference13Ideal.τ).loc Cert.Reference13Ideal.main_v76) = v15 c
          ∧ r.2.mem ((c.tc : Thread Cert.Reference13Ideal.nD Cert.Reference13Ideal.τ).loc Cert.Reference13Ideal.main_v100) = v16 c
          ∧ r.2.mem ((c.tc : Thread Cert.Reference13Ideal.nD Cert.Reference13Ideal.τ).loc Cert.Reference13Ideal.main_v124) = v17 c
          ∧ r.2.mem ((c.tc : Thread Cert.Reference13Ideal.nD Cert.Reference13Ideal.τ).loc Cert.Reference13Ideal.main_v148) = v18 c
          ∧ r.2.mem ((c.tc : Thread Cert.Reference13Ideal.nD Cert.Reference13Ideal.τ).loc Cert.Reference13Ideal.main_v172) = v19 c
          ∧ r.2.mem ((c.tc : Thread Cert.Reference13Ideal.nD Cert.Reference13Ideal.τ).loc Cert.Reference13Ideal.main_v196) = v20 c
          ∧ r.2.mem ((c.tc : Thread Cert.Reference13Ideal.nD Cert.Reference13Ideal.τ).loc Cert.Reference13Ideal.main_v220) = v21 c
          ∧ r.2.mem ((c.tc : Thread Cert.Reference13Ideal.nD Cert.Reference13Ideal.τ).loc Cert.Reference13Ideal.main_v244) = v22 c
          ∧ r.2.mem ((c.tc : Thread Cert.Reference13Ideal.nD Cert.Reference13Ideal.τ).loc Cert.Reference13Ideal.main_v268) = v23 c
          ∧ r.2.mem ((c.tc : Thread Cert.Reference13Ideal.nD Cert.Reference13Ideal.τ).loc Cert.Reference13Ideal.main_v10) = v24 c
          ∧ r.2.mem ((c.tc : Thread Cert.Reference13Ideal.nD Cert.Reference13Ideal.τ).loc Cert.Reference13Ideal.main_v34) = v25 c
          ∧ r.2.mem ((c.tc : Thread Cert.Reference13Ideal.nD Cert.Reference13Ideal.τ).loc Cert.Reference13Ideal.main_v58) = v26 c
          ∧ r.2.mem ((c.tc : Thread Cert.Reference13Ideal.nD Cert.Reference13Ideal.τ).loc Cert.Reference13Ideal.main_v82) = v27 c
          ∧ r.2.mem ((c.tc : Thread Cert.Reference13Ideal.nD Cert.Reference13Ideal.τ).loc Cert.Reference13Ideal.main_v106) = v28 c
          ∧ r.2.mem ((c.tc : Thread Cert.Reference13Ideal.nD Cert.Reference13Ideal.τ).loc Cert.Reference13Ideal.main_v130) = v29 c
          ∧ r.2.mem ((c.tc : Thread Cert.Reference13Ideal.nD Cert.Reference13Ideal.τ).loc Cert.Reference13Ideal.main_v154) = v30 c
          ∧ r.2.mem ((c.tc : Thread Cert.Reference13Ideal.nD Cert.Reference13Ideal.τ).loc Cert.Reference13Ideal.main_v178) = v31 c
          ∧ r.2.mem ((c.tc : Thread Cert.Reference13Ideal.nD Cert.Reference13Ideal.τ).loc Cert.Reference13Ideal.main_v202) = v32 c
          ∧ r.2.mem ((c.tc : Thread Cert.Reference13Ideal.nD Cert.Reference13Ideal.τ).loc Cert.Reference13Ideal.main_v226) = v33 c
          ∧ r.2.mem ((c.tc : Thread Cert.Reference13Ideal.nD Cert.Reference13Ideal.τ).loc Cert.Reference13Ideal.main_v250) = v34 c
          ∧ r.2.mem ((c.tc : Thread Cert.Reference13Ideal.nD Cert.Reference13Ideal.τ).loc Cert.Reference13Ideal.main_v274) = v35 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23)
          ∧ r.2.mem ((c.tc : Thread Cert.Reference13Ideal.nD Cert.Reference13Ideal.τ).loc Cert.Reference13Ideal.main_arg24) = m' ((c.tc : Thread Cert.Reference13Ideal.nD Cert.Reference13Ideal.τ).loc Cert.Reference13Ideal.main_arg24)
          ∧ r.2.mem ((c.tc : Thread Cert.Reference13Ideal.nD Cert.Reference13Ideal.τ).loc Cert.Reference13Ideal.main_arg25) = m' ((c.tc : Thread Cert.Reference13Ideal.nD Cert.Reference13Ideal.τ).loc Cert.Reference13Ideal.main_arg25)
          ∧ r.2.mem ((c.tc : Thread Cert.Reference13Ideal.nD Cert.Reference13Ideal.τ).loc Cert.Reference13Ideal.main_arg26) = m' ((c.tc : Thread Cert.Reference13Ideal.nD Cert.Reference13Ideal.τ).loc Cert.Reference13Ideal.main_arg26)
          ∧ r.2.mem ((c.tc : Thread Cert.Reference13Ideal.nD Cert.Reference13Ideal.τ).loc Cert.Reference13Ideal.main_arg27) = m' ((c.tc : Thread Cert.Reference13Ideal.nD Cert.Reference13Ideal.τ).loc Cert.Reference13Ideal.main_arg27)
          ∧ r.2.mem ((c.tc : Thread Cert.Reference13Ideal.nD Cert.Reference13Ideal.τ).loc Cert.Reference13Ideal.main_arg28) = m' ((c.tc : Thread Cert.Reference13Ideal.nD Cert.Reference13Ideal.τ).loc Cert.Reference13Ideal.main_arg28)
          ∧ r.2.mem ((c.tc : Thread Cert.Reference13Ideal.nD Cert.Reference13Ideal.τ).loc Cert.Reference13Ideal.main_arg29) = m' ((c.tc : Thread Cert.Reference13Ideal.nD Cert.Reference13Ideal.τ).loc Cert.Reference13Ideal.main_arg29)
          ∧ r.2.mem ((c.tc : Thread Cert.Reference13Ideal.nD Cert.Reference13Ideal.τ).loc Cert.Reference13Ideal.main_arg30) = m' ((c.tc : Thread Cert.Reference13Ideal.nD Cert.Reference13Ideal.τ).loc Cert.Reference13Ideal.main_arg30)
          ∧ r.2.mem ((c.tc : Thread Cert.Reference13Ideal.nD Cert.Reference13Ideal.τ).loc Cert.Reference13Ideal.main_arg31) = m' ((c.tc : Thread Cert.Reference13Ideal.nD Cert.Reference13Ideal.τ).loc Cert.Reference13Ideal.main_arg31)
          ∧ r.2.mem ((c.tc : Thread Cert.Reference13Ideal.nD Cert.Reference13Ideal.τ).loc Cert.Reference13Ideal.main_arg32) = m' ((c.tc : Thread Cert.Reference13Ideal.nD Cert.Reference13Ideal.τ).loc Cert.Reference13Ideal.main_arg32)
          ∧ r.2.mem ((c.tc : Thread Cert.Reference13Ideal.nD Cert.Reference13Ideal.τ).loc Cert.Reference13Ideal.main_arg33) = m' ((c.tc : Thread Cert.Reference13Ideal.nD Cert.Reference13Ideal.τ).loc Cert.Reference13Ideal.main_arg33)
          ∧ r.2.mem ((c.tc : Thread Cert.Reference13Ideal.nD Cert.Reference13Ideal.τ).loc Cert.Reference13Ideal.main_arg34) = m' ((c.tc : Thread Cert.Reference13Ideal.nD Cert.Reference13Ideal.τ).loc Cert.Reference13Ideal.main_arg34)
          ∧ r.2.mem ((c.tc : Thread Cert.Reference13Ideal.nD Cert.Reference13Ideal.τ).loc Cert.Reference13Ideal.main_arg35) = m' ((c.tc : Thread Cert.Reference13Ideal.nD Cert.Reference13Ideal.τ).loc Cert.Reference13Ideal.main_arg35)
          ∧ r.2.mem ((c.tc : Thread Cert.Reference13Ideal.nD Cert.Reference13Ideal.τ).loc Cert.Reference13Ideal.main_arg36) = m' ((c.tc : Thread Cert.Reference13Ideal.nD Cert.Reference13Ideal.τ).loc Cert.Reference13Ideal.main_arg36)
          ∧ r.2.mem ((c.tc : Thread Cert.Reference13Ideal.nD Cert.Reference13Ideal.τ).loc Cert.Reference13Ideal.main_arg37) = m' ((c.tc : Thread Cert.Reference13Ideal.nD Cert.Reference13Ideal.τ).loc Cert.Reference13Ideal.main_arg37)
          ∧ r.2.mem ((c.tc : Thread Cert.Reference13Ideal.nD Cert.Reference13Ideal.τ).loc Cert.Reference13Ideal.main_arg38) = m' ((c.tc : Thread Cert.Reference13Ideal.nD Cert.Reference13Ideal.τ).loc Cert.Reference13Ideal.main_arg38)
          ∧ r.2.mem ((c.tc : Thread Cert.Reference13Ideal.nD Cert.Reference13Ideal.τ).loc Cert.Reference13Ideal.main_arg39) = m' ((c.tc : Thread Cert.Reference13Ideal.nD Cert.Reference13Ideal.τ).loc Cert.Reference13Ideal.main_arg39)
          ∧ r.2.mem ((c.tc : Thread Cert.Reference13Ideal.nD Cert.Reference13Ideal.τ).loc Cert.Reference13Ideal.main_arg40) = m' ((c.tc : Thread Cert.Reference13Ideal.nD Cert.Reference13Ideal.τ).loc Cert.Reference13Ideal.main_arg40)
          ∧ r.2.mem ((c.tc : Thread Cert.Reference13Ideal.nD Cert.Reference13Ideal.τ).loc Cert.Reference13Ideal.main_arg41) = m' ((c.tc : Thread Cert.Reference13Ideal.nD Cert.Reference13Ideal.τ).loc Cert.Reference13Ideal.main_arg41)
          ∧ r.2.mem ((c.tc : Thread Cert.Reference13Ideal.nD Cert.Reference13Ideal.τ).loc Cert.Reference13Ideal.main_arg42) = m' ((c.tc : Thread Cert.Reference13Ideal.nD Cert.Reference13Ideal.τ).loc Cert.Reference13Ideal.main_arg42)
          ∧ r.2.mem ((c.tc : Thread Cert.Reference13Ideal.nD Cert.Reference13Ideal.τ).loc Cert.Reference13Ideal.main_arg43) = m' ((c.tc : Thread Cert.Reference13Ideal.nD Cert.Reference13Ideal.τ).loc Cert.Reference13Ideal.main_arg43)
          ∧ r.2.mem ((c.tc : Thread Cert.Reference13Ideal.nD Cert.Reference13Ideal.τ).loc Cert.Reference13Ideal.main_arg44) = m' ((c.tc : Thread Cert.Reference13Ideal.nD Cert.Reference13Ideal.τ).loc Cert.Reference13Ideal.main_arg44)
          ∧ r.2.mem ((c.tc : Thread Cert.Reference13Ideal.nD Cert.Reference13Ideal.τ).loc Cert.Reference13Ideal.main_arg45) = m' ((c.tc : Thread Cert.Reference13Ideal.nD Cert.Reference13Ideal.τ).loc Cert.Reference13Ideal.main_arg45)
          ∧ r.2.mem ((c.tc : Thread Cert.Reference13Ideal.nD Cert.Reference13Ideal.τ).loc Cert.Reference13Ideal.main_arg46) = m' ((c.tc : Thread Cert.Reference13Ideal.nD Cert.Reference13Ideal.τ).loc Cert.Reference13Ideal.main_arg46)
          ∧ r.2.mem ((c.tc : Thread Cert.Reference13Ideal.nD Cert.Reference13Ideal.τ).loc Cert.Reference13Ideal.main_arg47) = m' ((c.tc : Thread Cert.Reference13Ideal.nD Cert.Reference13Ideal.τ).loc Cert.Reference13Ideal.main_arg47))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S7x4096x2048 : Shape := ⟨3, ![7, 4096, 2048]⟩
abbrev S2x4096x2048 : Shape := ⟨3, ![2, 4096, 2048]⟩
abbrev S16x512x1024 : Shape := ⟨3, ![16, 512, 1024]⟩
abbrev S1x4096x2048 : Shape := ⟨3, ![1, 4096, 2048]⟩
abbrev S4096x2048 : Shape := ⟨2, ![4096, 2048]⟩
abbrev S_ : Shape := ⟨0, ![]⟩

class Facts : Prop where
  slices_S7x4096x2048_S1x4096x2048_0_0_0 : S7x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S7x4096x2048_S1x4096x2048_1_0_0 : S7x4096x2048.Slices ![1, 0, 0] S1x4096x2048
  bcast_S_S16x512x1024 : S_.BroadcastsInDim S16x512x1024 (![] : Fin 0 → Fin S16x512x1024.rank)

variable [Facts]

def fn {F : FTy → Type} [FloatOps F] (main_arg0 : FVec F S7x4096x2048 .bf16) (main_arg1 : FVec F S7x4096x2048 .bf16) (main_arg2 : FVec F S2x4096x2048 .bf16) (main_arg3 : FVec F S16x512x1024 .f32) : IVec S4096x2048 1 × IVec S4096x2048 1 × IVec S16x512x1024 1 :=
  let main_v0 : FVec F S1x4096x2048 .bf16 := (extractStridedSlice S1x4096x2048 ![0, 0, 0] · slices_S7x4096x2048_S1x4096x2048_0_0_0) main_arg1
  let main_v1 : FVec F S4096x2048 .bf16 := shapeCast S4096x2048 main_v0 shapeCasts_S1x4096x2048_S4096x2048
  let main_v2 : FVec F S4096x2048 .bf16 := Host.absf main_v1
  let main_cst : FVec F S_ .bf16 := constant S_ .bf16 0x7F80#16
  let main_v3 : FVec F S4096x2048 .bf16 := broadcastInDim S4096x2048 ![] bcast_S_S4096x2048 main_cst
  let main_v4 : IVec S4096x2048 1 := cmpf .olt main_v2 main_v3
  let main_v5 : FVec F S1x4096x2048 .bf16 := (extractStridedSlice S1x4096x2048 ![1, 0, 0] · slices_S7x4096x2048_S1x4096x2048_1_0_0) main_arg1
  let main_v6 : FVec F S4096x2048 .bf16 := shapeCast S4096x2048 main_v5 shapeCasts_S1x4096x2048_S4096x2048
  let main_v7 : FVec F S4096x2048 .bf16 := Host.absf main_v6
  let main_cst_0 : FVec F S_ .bf16 := constant S_ .bf16 0x7F80#16
  let main_v8 : FVec F S4096x2048 .bf16 := broadcastInDim S4096x2048 ![] bcast_S_S4096x2048 main_cst_0
  let main_v9 : IVec S4096x2048 1 := cmpf .olt main_v7 main_v8
  let main_v10 : FVec F S16x512x1024 .f32 := Host.absf main_arg3
  let main_cst_1 : FVec F S_ .f32 := constant S_ .f32 0x7F800000#32
  let main_v11 : FVec F S16x512x1024 .f32 := broadcastInDim S16x512x1024 ![] bcast_S_S16x512x1024 main_cst_1
  let main_v12 : IVec S16x512x1024 1 := cmpf .olt main_v10 main_v11
  (main_v4, main_v9, main_v12)
-- ==== Kernel.lean ====
abbrev S7x4096x2048 : Shape := ⟨3, ![7, 4096, 2048]⟩
abbrev S2x4096x2048 : Shape := ⟨3, ![2, 4096, 2048]⟩
abbrev S16x512x1024 : Shape := ⟨3, ![16, 512, 1024]⟩
abbrev S8 : Shape := ⟨1, ![8]⟩
abbrev S8x1x1 : Shape := ⟨3, ![8, 1, 1]⟩
abbrev S_ : Shape := ⟨0, ![]⟩
abbrev S1024 : Shape := ⟨1, ![1024]⟩
abbrev S1x1x1024 : Shape := ⟨3, ![1, 1, 1024]⟩
abbrev S8x1x1024 : Shape := ⟨3, ![8, 1, 1024]⟩
abbrev S8x64x1024 : Shape := ⟨3, ![8, 64, 1024]⟩
abbrev S512x1024 : Shape := ⟨2, ![512, 1024]⟩
abbrev S1x512x1024 : Shape := ⟨3, ![1, 512, 1024]⟩
abbrev S1x512x128 : Shape := ⟨3, ![1, 512, 128]⟩
abbrev S3x512x128 : Shape := ⟨3, ![3, 512, 128]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S7x4096x2048, .bf16⟩
  | .hbm, ⟨1, _⟩ => ⟨S7x4096x2048, .bf16⟩
  | .hbm, ⟨2, _⟩ => ⟨S2x4096x2048, .bf16⟩
  | .hbm, ⟨3, _⟩ => ⟨S16x512x1024, .f32⟩
  | .hbm, ⟨4, _⟩ => ⟨S8, .i32⟩
  | .hbm, ⟨5, _⟩ => ⟨S8x1x1, .i32⟩
  | .hbm, ⟨6, _⟩ => ⟨S_, .i32⟩
  | .hbm, ⟨7, _⟩ => ⟨S8x1x1, .i32⟩
  | .hbm, ⟨8, _⟩ => ⟨S8x1x1, .i32⟩
  | .hbm, ⟨9, _⟩ => ⟨S1024, .i32⟩
  | .hbm, ⟨10, _⟩ => ⟨S1x1x1024, .i32⟩
  | .hbm, ⟨11, _⟩ => ⟨S8x1x1024, .i32⟩
  | .hbm, ⟨12, _⟩ => ⟨S8x1x1024, .i32⟩
  | .hbm, ⟨13, _⟩ => ⟨S8x1x1024, .i1⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S8x1x1024, .i32⟩
  | .hbm, ⟨18, _⟩ => ⟨S8x1x1024, .i32⟩
  | .hbm, ⟨19, _⟩ => ⟨S8x1x1024, .i1⟩
  | .hbm, ⟨20, _⟩ => ⟨S8x1x1024, .i1⟩
  | .hbm, ⟨21, _⟩ => ⟨S8x64x1024, .i1⟩
  | .hbm, ⟨22, _⟩ => ⟨S512x1024, .i1⟩
  | .hbm, ⟨23, _⟩ => ⟨S1x512x1024, .i1⟩
  | .hbm, ⟨24, _⟩ => ⟨S_, .f32⟩
  | .hbm, ⟨25, _⟩ => ⟨S_, .f32⟩
  | .hbm, ⟨26, _⟩ => ⟨S16x512x1024, .i1⟩
  | .hbm, ⟨27, _⟩ => ⟨S16x512x1024, .f32⟩
  | .hbm, ⟨28, _⟩ => ⟨S16x512x1024, .f32⟩
  | .hbm, ⟨29, _⟩ => ⟨S7x4096x2048, .bf16⟩
  | .hbm, ⟨30, _⟩ => ⟨S16x512x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x128, .bf16⟩
  | .local _ .vmem, ⟨13, _⟩ => ⟨S1x512x128, .bf16⟩
  | .local _ .vmem, ⟨14, _⟩ => ⟨S3x512x128, .bf16⟩
  | .local _ .vmem, ⟨15, _⟩ => ⟨S3x512x128, .bf16⟩
  | .local _ .vmem, ⟨16, _⟩ => ⟨S1x512x1024, .f32⟩
  | .local _ .vmem, ⟨17, _⟩ => ⟨S1x512x1024, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | _, _ => ⟨S7x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond4 (i : grid0.Coords) : BitVec 1 :=
  let arg1 : BitVec 32 := BitVec.ofNat 32 (i 1).val
  let c0_i32_51 : BitVec 32 := 0#32
  let v92 : BitVec 1 := Scalar.cmpi .sgt arg1 c0_i32_51
  let v93 : BitVec 32 := Scalar.extui v92
  let c0_i32_52 : BitVec 32 := 0#32
  let v94 : BitVec 1 := Scalar.cmpi .ne v93 c0_i32_52
  v94

def k0_cond5 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c0_i32_39 : BitVec 32 := 0#32
  let v71 : BitVec 1 := Scalar.cmpi .eq arg1 c0_i32_39
  let v72 : BitVec 32 := Scalar.extui v71
  let c0_i32_40 : BitVec 32 := 0#32
  let v73 : BitVec 1 := Scalar.cmpi .ne v72 c0_i32_40
  v73

def k0_cond3 (i : grid0.Coords) : BitVec 1 :=
  let arg1 : BitVec 32 := BitVec.ofNat 32 (i 1).val
  let c0_i32_41 : BitVec 32 := 0#32
  let v74 : BitVec 1 := Scalar.cmpi .sgt arg1 c0_i32_41
  let v75 : BitVec 32 := Scalar.extui v74
  let c0_i32_42 : BitVec 32 := 0#32
  let v76 : BitVec 1 := Scalar.cmpi .ne v75 c0_i32_42
  v76

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let c0_i32 : BitVec 32 := 0#32
  ![c1_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c2_i32 : BitVec 32 := 2#32
  let c0_i32 : BitVec 32 := 0#32
  ![c2_i32.toNat, v0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S7x4096x2048 : Shape := ⟨3, ![7, 4096, 2048]⟩
abbrev S2x4096x2048 : Shape := ⟨3, ![2, 4096, 2048]⟩
abbrev S16x512x1024 : Shape := ⟨3, ![16, 512, 1024]⟩
abbrev S1x4096x2048 : Shape := ⟨3, ![1, 4096, 2048]⟩
abbrev S4096x2048 : Shape := ⟨2, ![4096, 2048]⟩
abbrev S1x4096x16x128 : Shape := ⟨4, ![1, 4096, 16, 128]⟩
abbrev S_ : Shape := ⟨0, ![]⟩
abbrev S1x64x64x16x128 : Shape := ⟨5, ![1, 64, 64, 16, 128]⟩
abbrev S1x512x16x128 : Shape := ⟨4, ![1, 512, 16, 128]⟩
abbrev S1x4608x16x128 : Shape := ⟨4, ![1, 4608, 16, 128]⟩
abbrev S1x72x64x16x128 : Shape := ⟨5, ![1, 72, 64, 16, 128]⟩
abbrev S1x64x576x16x128 : Shape := ⟨5, ![1, 64, 576, 16, 128]⟩
abbrev S1x16x64x64x576 : Shape := ⟨5, ![1, 16, 64, 64, 576]⟩
abbrev S16x64x576 : Shape := ⟨3, ![16, 64, 576]⟩
abbrev S16x1x64x576 : Shape := ⟨4, ![16, 1, 64, 576]⟩
abbrev S16x8x64x576 : Shape := ⟨4, ![16, 8, 64, 576]⟩
abbrev S16x1x8x64x576 : Shape := ⟨5, ![16, 1, 8, 64, 576]⟩
abbrev S16x8x8x64x576 : Shape := ⟨5, ![16, 8, 8, 64, 576]⟩
abbrev S16x64x64x576 : Shape := ⟨4, ![16, 64, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S1x1x64x1x576 : Shape := ⟨5, ![1, 1, 64, 1, 576]⟩
abbrev S1x16x64x64 : Shape := ⟨4, ![1, 16, 64, 64]⟩
abbrev S1x16x64x64x1 : Shape := ⟨5, ![1, 16, 64, 64, 1]⟩
abbrev S1x64x16x128x64 : Shape := ⟨5, ![1, 64, 16, 128, 64]⟩
abbrev S1x64x16x64x576 : Shape := ⟨5, ![1, 64, 16, 64, 576]⟩
abbrev S1x64x16x128x576 : Shape := ⟨5, ![1, 64, 16, 128, 576]⟩
abbrev S16x64x64 : Shape := ⟨3, ![16, 64, 64]⟩
abbrev S1x16x64x576x128 : Shape := ⟨5, ![1, 16, 64, 576, 128]⟩
abbrev S1x16x64x64x128 : Shape := ⟨5, ![1, 16, 64, 64, 128]⟩
abbrev S4x4096x2048 : Shape := ⟨3, ![4, 4096, 2048]⟩

abbrev nBuf : Space → Nat
  | .hbm => 309
  | .vmem => 0
  | .smem => 0
  | _ => 0

abbrev hbmTy0_0 (i : Nat) : BufTy := match i % 128 with
  | 0 => ⟨S7x4096x2048, .bf16⟩
  | 1 => ⟨S7x4096x2048, .bf16⟩
  | 2 => ⟨S2x4096x2048, .bf16⟩
  | 3 => ⟨S16x512x1024, .f32⟩
  | 4 => ⟨S1x4096x2048, .bf16⟩
  | 5 => ⟨S4096x2048, .bf16⟩
  | 6 => ⟨S4096x2048, .f32⟩
  | 7 => ⟨S1x4096x2048, .f32⟩
  | 8 => ⟨S1x4096x2048, .bf16⟩
  | 9 => ⟨S4096x2048, .bf16⟩
  | 10 => ⟨S4096x2048, .f32⟩
  | 11 => ⟨S1x4096x2048, .f32⟩
  | 12 => ⟨S1x4096x2048, .bf16⟩
  | 13 => ⟨S4096x2048, .bf16⟩
  | 14 => ⟨S4096x2048, .f32⟩
  | 15 => ⟨S1x4096x2048, .f32⟩
  | 16 => ⟨S1x4096x16x128, .f32⟩
  | 17 => ⟨S1x4096x16x128, .f32⟩
  | 18 => ⟨S1x4096x16x128, .f32⟩
  | 19 => ⟨S_, .f32⟩
  | 20 => ⟨S1x4096x16x128, .f32⟩
  | 21 => ⟨S1x4096x16x128, .f32⟩
  | 22 => ⟨S1x64x64x16x128, .f32⟩
  | 23 => ⟨S_, .f32⟩
  | 24 => ⟨S1x512x16x128, .f32⟩
  | 25 => ⟨S1x4608x16x128, .f32⟩
  | 26 => ⟨S_, .f32⟩
  | 27 => ⟨S1x512x16x128, .f32⟩
  | 28 => ⟨S1x72x64x16x128, .f32⟩
  | 29 => ⟨S1x64x64x16x128, .f32⟩
  | 30 => ⟨S1x64x64x16x128, .f32⟩
  | 31 => ⟨S1x64x64x16x128, .f32⟩
  | 32 => ⟨S1x64x64x16x128, .f32⟩
  | 33 => ⟨S1x64x64x16x128, .f32⟩
  | 34 => ⟨S1x64x64x16x128, .f32⟩
  | 35 => ⟨S1x64x64x16x128, .f32⟩
  | 36 => ⟨S1x64x64x16x128, .f32⟩
  | 37 => ⟨S1x64x64x16x128, .f32⟩
  | 38 => ⟨S1x64x576x16x128, .f32⟩
  | 39 => ⟨S1x16x64x64x576, .f32⟩
  | 40 => ⟨S16x64x576, .f32⟩
  | 41 => ⟨S16x64x576, .f32⟩
  | 42 => ⟨S16x64x576, .f32⟩
  | 43 => ⟨S16x64x576, .f32⟩
  | 44 => ⟨S16x64x576, .f32⟩
  | 45 => ⟨S16x64x576, .f32⟩
  | 46 => ⟨S16x64x576, .f32⟩
  | 47 => ⟨S16x64x576, .f32⟩
  | 48 => ⟨S16x1x64x576, .f32⟩
  | 49 => ⟨S16x1x64x576, .f32⟩
  | 50 => ⟨S16x1x64x576, .f32⟩
  | 51 => ⟨S16x1x64x576, .f32⟩
  | 52 => ⟨S16x1x64x576, .f32⟩
  | 53 => ⟨S16x1x64x576, .f32⟩
  | 54 => ⟨S16x1x64x576, .f32⟩
  | 55 => ⟨S16x1x64x576, .f32⟩
  | 56 => ⟨S16x8x64x576, .f32⟩
  | 57 => ⟨S16x1x8x64x576, .f32⟩
  | 58 => ⟨S16x8x8x64x576, .f32⟩
  | 59 => ⟨S16x64x64x576, .f32⟩
  | 60 => ⟨S1x16x64x64x576, .f32⟩
  | 61 => ⟨S1x16x64x64x576, .f32⟩
  | 62 => ⟨S64, .i32⟩
  | 63 => ⟨S64x1, .i32⟩
  | 64 => ⟨S576, .i32⟩
  | 65 => ⟨S1x576, .i32⟩
  | 66 => ⟨S_, .i32⟩
  | 67 => ⟨S64x1, .i32⟩
  | 68 => ⟨S64x1, .i32⟩
  | 69 => ⟨S_, .i32⟩
  | 70 => ⟨S64x1, .i32⟩
  | 71 => ⟨S64x1, .i32⟩
  | 72 => ⟨S64x576, .i32⟩
  | 73 => ⟨S64x576, .i32⟩
  | 74 => ⟨S64x576, .i32⟩
  | 75 => ⟨S_, .i32⟩
  | 76 => ⟨S64x576, .i32⟩
  | 77 => ⟨S64x576, .i1⟩
  | 78 => ⟨S1x1x64x1x576, .i1⟩
  | 79 => ⟨S_, .f32⟩
  | 80 => ⟨S_, .f32⟩
  | 81 => ⟨S1x16x64x64x576, .i1⟩
  | 82 => ⟨S1x16x64x64x576, .f32⟩
  | 83 => ⟨S1x16x64x64x576, .f32⟩
  | 84 => ⟨S_, .f32⟩
  | 85 => ⟨S1x16x64x64x576, .f32⟩
  | 86 => ⟨S_, .f32⟩
  | 87 => ⟨S1x16x64x64, .f32⟩
  | 88 => ⟨S1x16x64x64x1, .f32⟩
  | 89 => ⟨S1x16x64x64x576, .f32⟩
  | 90 => ⟨S1x16x64x64x576, .i1⟩
  | 91 => ⟨S1x16x64x64x576, .f32⟩
  | 92 => ⟨S_, .f32⟩
  | 93 => ⟨S1x16x64x64, .f32⟩
  | 94 => ⟨S_, .f32⟩
  | 95 => ⟨S1x16x64x64, .f32⟩
  | 96 => ⟨S1x16x64x64, .f32⟩
  | 97 => ⟨S_, .f32⟩
  | 98 => ⟨S1x16x64x64, .f32⟩
  | 99 => ⟨S1x16x64x64, .i1⟩
  | 100 => ⟨S_, .f32⟩
  | 101 => ⟨S1x16x64x64, .f32⟩
  | 102 => ⟨S1x16x64x64, .i1⟩
  | 103 => ⟨S_, .f32⟩
  | 104 => ⟨S1x16x64x64, .f32⟩
  | 105 => ⟨S_, .f32⟩
  | 106 => ⟨S1x16x64x64, .f32⟩
  | 107 => ⟨S_, .f32⟩
  | 108 => ⟨S1x16x64x64, .f32⟩
  | 109 => ⟨S1x16x64x64, .f32⟩
  | 110 => ⟨S1x16x64x64, .f32⟩
  | 111 => ⟨S1x16x64x64x1, .f32⟩
  | 112 => ⟨S1x16x64x64x576, .f32⟩
  | 113 => ⟨S1x16x64x64x576, .f32⟩
  | 114 => ⟨S1x16x64x64x576, .f32⟩
  | 115 => ⟨S_, .f32⟩
  | 116 => ⟨S1x16x64x64, .f32⟩
  | 117 => ⟨S1x16x64x64x1, .f32⟩
  | 118 => ⟨S1x16x64x64x576, .f32⟩
  | 119 => ⟨S1x16x64x64x576, .f32⟩
  | 120 => ⟨S1x16x64x64x1, .f32⟩
  | 121 => ⟨S_, .f32⟩
  | 122 => ⟨S1x16x64x64x1, .f32⟩
  | 123 => ⟨S1x16x64x64x1, .f32⟩
  | 124 => ⟨S_, .f32⟩
  | 125 => ⟨S1x512x16x128, .f32⟩
  | 126 => ⟨S1x4608x16x128, .f32⟩
  | 127 => ⟨S_, .f32⟩
  | _ => ⟨S7x4096x2048, .bf16⟩

abbrev hbmTy0_1 (i : Nat) : BufTy := match i % 128 with
  | 0 => ⟨S1x512x16x128, .f32⟩
  | 1 => ⟨S1x72x64x16x128, .f32⟩
  | 2 => ⟨S1x64x64x16x128, .f32⟩
  | 3 => ⟨S1x64x64x16x128, .f32⟩
  | 4 => ⟨S1x64x64x16x128, .f32⟩
  | 5 => ⟨S1x64x64x16x128, .f32⟩
  | 6 => ⟨S1x64x64x16x128, .f32⟩
  | 7 => ⟨S1x64x64x16x128, .f32⟩
  | 8 => ⟨S1x64x64x16x128, .f32⟩
  | 9 => ⟨S1x64x64x16x128, .f32⟩
  | 10 => ⟨S1x64x64x16x128, .f32⟩
  | 11 => ⟨S1x64x576x16x128, .f32⟩
  | 12 => ⟨S1x64x16x128x64, .f32⟩
  | 13 => ⟨S1x64x64x16x128, .f32⟩
  | 14 => ⟨S1x4096x2048, .f32⟩
  | 15 => ⟨S1x4096x2048, .bf16⟩
  | 16 => ⟨S4096x2048, .bf16⟩
  | 17 => ⟨S4096x2048, .f32⟩
  | 18 => ⟨S1x4096x2048, .f32⟩
  | 19 => ⟨S1x64x64x16x128, .f32⟩
  | 20 => ⟨S1x64x16x128x64, .f32⟩
  | 21 => ⟨S1x64x16x64x576, .f32⟩
  | 22 => ⟨S1x16x64x64x576, .f32⟩
  | 23 => ⟨S1x64x16x128x576, .f32⟩
  | 24 => ⟨S1x64x576x16x128, .f32⟩
  | 25 => ⟨S1x64x64x16x128, .f32⟩
  | 26 => ⟨S1x64x64x16x128, .f32⟩
  | 27 => ⟨S1x64x64x16x128, .f32⟩
  | 28 => ⟨S1x64x64x16x128, .f32⟩
  | 29 => ⟨S1x64x64x16x128, .f32⟩
  | 30 => ⟨S1x64x64x16x128, .f32⟩
  | 31 => ⟨S1x64x64x16x128, .f32⟩
  | 32 => ⟨S1x64x64x16x128, .f32⟩
  | 33 => ⟨S1x64x64x16x128, .f32⟩
  | 34 => ⟨S_, .f32⟩
  | 35 => ⟨S1x72x64x16x128, .f32⟩
  | 36 => ⟨S_, .f32⟩
  | 37 => ⟨S1x72x64x16x128, .f32⟩
  | 38 => ⟨S1x72x64x16x128, .f32⟩
  | 39 => ⟨S_, .f32⟩
  | 40 => ⟨S1x72x64x16x128, .f32⟩
  | 41 => ⟨S1x72x64x16x128, .f32⟩
  | 42 => ⟨S_, .f32⟩
  | 43 => ⟨S1x72x64x16x128, .f32⟩
  | 44 => ⟨S1x72x64x16x128, .f32⟩
  | 45 => ⟨S_, .f32⟩
  | 46 => ⟨S1x72x64x16x128, .f32⟩
  | 47 => ⟨S1x72x64x16x128, .f32⟩
  | 48 => ⟨S_, .f32⟩
  | 49 => ⟨S1x72x64x16x128, .f32⟩
  | 50 => ⟨S1x72x64x16x128, .f32⟩
  | 51 => ⟨S_, .f32⟩
  | 52 => ⟨S1x72x64x16x128, .f32⟩
  | 53 => ⟨S1x72x64x16x128, .f32⟩
  | 54 => ⟨S_, .f32⟩
  | 55 => ⟨S1x72x64x16x128, .f32⟩
  | 56 => ⟨S1x72x64x16x128, .f32⟩
  | 57 => ⟨S_, .f32⟩
  | 58 => ⟨S1x72x64x16x128, .f32⟩
  | 59 => ⟨S1x72x64x16x128, .f32⟩
  | 60 => ⟨S1x4608x16x128, .f32⟩
  | 61 => ⟨S1x512x16x128, .f32⟩
  | 62 => ⟨S1x4096x16x128, .f32⟩
  | 63 => ⟨S1x16x64x64x576, .f32⟩
  | 64 => ⟨S1x16x64x64x576, .f32⟩
  | 65 => ⟨S1x16x64x64x576, .f32⟩
  | 66 => ⟨S_, .f32⟩
  | 67 => ⟨S1x16x64x64, .f32⟩
  | 68 => ⟨S1x16x64x64x1, .f32⟩
  | 69 => ⟨S1x16x64x64x1, .f32⟩
  | 70 => ⟨S1x16x64x64x576, .f32⟩
  | 71 => ⟨S1x16x64x64x576, .f32⟩
  | 72 => ⟨S_, .f32⟩
  | 73 => ⟨S16x64x64, .f32⟩
  | 74 => ⟨S1x16x64x64, .f32⟩
  | 75 => ⟨S1x16x64x64x576, .f32⟩
  | 76 => ⟨S1x16x64x64x576, .f32⟩
  | 77 => ⟨S1x16x64x64x576, .f32⟩
  | 78 => ⟨S_, .f32⟩
  | 79 => ⟨S1x16x64x64x576, .f32⟩
  | 80 => ⟨S1x16x64x64x576, .f32⟩
  | 81 => ⟨S_, .f32⟩
  | 82 => ⟨S16x64x64x576, .f32⟩
  | 83 => ⟨S16x8x8x64x576, .f32⟩
  | 84 => ⟨S_, .f32⟩
  | 85 => ⟨S16x8x64x576, .f32⟩
  | 86 => ⟨S16x1x8x64x576, .f32⟩
  | 87 => ⟨S_, .f32⟩
  | 88 => ⟨S16x8x64x576, .f32⟩
  | 89 => ⟨S16x1x64x576, .f32⟩
  | 90 => ⟨S16x64x576, .f32⟩
  | 91 => ⟨S16x1x64x576, .f32⟩
  | 92 => ⟨S16x64x576, .f32⟩
  | 93 => ⟨S16x1x64x576, .f32⟩
  | 94 => ⟨S16x64x576, .f32⟩
  | 95 => ⟨S16x1x64x576, .f32⟩
  | 96 => ⟨S16x64x576, .f32⟩
  | 97 => ⟨S16x1x64x576, .f32⟩
  | 98 => ⟨S16x64x576, .f32⟩
  | 99 => ⟨S16x1x64x576, .f32⟩
  | 100 => ⟨S16x64x576, .f32⟩
  | 101 => ⟨S16x1x64x576, .f32⟩
  | 102 => ⟨S16x64x576, .f32⟩
  | 103 => ⟨S16x1x64x576, .f32⟩
  | 104 => ⟨S16x64x576, .f32⟩
  | 105 => ⟨S_, .f32⟩
  | 106 => ⟨S16x512x1024, .f32⟩
  | 107 => ⟨S_, .f32⟩
  | 108 => ⟨S16x512x1024, .f32⟩
  | 109 => ⟨S16x512x1024, .f32⟩
  | 110 => ⟨S_, .f32⟩
  | 111 => ⟨S16x512x1024, .f32⟩
  | 112 => ⟨S16x512x1024, .f32⟩
  | 113 => ⟨S_, .f32⟩
  | 114 => ⟨S16x512x1024, .f32⟩
  | 115 => ⟨S16x512x1024, .f32⟩
  | 116 => ⟨S_, .f32⟩
  | 117 => ⟨S16x512x1024, .f32⟩
  | 118 => ⟨S16x512x1024, .f32⟩
  | 119 => ⟨S_, .f32⟩
  | 120 => ⟨S16x512x1024, .f32⟩
  | 121 => ⟨S16x512x1024, .f32⟩
  | 122 => ⟨S_, .f32⟩
  | 123 => ⟨S16x512x1024, .f32⟩
  | 124 => ⟨S16x512x1024, .f32⟩
  | 125 => ⟨S_, .f32⟩
  | 126 => ⟨S16x512x1024, .f32⟩
  | 127 => ⟨S16x512x1024, .f32⟩
  | _ => ⟨S7x4096x2048, .bf16⟩

abbrev hbmTy0_2 (i : Nat) : BufTy := match i % 128 with
  | 0 => ⟨S1x16x64x576x128, .f32⟩
  | 1 => ⟨S1x64x576x16x128, .f32⟩
  | 2 => ⟨S1x16x64x64x128, .f32⟩
  | 3 => ⟨S1x64x64x16x128, .f32⟩
  | 4 => ⟨S1x64x64x16x128, .f32⟩
  | 5 => ⟨S1x64x64x16x128, .f32⟩
  | 6 => ⟨S1x64x64x16x128, .f32⟩
  | 7 => ⟨S1x64x64x16x128, .f32⟩
  | 8 => ⟨S1x64x64x16x128, .f32⟩
  | 9 => ⟨S1x64x64x16x128, .f32⟩
  | 10 => ⟨S1x64x64x16x128, .f32⟩
  | 11 => ⟨S1x64x64x16x128, .f32⟩
  | 12 => ⟨S1x64x64x16x128, .f32⟩
  | 13 => ⟨S_, .f32⟩
  | 14 => ⟨S1x72x64x16x128, .f32⟩
  | 15 => ⟨S_, .f32⟩
  | 16 => ⟨S1x72x64x16x128, .f32⟩
  | 17 => ⟨S1x72x64x16x128, .f32⟩
  | 18 => ⟨S_, .f32⟩
  | 19 => ⟨S1x72x64x16x128, .f32⟩
  | 20 => ⟨S1x72x64x16x128, .f32⟩
  | 21 => ⟨S_, .f32⟩
  | 22 => ⟨S1x72x64x16x128, .f32⟩
  | 23 => ⟨S1x72x64x16x128, .f32⟩
  | 24 => ⟨S_, .f32⟩
  | 25 => ⟨S1x72x64x16x128, .f32⟩
  | 26 => ⟨S1x72x64x16x128, .f32⟩
  | 27 => ⟨S_, .f32⟩
  | 28 => ⟨S1x72x64x16x128, .f32⟩
  | 29 => ⟨S1x72x64x16x128, .f32⟩
  | 30 => ⟨S_, .f32⟩
  | 31 => ⟨S1x72x64x16x128, .f32⟩
  | 32 => ⟨S1x72x64x16x128, .f32⟩
  | 33 => ⟨S_, .f32⟩
  | 34 => ⟨S1x72x64x16x128, .f32⟩
  | 35 => ⟨S1x72x64x16x128, .f32⟩
  | 36 => ⟨S_, .f32⟩
  | 37 => ⟨S1x72x64x16x128, .f32⟩
  | 38 => ⟨S1x72x64x16x128, .f32⟩
  | 39 => ⟨S1x4608x16x128, .f32⟩
  | 40 => ⟨S1x512x16x128, .f32⟩
  | 41 => ⟨S1x4096x16x128, .f32⟩
  | 42 => ⟨S1x4096x16x128, .f32⟩
  | 43 => ⟨S_, .f32⟩
  | 44 => ⟨S1x4096x16x128, .f32⟩
  | 45 => ⟨S1x4096x16x128, .f32⟩
  | 46 => ⟨S1x4096x2048, .f32⟩
  | 47 => ⟨S1x4096x2048, .f32⟩
  | 48 => ⟨S1x4096x2048, .f32⟩
  | 49 => ⟨S4x4096x2048, .bf16⟩
  | 50 => ⟨S4x4096x2048, .f32⟩
  | 51 => ⟨S7x4096x2048, .f32⟩
  | 52 => ⟨S7x4096x2048, .bf16⟩
  | _ => ⟨S7x4096x2048, .bf16⟩

abbrev hbmTy (i : Nat) : BufTy := match i / 128 with
  | 0 => hbmTy0_0 i
  | 1 => hbmTy0_1 i
  | 2 => hbmTy0_2 i
  | _ => ⟨S7x4096x2048, .bf16⟩

abbrev bufTy : (tb : Table) → Fin (tcTables nBuf tb) → BufTy
  | .hbm, ⟨i, _⟩ => hbmTy i
  | _, _ => ⟨S7x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_c : Ref sig .tc := ⟨.hbm, 66, rfl⟩
abbrev main_v59 : Ref sig .tc := ⟨.hbm, 67, rfl⟩
abbrev main_v60 : Ref sig .tc := ⟨.hbm, 68, rfl⟩
abbrev main_c_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_c_3 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_call0_v0 : Ref sig .tc := ⟨.hbm, 80, rfl⟩
abbrev main_v69_1 : Ref sig .tc := ⟨.hbm, 81, rfl⟩
abbrev main_call0_v2 : Ref sig .tc := ⟨.hbm, 82, rfl⟩
abbrev main_v69_0 : Ref sig .tc := ⟨.hbm, 83, rfl⟩
abbrev main_call0_cst : Ref sig .tc := ⟨.hbm, 84, rfl⟩
abbrev main_v69_2 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_6 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_14 : Ref sig .tc := ⟨.hbm, 121, rfl⟩
abbrev main_v96 : Ref sig .tc := ⟨.hbm, 122, rfl⟩
abbrev main_v97 : Ref sig .tc := ⟨.hbm, 123, rfl⟩
abbrev main_cst_15 : Ref sig .tc := ⟨.hbm, 124, rfl⟩
abbrev main_v98 : Ref sig .tc := ⟨.hbm, 125, rfl⟩
abbrev main_v99 : Ref sig .tc := ⟨.hbm, 126, rfl⟩
abbrev main_cst_16 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_cst_18 : Ref sig .tc := ⟨.hbm, 164, rfl⟩
abbrev main_v135 : Ref sig .tc := ⟨.hbm, 165, rfl⟩
abbrev main_v136 : Ref sig .tc := ⟨.hbm, 166, rfl⟩
abbrev main_cst_19 : Ref sig .tc := ⟨.hbm, 167, rfl⟩
abbrev main_v137 : Ref sig .tc := ⟨.hbm, 168, rfl⟩
abbrev main_v138 : Ref sig .tc := ⟨.hbm, 169, rfl⟩
abbrev main_cst_20 : Ref sig .tc := ⟨.hbm, 170, rfl⟩
abbrev main_v139 : Ref sig .tc := ⟨.hbm, 171, rfl⟩
abbrev main_v140 : Ref sig .tc := ⟨.hbm, 172, rfl⟩
abbrev main_cst_21 : Ref sig .tc := ⟨.hbm, 173, rfl⟩
abbrev main_v141 : Ref sig .tc := ⟨.hbm, 174, rfl⟩
abbrev main_v142 : Ref sig .tc := ⟨.hbm, 175, rfl⟩
abbrev main_cst_22 : Ref sig .tc := ⟨.hbm, 176, rfl⟩
abbrev main_v143 : Ref sig .tc := ⟨.hbm, 177, rfl⟩
abbrev main_v144 : Ref sig .tc := ⟨.hbm, 178, rfl⟩
abbrev main_cst_23 : Ref sig .tc := ⟨.hbm, 179, rfl⟩
abbrev main_v145 : Ref sig .tc := ⟨.hbm, 180, rfl⟩
abbrev main_v146 : Ref sig .tc := ⟨.hbm, 181, rfl⟩
abbrev main_cst_24 : Ref sig .tc := ⟨.hbm, 182, rfl⟩
abbrev main_v147 : Ref sig .tc := ⟨.hbm, 183, rfl⟩
abbrev main_v148 : Ref sig .tc := ⟨.hbm, 184, rfl⟩
abbrev main_cst_25 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_26 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_27 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_call1_cst : Ref sig .tc := ⟨.hbm, 206, rfl⟩
abbrev main_call1_v0 : Ref sig .tc := ⟨.hbm, 207, rfl⟩
abbrev main_v167 : Ref sig .tc := ⟨.hbm, 208, rfl⟩
abbrev main_cst_28 : Ref sig .tc := ⟨.hbm, 209, rfl⟩
abbrev main_v168 : Ref sig .tc := ⟨.hbm, 210, rfl⟩
abbrev main_v169 : Ref sig .tc := ⟨.hbm, 211, rfl⟩
abbrev main_cst_29 : Ref sig .tc := ⟨.hbm, 212, rfl⟩
abbrev main_v170 : Ref sig .tc := ⟨.hbm, 213, rfl⟩
abbrev main_v171 : Ref sig .tc := ⟨.hbm, 214, rfl⟩
abbrev main_cst_30 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_cst_31 : Ref sig .tc := ⟨.hbm, 233, rfl⟩
abbrev main_v189 : Ref sig .tc := ⟨.hbm, 234, rfl⟩
abbrev main_cst_32 : Ref sig .tc := ⟨.hbm, 235, rfl⟩
abbrev main_v190 : Ref sig .tc := ⟨.hbm, 236, rfl⟩
abbrev main_v191 : Ref sig .tc := ⟨.hbm, 237, rfl⟩
abbrev main_cst_33 : Ref sig .tc := ⟨.hbm, 238, rfl⟩
abbrev main_v192 : Ref sig .tc := ⟨.hbm, 239, rfl⟩
abbrev main_v193 : Ref sig .tc := ⟨.hbm, 240, rfl⟩
abbrev main_cst_34 : Ref sig .tc := ⟨.hbm, 241, rfl⟩
abbrev main_v194 : Ref sig .tc := ⟨.hbm, 242, rfl⟩
abbrev main_v195 : Ref sig .tc := ⟨.hbm, 243, rfl⟩
abbrev main_cst_35 : Ref sig .tc := ⟨.hbm, 244, rfl⟩
abbrev main_v196 : Ref sig .tc := ⟨.hbm, 245, rfl⟩
abbrev main_v197 : Ref sig .tc := ⟨.hbm, 246, rfl⟩
abbrev main_cst_36 : Ref sig .tc := ⟨.hbm, 247, rfl⟩
abbrev main_v198 : Ref sig .tc := ⟨.hbm, 248, rfl⟩
abbrev main_v199 : Ref sig .tc := ⟨.hbm, 249, rfl⟩
abbrev main_cst_37 : Ref sig .tc := ⟨.hbm, 250, rfl⟩
abbrev main_v200 : Ref sig .tc := ⟨.hbm, 251, rfl⟩
abbrev main_v201 : Ref sig .tc := ⟨.hbm, 252, rfl⟩
abbrev main_cst_38 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_cst_39 : Ref sig .tc := ⟨.hbm, 269, rfl⟩
abbrev main_v217 : Ref sig .tc := ⟨.hbm, 270, rfl⟩
abbrev main_cst_40 : Ref sig .tc := ⟨.hbm, 271, rfl⟩
abbrev main_v218 : Ref sig .tc := ⟨.hbm, 272, rfl⟩
abbrev main_v219 : Ref sig .tc := ⟨.hbm, 273, rfl⟩
abbrev main_cst_41 : Ref sig .tc := ⟨.hbm, 274, rfl⟩
abbrev main_v220 : Ref sig .tc := ⟨.hbm, 275, rfl⟩
abbrev main_v221 : Ref sig .tc := ⟨.hbm, 276, rfl⟩
abbrev main_cst_42 : Ref sig .tc := ⟨.hbm, 277, rfl⟩
abbrev main_v222 : Ref sig .tc := ⟨.hbm, 278, rfl⟩
abbrev main_v223 : Ref sig .tc := ⟨.hbm, 279, rfl⟩
abbrev main_cst_43 : Ref sig .tc := ⟨.hbm, 280, rfl⟩
abbrev main_v224 : Ref sig .tc := ⟨.hbm, 281, rfl⟩
abbrev main_v225 : Ref sig .tc := ⟨.hbm, 282, rfl⟩
abbrev main_cst_44 : Ref sig .tc := ⟨.hbm, 283, rfl⟩
abbrev main_v226 : Ref sig .tc := ⟨.hbm, 284, rfl⟩
abbrev main_v227 : Ref sig .tc := ⟨.hbm, 285, rfl⟩
abbrev main_cst_45 : Ref sig .tc := ⟨.hbm, 286, rfl⟩
abbrev main_v228 : Ref sig .tc := ⟨.hbm, 287, rfl⟩
abbrev main_v229 : Ref sig .tc := ⟨.hbm, 288, rfl⟩
abbrev main_cst_46 : Ref sig .tc := ⟨.hbm, 289, rfl⟩
abbrev main_v230 : Ref sig .tc := ⟨.hbm, 290, rfl⟩
abbrev main_v231 : Ref sig .tc := ⟨.hbm, 291, rfl⟩
abbrev main_cst_47 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_cst_48 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩

abbrev nD : Nat := 1
abbrev τ : Topo := Topo.v7x

variable {F : FTy → Type} [FloatOps F]
-- ==== Kernel2.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x4096 : Shape := ⟨2, ![4096, 4096]⟩
abbrev S4096x14336 : Shape := ⟨2, ![4096, 14336]⟩
abbrev S7x4096x2048 : Shape := ⟨3, ![7, 4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S7x4096x2048, .bf16⟩
  | .hbm, ⟨3, _⟩ => ⟨S4096x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 7], ![false, false, false]⟩

def k0_cond3 (i : grid0.Coords) : BitVec 1 :=
  let arg2 : BitVec 32 := BitVec.ofNat 32 (i 2).val
  let c6_i32 : BitVec 32 := 6#32
  let v10 : BitVec 1 := Scalar.cmpi .eq arg2 c6_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x14336 : Shape := ⟨2, ![4096, 14336]⟩
abbrev S7x4096x2048 : Shape := ⟨3, ![7, 4096, 2048]⟩
abbrev S4096x7x2048 : Shape := ⟨3, ![4096, 7, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S7x4096x2048, .bf16⟩
  | .hbm, ⟨3, _⟩ => ⟨S4096x4096, .f32⟩
  | .hbm, ⟨4, _⟩ => ⟨S4096x14336, .f32⟩
  | .hbm, ⟨5, _⟩ => ⟨S4096x14336, .f32⟩
  | .hbm, ⟨6, _⟩ => ⟨S4096x7x2048, .f32⟩
  | .hbm, ⟨7, _⟩ => ⟨S7x4096x2048, .f32⟩
  | .hbm, ⟨8, _⟩ => ⟨S7x4096x2048, .f32⟩
  | .hbm, ⟨9, _⟩ => ⟨S4096x7x2048, .f32⟩
  | .hbm, ⟨10, _⟩ => ⟨S4096x14336, .f32⟩
  | .hbm, ⟨11, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S4096x14336 : Shape := ⟨2, ![4096, 14336]⟩
abbrev S7x4096x2048 : Shape := ⟨3, ![7, 4096, 2048]⟩
abbrev S2048x1024 : Shape := ⟨2, ![2048, 1024]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S7x4096x2048, .bf16⟩
  | .hbm, ⟨3, _⟩ => ⟨S4096x14336, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x14336 : Shape := ⟨2, ![4096, 14336]⟩
abbrev S7x4096x2048 : Shape := ⟨3, ![7, 4096, 2048]⟩
abbrev S4096x7x2048 : Shape := ⟨3, ![4096, 7, 2048]⟩
abbrev S14336x4096 : Shape := ⟨2, ![14336, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S7x4096x2048, .bf16⟩
  | .hbm, ⟨3, _⟩ => ⟨S4096x14336, .f32⟩
  | .hbm, ⟨4, _⟩ => ⟨S4096x4096, .f32⟩
  | .hbm, ⟨5, _⟩ => ⟨S4096x14336, .f32⟩
  | .hbm, ⟨6, _⟩ => ⟨S4096x7x2048, .f32⟩
  | .hbm, ⟨7, _⟩ => ⟨S7x4096x2048, .f32⟩
  | .hbm, ⟨8, _⟩ => ⟨S7x4096x2048, .f32⟩
  | .hbm, ⟨9, _⟩ => ⟨S4096x7x2048, .f32⟩
  | .hbm, ⟨10, _⟩ => ⟨S4096x14336, .f32⟩
  | .hbm, ⟨11, _⟩ => ⟨S14336x4096, .f32⟩
  | .hbm, ⟨12, _⟩ => ⟨S4096x14336, .f32⟩
  | .hbm, ⟨13, _⟩ => ⟨S4096x14336, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x4096 : Shape := ⟨2, ![4096, 4096]⟩
abbrev S4096x14336 : Shape := ⟨2, ![4096, 14336]⟩
abbrev S7x4096x2048 : Shape := ⟨3, ![7, 4096, 2048]⟩
abbrev S1024x2048 : Shape := ⟨2, ![1024, 2048]⟩
abbrev S2048x2048 : Shape := ⟨2, ![2048, 2048]⟩
abbrev S1x1024x2048 : Shape := ⟨3, ![1, 1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S7x4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x14336 : Shape := ⟨2, ![4096, 14336]⟩
abbrev S4096x7x2048 : Shape := ⟨3, ![4096, 7, 2048]⟩
abbrev S7x4096x2048 : Shape := ⟨3, ![7, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S4096x4096, .f32⟩
  | .hbm, ⟨3, _⟩ => ⟨S4096x14336, .f32⟩
  | .hbm, ⟨4, _⟩ => ⟨S4096x14336, .f32⟩
  | .hbm, ⟨5, _⟩ => ⟨S4096x7x2048, .f32⟩
  | .hbm, ⟨6, _⟩ => ⟨S7x4096x2048, .f32⟩
  | .hbm, ⟨7, _⟩ => ⟨S7x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x256 : Shape := ⟨2, ![4096, 256]⟩
abbrev S256x4096 : Shape := ⟨2, ![256, 4096]⟩
abbrev S4096x4096 : Shape := ⟨2, ![4096, 4096]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x4096, .bf16⟩
  | .hbm, ⟨2, _⟩ => ⟨S4096x4096, .bf16⟩
  | .hbm, ⟨3, _⟩ => ⟨S256x4096, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x256 : Shape := ⟨2, ![4096, 256]⟩
abbrev S256x4096 : Shape := ⟨2, ![256, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x4096, .bf16⟩
  | .hbm, ⟨2, _⟩ => ⟨S4096x4096, .bf16⟩
  | .hbm, ⟨3, _⟩ => ⟨S256x4096, .f32⟩
  | .hbm, ⟨4, _⟩ => ⟨S4096x4096, .f32⟩
  | .hbm, ⟨5, _⟩ => ⟨S4096x4096, .f32⟩
  | .hbm, ⟨6, _⟩ => ⟨S4096x256, .f32⟩
  | .hbm, ⟨7, _⟩ => ⟨S256x4096, .f32⟩
  | .hbm, ⟨8, _⟩ => ⟨S256x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x4096 : Shape := ⟨2, ![4096, 4096]⟩
abbrev S1x4096 : Shape := ⟨2, ![1, 4096]⟩
abbrev S4096x256 : Shape := ⟨2, ![4096, 256]⟩
abbrev S256x4096 : Shape := ⟨2, ![256, 4096]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096x256, .f32⟩
  | .hbm, ⟨5, _⟩ => ⟨S256x4096, .bf16⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S256x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference12Ideal.lean ====
abbrev S4096x4096 : Shape := ⟨2, ![4096, 4096]⟩
abbrev S1x4096 : Shape := ⟨2, ![1, 4096]⟩
abbrev S4096x256 : Shape := ⟨2, ![4096, 256]⟩
abbrev S256x4096 : Shape := ⟨2, ![256, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096x256, .f32⟩
  | .hbm, ⟨5, _⟩ => ⟨S256x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S256x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel13.lean ====
abbrev S1x4096 : Shape := ⟨2, ![1, 4096]⟩
abbrev S1x16x513 : Shape := ⟨3, ![1, 16, 513]⟩
abbrev S1x2048 : Shape := ⟨2, ![1, 2048]⟩
abbrev S4096 : Shape := ⟨1, ![4096]⟩
abbrev S1x31x256 : Shape := ⟨3, ![1, 31, 256]⟩
abbrev S8208 : Shape := ⟨1, ![8208]⟩
abbrev S2048 : Shape := ⟨1, ![2048]⟩
abbrev S7936 : Shape := ⟨1, ![7936]⟩
abbrev S44816 : Shape := ⟨1, ![44816]⟩
abbrev S_ : Shape := ⟨0, ![]⟩
abbrev S101376 : Shape := ⟨1, ![101376]⟩
abbrev S792x128 : Shape := ⟨2, ![792, 128]⟩

abbrev nBuf : Space → Nat
  | .hbm => 187
  | .vmem => 7
  | .smem => 0
  | _ => 0

abbrev hbmTy0_0 (i : Nat) : BufTy := match i % 128 with
  | 0 => ⟨S1x4096, .f32⟩
  | 1 => ⟨S1x16x513, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x4096, .f32⟩
  | 9 => ⟨S1x4096, .f32⟩
  | 10 => ⟨S4096, .f32⟩
  | 11 => ⟨S1x31x256, .f32⟩
  | 12 => ⟨S1x4096, .f32⟩
  | 13 => ⟨S1x16x513, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x4096, .f32⟩
  | 21 => ⟨S1x4096, .f32⟩
  | 22 => ⟨S4096, .f32⟩
  | 23 => ⟨S1x31x256, .f32⟩
  | 24 => ⟨S1x4096, .f32⟩
  | 25 => ⟨S1x16x513, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x4096, .f32⟩
  | 33 => ⟨S1x4096, .f32⟩
  | 34 => ⟨S4096, .f32⟩
  | 35 => ⟨S1x31x256, .f32⟩
  | 36 => ⟨S1x4096, .f32⟩
  | 37 => ⟨S1x16x513, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x4096, .f32⟩
  | 45 => ⟨S1x4096, .f32⟩
  | 46 => ⟨S4096, .f32⟩
  | 47 => ⟨S1x31x256, .f32⟩
  | 48 => ⟨S4096, .f32⟩
  | 49 => ⟨S8208, .f32⟩
  | 50 => ⟨S2048, .f32⟩
  | 51 => ⟨S2048, .f32⟩
  | 52 => ⟨S2048, .f32⟩
  | 53 => ⟨S2048, .f32⟩
  | 54 => ⟨S2048, .f32⟩
  | 55 => ⟨S2048, .f32⟩
  | 56 => ⟨S4096, .f32⟩
  | 57 => ⟨S4096, .f32⟩
  | 58 => ⟨S7936, .f32⟩
  | 59 => ⟨S44816, .f32⟩
  | 60 => ⟨S_, .i32⟩
  | 61 => ⟨S_, .f32⟩
  | 62 => ⟨S101376, .f32⟩
  | 63 => ⟨S792x128, .f32⟩
  | 64 => ⟨S4096, .f32⟩
  | 65 => ⟨S8208, .f32⟩
  | 66 => ⟨S2048, .f32⟩
  | 67 => ⟨S2048, .f32⟩
  | 68 => ⟨S2048, .f32⟩
  | 69 => ⟨S2048, .f32⟩
  | 70 => ⟨S2048, .f32⟩
  | 71 => ⟨S2048, .f32⟩
  | 72 => ⟨S4096, .f32⟩
  | 73 => ⟨S4096, .f32⟩
  | 74 => ⟨S7936, .f32⟩
  | 75 => ⟨S44816, .f32⟩
  | 76 => ⟨S_, .i32⟩
  | 77 => ⟨S_, .f32⟩
  | 78 => ⟨S101376, .f32⟩
  | 79 => ⟨S792x128, .f32⟩
  | 80 => ⟨S4096, .f32⟩
  | 81 => ⟨S8208, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S4096, .f32⟩
  | 89 => ⟨S4096, .f32⟩
  | 90 => ⟨S7936, .f32⟩
  | 91 => ⟨S44816, .f32⟩
  | 92 => ⟨S_, .i32⟩
  | 93 => ⟨S_, .f32⟩
  | 94 => ⟨S101376, .f32⟩
  | 95 => ⟨S792x128, .f32⟩
  | 96 => ⟨S4096, .f32⟩
  | 97 => ⟨S8208, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S4096, .f32⟩
  | 105 => ⟨S4096, .f32⟩
  | 106 => ⟨S7936, .f32⟩
  | 107 => ⟨S44816, .f32⟩
  | 108 => ⟨S_, .i32⟩
  | 109 => ⟨S_, .f32⟩
  | 110 => ⟨S101376, .f32⟩
  | 111 => ⟨S792x128, .f32⟩
  | 112 => ⟨S792x128, .f32⟩
  | 113 => ⟨S792x128, .f32⟩
  | 114 => ⟨S792x128, .f32⟩
  | 115 => ⟨S101376, .f32⟩
  | 116 => ⟨S4096, .f32⟩
  | 117 => ⟨S1x4096, .f32⟩
  | 118 => ⟨S8208, .f32⟩
  | 119 => ⟨S1x16x513, .f32⟩
  | 120 => ⟨S2048, .f32⟩
  | 121 => ⟨S1x2048, .f32⟩
  | 122 => ⟨S2048, .f32⟩
  | 123 => ⟨S1x2048, .f32⟩
  | 124 => ⟨S2048, .f32⟩
  | 125 => ⟨S1x2048, .f32⟩
  | 126 => ⟨S2048, .f32⟩
  | 127 => ⟨S1x2048, .f32⟩
  | _ => ⟨S1x4096, .f32⟩

abbrev hbmTy0_1 (i : Nat) : BufTy := match i % 128 with
  | 0 => ⟨S2048, .f32⟩
  | 1 => ⟨S1x2048, .f32⟩
  | 2 => ⟨S2048, .f32⟩
  | 3 => ⟨S1x2048, .f32⟩
  | 4 => ⟨S4096, .f32⟩
  | 5 => ⟨S1x4096, .f32⟩
  | 6 => ⟨S4096, .f32⟩
  | 7 => ⟨S1x4096, .f32⟩
  | 8 => ⟨S4096, .f32⟩
  | 9 => ⟨S7936, .f32⟩
  | 10 => ⟨S1x31x256, .f32⟩
  | 11 => ⟨S101376, .f32⟩
  | 12 => ⟨S4096, .f32⟩
  | 13 => ⟨S1x4096, .f32⟩
  | 14 => ⟨S8208, .f32⟩
  | 15 => ⟨S1x16x513, .f32⟩
  | 16 => ⟨S2048, .f32⟩
  | 17 => ⟨S1x2048, .f32⟩
  | 18 => ⟨S2048, .f32⟩
  | 19 => ⟨S1x2048, .f32⟩
  | 20 => ⟨S2048, .f32⟩
  | 21 => ⟨S1x2048, .f32⟩
  | 22 => ⟨S2048, .f32⟩
  | 23 => ⟨S1x2048, .f32⟩
  | 24 => ⟨S2048, .f32⟩
  | 25 => ⟨S1x2048, .f32⟩
  | 26 => ⟨S2048, .f32⟩
  | 27 => ⟨S1x2048, .f32⟩
  | 28 => ⟨S4096, .f32⟩
  | 29 => ⟨S1x4096, .f32⟩
  | 30 => ⟨S4096, .f32⟩
  | 31 => ⟨S1x4096, .f32⟩
  | 32 => ⟨S4096, .f32⟩
  | 33 => ⟨S7936, .f32⟩
  | 34 => ⟨S1x31x256, .f32⟩
  | 35 => ⟨S101376, .f32⟩
  | 36 => ⟨S4096, .f32⟩
  | 37 => ⟨S1x4096, .f32⟩
  | 38 => ⟨S8208, .f32⟩
  | 39 => ⟨S1x16x513, .f32⟩
  | 40 => ⟨S2048, .f32⟩
  | 41 => ⟨S1x2048, .f32⟩
  | 42 => ⟨S2048, .f32⟩
  | 43 => ⟨S1x2048, .f32⟩
  | 44 => ⟨S2048, .f32⟩
  | 45 => ⟨S1x2048, .f32⟩
  | 46 => ⟨S2048, .f32⟩
  | 47 => ⟨S1x2048, .f32⟩
  | 48 => ⟨S2048, .f32⟩
  | 49 => ⟨S1x2048, .f32⟩
  | 50 => ⟨S2048, .f32⟩
  | 51 => ⟨S1x2048, .f32⟩
  | 52 => ⟨S4096, .f32⟩
  | 53 => ⟨S1x4096, .f32⟩
  | 54 => ⟨S4096, .f32⟩
  | 55 => ⟨S1x4096, .f32⟩
  | 56 => ⟨S4096, .f32⟩
  | 57 => ⟨S7936, .f32⟩
  | 58 => ⟨S1x31x256, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | .local _ .vmem, ⟨0, _⟩ => ⟨S792x128, .f32⟩
  | .local _ .vmem, ⟨1, _⟩ => ⟨S792x128, .f32⟩
  | .local _ .vmem, ⟨2, _⟩ => ⟨S792x128, .f32⟩
  | .local _ .vmem, ⟨3, _⟩ => ⟨S792x128, .f32⟩
  | .local _ .vmem, ⟨4, _⟩ => ⟨S792x128, .f32⟩
  | .local _ .vmem, ⟨5, _⟩ => ⟨S792x128, .f32⟩
  | .local _ .vmem, ⟨6, _⟩ => ⟨S792x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_c : Ref sig .tc := ⟨.hbm, 60, rfl⟩
abbrev main_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_0 : Ref sig .tc := ⟨.hbm, 76, rfl⟩
abbrev main_call1_v0 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_c_1 : Ref sig .tc := ⟨.hbm, 92, rfl⟩
abbrev main_call2_v0 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_2 : Ref sig .tc := ⟨.hbm, 108, rfl⟩
abbrev main_call3_v0 : Ref sig .tc := ⟨.hbm, 109, rfl⟩
abbrev main_v54 : Ref sig .tc := ⟨.hbm, 110, rfl⟩
abbrev main_v55 : Ref sig .tc := ⟨.hbm, 111, rfl⟩
abbrev main_v56_0 : Ref sig .tc := ⟨.hbm, 112, rfl⟩
abbrev main_v56_1 : Ref sig .tc := ⟨.hbm, 113, rfl⟩
abbrev main_v56_2 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S792x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S792x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S792x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S792x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S792x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference13Ideal.lean ====
abbrev S1x4096 : Shape := ⟨2, ![1, 4096]⟩
abbrev S1x16x513 : Shape := ⟨3, ![1, 16, 513]⟩
abbrev S1x2048 : Shape := ⟨2, ![1, 2048]⟩
abbrev S4096 : Shape := ⟨1, ![4096]⟩
abbrev S1x31x256 : Shape := ⟨3, ![1, 31, 256]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S1x4096, .f32⟩
  | 1 => ⟨S1x16x513, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x4096, .f32⟩
  | 9 => ⟨S1x4096, .f32⟩
  | 10 => ⟨S4096, .f32⟩
  | 11 => ⟨S1x31x256, .f32⟩
  | 12 => ⟨S1x4096, .f32⟩
  | 13 => ⟨S1x16x513, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x4096, .f32⟩
  | 21 => ⟨S1x4096, .f32⟩
  | 22 => ⟨S4096, .f32⟩
  | 23 => ⟨S1x31x256, .f32⟩
  | 24 => ⟨S1x4096, .f32⟩
  | 25 => ⟨S1x16x513, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x4096, .f32⟩
  | 33 => ⟨S1x4096, .f32⟩
  | 34 => ⟨S4096, .f32⟩
  | 35 => ⟨S1x31x256, .f32⟩
  | 36 => ⟨S1x4096, .f32⟩
  | 37 => ⟨S1x16x513, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x4096, .f32⟩
  | 45 => ⟨S1x4096, .f32⟩
  | 46 => ⟨S4096, .f32⟩
  | 47 => ⟨S1x31x256, .f32⟩
  | 48 => ⟨S_, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S1x4096, .f32⟩
  | 55 => ⟨S_, .f32⟩
  | 56 => ⟨S1x4096, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S1x4096, .f32⟩
  | 63 => ⟨S_, .f32⟩
  | 64 => ⟨S1x4096, .f32⟩
  | 65 => ⟨S1x4096, .f32⟩
  | 66 => ⟨S_, .f32⟩
  | 67 => ⟨S1x4096, .f32⟩
  | 68 => ⟨S1x4096, .f32⟩
  | 69 => ⟨S1x4096, .f32⟩
  | 70 => ⟨S_, .f32⟩
  | 71 => ⟨S1x4096, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S_, .f32⟩
  | 82 => ⟨S1x16x513, .f32⟩
  | 83 => ⟨S1x16x513, .f32⟩
  | 84 => ⟨S_, .f32⟩
  | 85 => ⟨S1x16x513, .f32⟩
  | 86 => ⟨S1x16x513, .f32⟩
  | 87 => ⟨S1x16x513, .f32⟩
  | 88 => ⟨S_, .f32⟩
  | 89 => ⟨S1x16x513, .f32⟩
  | 90 => ⟨S1x16x513, .f32⟩
  | 91 => ⟨S1x16x513, .f32⟩
  | 92 => ⟨S_, .f32⟩
  | 93 => ⟨S1x16x513, .f32⟩
  | 94 => ⟨S1x16x513, .f32⟩
  | 95 => ⟨S1x16x513, .f32⟩
  | 96 => ⟨S_, .f32⟩
  | 97 => ⟨S1x16x513, .f32⟩
  | 98 => ⟨S1x16x513, .f32⟩
  | 99 => ⟨S_, .f32⟩
  | 100 => ⟨S1x16x513, .f32⟩
  | 101 => ⟨S1x16x513, .f32⟩
  | 102 => ⟨S1x16x513, .f32⟩
  | 103 => ⟨S_, .f32⟩
  | 104 => ⟨S1x16x513, .f32⟩
  | 105 => ⟨S1x16x513, .f32⟩
  | 106 => ⟨S1x16x513, .f32⟩
  | 107 => ⟨S_, .f32⟩
  | 108 => ⟨S1x16x513, .f32⟩
  | 109 => ⟨S1x16x513, .f32⟩
  | 110 => ⟨S1x16x513, .f32⟩
  | 111 => ⟨S_, .f32⟩
  | 112 => ⟨S1x16x513, .f32⟩
  | 113 => ⟨S1x16x513, .f32⟩
  | 114 => ⟨S_, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x4096, .f32⟩

abbrev hbmTy0_1 (i : Nat) : BufTy := match i % 128 with
  | 0 => ⟨S1x2048, .f32⟩
  | 1 => ⟨S_, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S1x2048, .f32⟩
  | 82 => ⟨S_, .f32⟩
  | 83 => ⟨S1x2048, .f32⟩
  | 84 => ⟨S1x2048, .f32⟩
  | 85 => ⟨S_, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x4096, .f32⟩

abbrev hbmTy0_2 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S_, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S1x2048, .f32⟩
  | 53 => ⟨S_, .f32⟩
  | 54 => ⟨S1x2048, .f32⟩
  | 55 => ⟨S1x2048, .f32⟩
  | 56 => ⟨S_, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S1x4096, .f32⟩
  | 63 => ⟨S_, .f32⟩
  | 64 => ⟨S1x4096, .f32⟩
  | 65 => ⟨S1x4096, .f32⟩
  | 66 => ⟨S1x4096, .f32⟩
  | 67 => ⟨S_, .f32⟩
  | 68 => ⟨S1x4096, .f32⟩
  | 69 => ⟨S1x4096, .f32⟩
  | 70 => ⟨S1x4096, .f32⟩
  | 71 => ⟨S_, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S1x4096, .f32⟩
  | 82 => ⟨S_, .f32⟩
  | 83 => ⟨S1x4096, .f32⟩
  | 84 => ⟨S1x4096, .f32⟩
  | 85 => ⟨S1x4096, .f32⟩
  | 86 => ⟨S_, .f32⟩
  | 87 => ⟨S1x4096, .f32⟩
  | 88 => ⟨S1x4096, .f32⟩
  | 89 => ⟨S_, .f32⟩
  | 90 => ⟨S1x4096, .f32⟩
  | 91 => ⟨S1x4096, .f32⟩
  | 92 => ⟨S_, .f32⟩
  | 93 => ⟨S1x4096, .f32⟩
  | 94 => ⟨S1x4096, .f32⟩
  | 95 => ⟨S1x4096, .f32⟩
  | 96 => ⟨S_, .f32⟩
  | 97 => ⟨S1x4096, .f32⟩
  | 98 => ⟨S1x4096, .f32⟩
  | 99 => ⟨S1x4096, .f32⟩
  | 100 => ⟨S_, .f32⟩
  | 101 => ⟨S1x4096, .f32⟩
  | 102 => ⟨S1x4096, .f32⟩
  | 103 => ⟨S1x4096, .f32⟩
  | 104 => ⟨S_, .f32⟩
  | 105 => ⟨S1x4096, .f32⟩
  | 106 => ⟨S1x4096, .f32⟩
  | 107 => ⟨S_, .f32⟩
  | 108 => ⟨S1x4096, .f32⟩
  | 109 => ⟨S1x4096, .f32⟩
  | 110 => ⟨S1x4096, .f32⟩
  | 111 => ⟨S_, .f32⟩
  | 112 => ⟨S1x4096, .f32⟩
  | 113 => ⟨S1x4096, .f32⟩
  | 114 => ⟨S1x4096, .f32⟩
  | 115 => ⟨S_, .f32⟩
  | 116 => ⟨S1x4096, .f32⟩
  | 117 => ⟨S1x4096, .f32⟩
  | 118 => ⟨S1x4096, .f32⟩
  | 119 => ⟨S_, .f32⟩
  | 120 => ⟨S1x4096, .f32⟩
  | 121 => ⟨S1x4096, .f32⟩
  | 122 => ⟨S_, .f32⟩
  | 123 => ⟨S4096, .f32⟩
  | 124 => ⟨S4096, .f32⟩
  | 125 => ⟨S_, .f32⟩
  | 126 => ⟨S4096, .f32⟩
  | 127 => ⟨S4096, .f32⟩
  | _ => ⟨S1x4096, .f32⟩

abbrev hbmTy0_3 (i : Nat) : BufTy := match i % 128 with
  | 0 => ⟨S4096, .f32⟩
  | 1 => ⟨S_, .f32⟩
  | 2 => ⟨S4096, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S_, .f32⟩
  | 10 => ⟨S4096, .f32⟩
  | 11 => ⟨S4096, .f32⟩
  | 12 => ⟨S_, .f32⟩
  | 13 => ⟨S4096, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S_, .f32⟩
  | 21 => ⟨S4096, .f32⟩
  | 22 => ⟨S4096, .f32⟩
  | 23 => ⟨S4096, .f32⟩
  | 24 => ⟨S_, .f32⟩
  | 25 => ⟨S4096, .f32⟩
  | 26 => ⟨S4096, .f32⟩
  | 27 => ⟨S_, .f32⟩
  | 28 => ⟨S1x31x256, .f32⟩
  | 29 => ⟨S1x31x256, .f32⟩
  | 30 => ⟨S_, .f32⟩
  | 31 => ⟨S1x31x256, .f32⟩
  | 32 => ⟨S1x31x256, .f32⟩
  | 33 => ⟨S1x31x256, .f32⟩
  | 34 => ⟨S_, .f32⟩
  | 35 => ⟨S1x31x256, .f32⟩
  | 36 => ⟨S1x31x256, .f32⟩
  | 37 => ⟨S1x31x256, .f32⟩
  | 38 => ⟨S_, .f32⟩
  | 39 => ⟨S1x31x256, .f32⟩
  | 40 => ⟨S1x31x256, .f32⟩
  | 41 => ⟨S1x31x256, .f32⟩
  | 42 => ⟨S_, .f32⟩
  | 43 => ⟨S1x31x256, .f32⟩
  | 44 => ⟨S1x31x256, .f32⟩
  | 45 => ⟨S_, .f32⟩
  | 46 => ⟨S1x31x256, .f32⟩
  | 47 => ⟨S1x31x256, .f32⟩
  | 48 => ⟨S1x31x256, .f32⟩
  | 49 => ⟨S_, .f32⟩
  | 50 => ⟨S1x31x256, .f32⟩
  | 51 => ⟨S1x31x256, .f32⟩
  | 52 => ⟨S1x31x256, .f32⟩
  | 53 => ⟨S_, .f32⟩
  | 54 => ⟨S1x31x256, .f32⟩
  | 55 => ⟨S1x31x256, .f32⟩
  | 56 => ⟨S1x31x256, .f32⟩
  | 57 => ⟨S_, .f32⟩
  | 58 => ⟨S1x31x256, .f32⟩
  | 59 => ⟨S1x31x256, .f32⟩
  | _ => ⟨S1x4096, .f32⟩

abbrev hbmTy (i : Nat) : BufTy := match i / 128 with
  | 0 => hbmTy0_0 i
  | 1 => hbmTy0_1 i
  | 2 => hbmTy0_2 i
  | 3 => hbmTy0_3 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Proof.Attn.Runs.lean ====
/- What the runs of the attention gradient's body share: its branch conditions over the grid points, where its output windows are idle, fresh and written back, and the staging and scratch memrefs. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of a branch of the body: a block of queries is computed. -/
abbrev cond0_0 (i : grid0.Coords) : Prop := k0_cond1 i = 1#1
/-- Which points of the grid these are: a block of queries is computed. -/
theorem hcond0_0 : ∀ t : Fin cfg0.N, cond0_0 (grid0.coords t) ↔ t.val % 9 ≤ 7 :=
  (by decide +kernel : ∀ t : Fin grid0.N, cond0_0 (grid0.coords t) ↔ t.val % 9 ≤ 7)

/-- The condition of a branch of the body: the block is the first of its head. -/
abbrev cond0_1 (i : grid0.Coords) : Prop := k0_cond2 i = 1#1
/-- Which points of the grid these are: the block is the first of its head. -/
theorem hcond0_1 : ∀ t : Fin cfg0.N, cond0_1 (grid0.coords t) ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 0)

/-- The condition of a branch of the body: an earlier block of the head was summed. -/
abbrev cond0_2 (i : grid0.Coords) : Prop := k0_cond3 i = 1#1
/-- Which points of the grid these are: an earlier block of the head was summed. -/
theorem hcond0_2 : ∀ t : Fin cfg0.N, cond0_2 (grid0.coords t) ↔ 1 ≤ t.val % 9 :=
  (by decide +kernel : ∀ t : Fin grid0.N, cond0_2 (grid0.coords t) ↔ 1 ≤ t.val % 9)

/-- The condition of a branch of the body: an earlier block waits to be stored. -/
abbrev cond0_3 (i : grid0.Coords) : Prop := k0_cond4 i = 1#1
/-- Which points of the grid these are: an earlier block waits to be stored. -/
theorem hcond0_3 : ∀ t : Fin cfg0.N, cond0_3 (grid0.coords t) ↔ 1 ≤ t.val % 9 :=
  (by decide +kernel : ∀ t : Fin grid0.N, cond0_3 (grid0.coords t) ↔ 1 ≤ t.val % 9)

/-- The condition of a branch of the body: all the blocks of the head are computed. -/
abbrev cond0_4 (i : grid0.Coords) : Prop := k0_cond5 i = 1#1
/-- Which points of the grid these are: all the blocks of the head are computed. -/
theorem hcond0_4 : ∀ t : Fin cfg0.N, cond0_4 (grid0.coords t) ↔ t.val % 9 = 8 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_4, k0_cond5, e0, e1]
    word_cmp
   : ∀ t : Fin grid0.N, cond0_4 (grid0.coords t) ↔ t.val % 9 = 8)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

/-- The branches taken at the first block of a head. -/
abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- The branches taken at a block in between. -/
abbrev conds0_B (i : grid0.Coords) : Prop := cond0_0 i ∧ ¬cond0_1 i ∧ cond0_2 i ∧ cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- At the first block of a head, the block of dq, dk and dv is left alone. -/
theorem idleAt0_7_A : ∀ t : Fin cfg0.N, cond0_0 (grid0.coords t) → cond0_1 (grid0.coords t) → ¬cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_A (grid0.coords t) → cfg0.idle 7 (grid0.coords t) = true) t ⟨h0, h1, h2, h3, h4⟩
/-- At the first block of a head, the block of dq, dk and dv is not written back. -/
theorem noFlush0_7_A : ∀ t : Fin cfg0.N, cond0_0 (grid0.coords t) → cond0_1 (grid0.coords t) → ¬cond0_2 (grid0.coords t) → ¬cond0_3 (grid0.coords t) → ¬cond0_4 (grid0.coords t) → (cfg0.win 7).flush t = false :=
  fun t h0 h1 h2 h3 h4 => (by decide +kernel : ∀ t : Fin cfg0.N, conds0_A (grid0.coords t) → (cfg0.win 7).flush t = false) t ⟨h0, h1, h2, h3, h4⟩
/-- At a block in between, the block of dq, dk and dv is stored. -/
theorem liveAt0_7_B : ∀ t : Fin cfg0.N, cond0_0 (grid0.coords t) → ¬cond0_1 (grid0.coords t) → cond0_2 (grid0.coords t) → cond0_3 (grid0.coords t) → ¬cond0_4 (grid0.coords t) → cfg0.idle 7 (grid0.coords t) = false :=
  fun t h0 h1 h2 h3 h4 => (by decide +kernel : ∀ t : Fin cfg0.N, conds0_B (grid0.coords t) → cfg0.idle 7 (grid0.coords t) = false) t ⟨h0, h1, h2, h3, h4⟩
/-- At the point after the last block, the block of dq, dk and dv is stored. -/
theorem liveAt0_7_C : ∀ t : Fin cfg0.N, ¬cond0_0 (grid0.coords t) → cond0_4 (grid0.coords t) → cfg0.idle 7 (grid0.coords t) = false := by decide +kernel

def freshTab0_8 : ℕ → Bool
  | 0 => true
  | n + 1 => (0x804020100804020100804020100804020100 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the first block of a head, the block of bias gradients is stored. -/
theorem liveAt0_8_A : ∀ t : Fin cfg0.N, cond0_0 (grid0.coords t) → cond0_1 (grid0.coords t) → ¬cond0_2 (grid0.coords t) → ¬cond0_3 (grid0.coords t) → ¬cond0_4 (grid0.coords t) → cfg0.idle 8 (grid0.coords t) = false :=
  fun t h0 h1 h2 h3 h4 => (by decide +kernel : ∀ t : Fin cfg0.N, conds0_A (grid0.coords t) → cfg0.idle 8 (grid0.coords t) = false) t ⟨h0, h1, h2, h3, h4⟩
/-- At a block in between, the block of bias gradients is stored. -/
theorem liveAt0_8_B : ∀ t : Fin cfg0.N, cond0_0 (grid0.coords t) → ¬cond0_1 (grid0.coords t) → cond0_2 (grid0.coords t) → cond0_3 (grid0.coords t) → ¬cond0_4 (grid0.coords t) → cfg0.idle 8 (grid0.coords t) = false :=
  fun t h0 h1 h2 h3 h4 => (by decide +kernel : ∀ t : Fin cfg0.N, conds0_B (grid0.coords t) → cfg0.idle 8 (grid0.coords t) = false) t ⟨h0, h1, h2, h3, h4⟩
/-- At a block in between, the block of bias gradients still holds what an earlier block left. -/
theorem notFresh0_8_B : ∀ t : Fin cfg0.N, cond0_0 (grid0.coords t) → ¬cond0_1 (grid0.coords t) → cond0_2 (grid0.coords t) → cond0_3 (grid0.coords t) → ¬cond0_4 (grid0.coords t) → cfg0.fresh 8 t.val = false :=
  fun t h0 h1 h2 h3 h4 => (by intro t; rw [fresh0_8_eq t]; revert t; decide +kernel : ∀ t : Fin cfg0.N, conds0_B (grid0.coords t) → cfg0.fresh 8 t.val = false) t ⟨h0, h1, h2, h3, h4⟩
/-- At the point after the last block, the block of bias gradients is left alone. -/
theorem idleAt0_8_C : ∀ t : Fin cfg0.N, ¬cond0_0 (grid0.coords t) → cond0_4 (grid0.coords t) → cfg0.idle 8 (grid0.coords t) = true := by decide +kernel
/-- At the point after the last block, the block of bias gradients is written back. -/
theorem flush0_8_C : ∀ t : Fin cfg0.N, ¬cond0_0 (grid0.coords t) → cond0_4 (grid0.coords t) → (cfg0.win 8).flush t = true := by decide +kernel
/-- At the point after the last block, the block of bias gradients still holds what an earlier block left. -/
theorem notFresh0_8_C : ∀ t : Fin cfg0.N, ¬cond0_0 (grid0.coords t) → cond0_4 (grid0.coords t) → cfg0.fresh 8 t.val = false := by
  intro t; rw [fresh0_8_eq t]; revert t; decide +kernel

abbrev VO0_7 : View sig .tc .vmem S3x512x128 .bf16 := (Memref.whole cc0_stg7_0 : Memref sig .tc .vmem S3x512x128 .bf16).view

abbrev VO0_8 : View sig .tc .vmem S1x512x1024 .f32 := (Memref.whole cc0_stg8_0 : Memref sig .tc .vmem S1x512x1024 .f32).view

abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1024 .f32 := win0_8.stage (cfg0.slots t 8)
abbrev hs0_8 (t : Fin cfg0.N) : (ms0_8 t).IsWhole := hstage0_8 ((cfg0.slots t 8).cast nbuf0_8)

abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2

abbrev VS0_0 : View sig .tc .vmem S512x128 .f32 := scM0_0.view

abbrev VS0_1 : View sig .tc .vmem S512x128 .f32 := scM0_1.view

abbrev VS0_2 : View sig .tc .vmem S512x128 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Attn

end
-- ==== Proof.Attn.RunA.lean ====
/- The run of the attention gradient's body at the first block of a head. -/
module

public import proofs.«01_k».proof.Proof.Attn.Runs

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores of the body at the first block of a head, with the proof that the body runs and makes them. -/
noncomputable def kernelRun0_A (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) :
    Σ' (L7 : List (View.Piece (Elt F) S3x512x128 .bf16)), Σ' (L8 : List (View.Piece (Elt F) S1x512x1024 .f32)), Σ' (LS0 : List (View.Piece (Elt F) S512x128 .f32)), Σ' (LS1 : List (View.Piece (Elt F) S512x128 .f32)), { LS2 : List (View.Piece (Elt F) S512x128 .f32) //
      ∀ (xi7 : Vec F S3x512x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_attn_bwd i (Memref.whole main_arg0) (Memref.isWhole_whole _) arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, fun xi7 E K => ?run⟩
  case run =>
    simp only [cc0_attn_bwd_eq_skeleton]; unfold cc0_attn_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    isplitl [HS1]; · iexists _; iexact HS1
    iexists _; iexact HS2

end Cert.KernelIdeal.Attn

end
-- ==== Proof.Attn.RunB.lean ====
/- The run of the attention gradient's body at the blocks in between. -/
module

public import proofs.«01_k».proof.Proof.Attn.RunA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The stores of the body at a block in between, with the proof that the body runs and makes them. -/
noncomputable def kernelRun0_B (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) :
    Σ' (L7 : List (View.Piece (Elt F) S3x512x128 .bf16)), Σ' (L8 : List (View.Piece (Elt F) S1x512x1024 .f32)), Σ' (LS0 : List (View.Piece (Elt F) S512x128 .f32)), Σ' (LS1 : List (View.Piece (Elt F) S512x128 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_attn_bwd i (Memref.whole main_arg0) (Memref.isWhole_whole _) arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_attn_bwd_eq_skeleton]; unfold cc0_attn_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0; obtain rfl := harg13.eq_unread hfs1; obtain rfl := harg14.eq_unread hfs2
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Attn

end
-- ==== Proof.Attn.RunC.lean ====
/- The run of the attention gradient's body at the point after the last block, which only writes the carried gradients out. -/
module

public import proofs.«01_k».proof.Proof.Attn.RunB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The stores of the body at the point after the last block, with the proof that the body runs and makes them. -/
noncomputable def kernelRun0_C (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) :
    Σ' (L7 : List (View.Piece (Elt F) S3x512x128 .bf16)), Σ' (LS0 : List (View.Piece (Elt F) S512x128 .f32)), Σ' (LS1 : List (View.Piece (Elt F) S512x128 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xs0 ∗ owns (c : Thread nD τ) arg13 fullShare xs1 ∗ owns (c : Thread nD τ) arg14 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xo8 ∗ owns (c : Thread nD τ) arg12 fullShare xs0 ∗ owns (c : Thread nD τ) arg13 fullShare xs1 ∗ owns (c : Thread nD τ) arg14 fullShare xs2) -∗ K ⟨⟩))
          ⊢ wp frame (wpE (defs₀ (F := F)) Variants.none c none) E (cc0_attn_bwd i (Memref.whole main_arg0) (Memref.isWhole_whole _) arg3 harg3 arg4 harg4 arg5 harg5 arg6 harg6 arg7 harg7 arg8 harg8 arg9 harg9 arg10 harg10 arg11 harg11 arg12 harg12 arg13 harg13 arg14 harg14) K } := by
  refine ⟨?_, [], [], [], fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0; obtain rfl := harg13.eq_unread hfs1; obtain rfl := harg14.eq_unread hfs2
    sl_exec (disch := first | sl_exact hc0 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Attn

end
-- ==== Proof.Attn.Frame.lean ====
/- The attention gradient's pipeline: what its outputs and its carried scratch hold after each grid point, the body obligation, the launch and the frame. -/
module

public import proofs.«01_k».proof.Proof.Attn.RunC
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What the first block of a head leaves in the block of dq, dk and dv. -/
def out0_A_7 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) : Vec F S3x512x128 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1)

/-- The stores of the first block of a head cover the block of bias gradients. -/
theorem cover0_A_8 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (y : S1x512x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1 S1x512x512.size (by sl_kernel_rfl) y

/-- What the first block of a head leaves in the block of bias gradients. -/
def out0_A_8 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) : Vec F S1x512x1024 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1)

/-- The store of the first block of a head covers the scratch that carries dq. -/
theorem scover0_A_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1 S512x128.size (by sl_kernel_rfl) y

/-- What the first block of a head leaves in the scratch that carries dq. -/
def sout0_A_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) : Vec F S512x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1)

/-- The store of the first block of a head covers the scratch that carries dk. -/
theorem scover0_A_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1 S512x128.size (by sl_kernel_rfl) y

/-- What the first block of a head leaves in the scratch that carries dk. -/
def sout0_A_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) : Vec F S512x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1)

/-- The store of the first block of a head covers the scratch that carries dv. -/
theorem scover0_A_2 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.2.1 S512x128.size (by sl_kernel_rfl) y

/-- What the first block of a head leaves in the scratch that carries dv. -/
def sout0_A_2 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) : Vec F S512x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.2.1)

/-- The stores of a block in between cover the block of dq, dk and dv. -/
theorem cover0_B_7 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S3x512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).1 S1x512x128.size (by sl_kernel_rfl) y

/-- What a block in between leaves in the block of dq, dk and dv. -/
def out0_B_7 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S3x512x128 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).1)

/-- The stores of a block in between cover the block of bias gradients. -/
theorem cover0_B_8 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S1x512x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.1 S1x512x512.size (by sl_kernel_rfl) y

/-- What a block in between leaves in the block of bias gradients. -/
def out0_B_8 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S1x512x1024 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.1)

/-- The store of a block in between covers the scratch that carries dq. -/
theorem scover0_B_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.1 S512x128.size (by sl_kernel_rfl) y

/-- What a block in between leaves in the scratch that carries dq. -/
def sout0_B_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.1)

/-- The store of a block in between covers the scratch that carries dk. -/
theorem scover0_B_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.1 S512x128.size (by sl_kernel_rfl) y

/-- What a block in between leaves in the scratch that carries dk. -/
def sout0_B_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.1)

/-- The store of a block in between covers the scratch that carries dv. -/
theorem scover0_B_2 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.2.1 S512x128.size (by sl_kernel_rfl) y

/-- What a block in between leaves in the scratch that carries dv. -/
def sout0_B_2 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i) (hc2 : cond0_2 i) (hc3 : cond0_3 i) (hc4 : ¬cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2).2.2.2.2.1)

/-- The stores of the point after the last block cover the block of dq, dk and dv. -/
theorem cover0_C_7 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) (y : S3x512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc4 x0 x1 x2 x3 x4 x5 x6 xo8 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc4 x0 x1 x2 x3 x4 x5 x6 xo8 xs0 xs1 xs2).1 S1x512x128.size (by sl_kernel_rfl) y

/-- What the point after the last block leaves in the block of dq, dk and dv. -/
def out0_C_7 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S3x512x128 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 hc0 hc4 x0 x1 x2 x3 x4 x5 x6 xo8 xs0 xs1 xs2).1)

/-- What the point after the last block leaves in the scratch that carries dq. -/
def sout0_C_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 := xs0

/-- What the point after the last block leaves in the scratch that carries dk. -/
def sout0_C_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 := xs1

/-- What the point after the last block leaves in the scratch that carries dv. -/
def sout0_C_2 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc4 : cond0_4 i)
    (x0 : Vec F S1x512x128 .bf16) (x1 : Vec F S1x512x128 .bf16) (x2 : Vec F S1x512x128 .bf16) (x3 : Vec F S1x512x128 .bf16) (x4 : Vec F S1x512x128 .bf16) (x5 : Vec F S1x512x1024 .f32) (x6 : Vec F S1x512x128 .bf16) (xo8 : Vec F S1x512x1024 .f32) (xs0 : Vec F S512x128 .f32) (xs1 : Vec F S512x128 .f32) (xs2 : Vec F S512x128 .f32) : Vec F S512x128 .f32 := xs2

/-- What the two output blocks and the three scratch arrays hold after each point: the point's case, run on the input blocks of the point and on what the point before left. -/
def outsAt0 (c : Dev nD) : (n : ℕ) → n < cfg0.N → Vec F S3x512x128 .bf16 × Vec F S1x512x1024 .f32 × Vec F S512x128 .f32 × Vec F S512x128 .f32 × Vec F S512x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (by (try dsimp only) <;> omega)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (by (try dsimp only) <;> omega)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (by (try dsimp only) <;> omega)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (by (try dsimp only) <;> omega)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (by (try dsimp only) <;> omega)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 9 ≤ 7 then
      if h1 : (n + 1) % 9 = 0 then
        if h2 : 1 ≤ (n + 1) % 9 then
          False.elim (by have hN : n + 1 < 144 := lt_of_lt_of_eq hn (show cfg0.N = 144 from N_0); omega)
        else
          if h3 : 1 ≤ (n + 1) % 9 then
            False.elim (by have hN : n + 1 < 144 := lt_of_lt_of_eq hn (show cfg0.N = 144 from N_0); omega)
          else
            if h4 : (n + 1) % 9 = 8 then
              False.elim (by have hN : n + 1 < 144 := lt_of_lt_of_eq hn (show cfg0.N = 144 from N_0); omega)
            else
              (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        if h2 : 1 ≤ (n + 1) % 9 then
          if h3 : 1 ≤ (n + 1) % 9 then
            if h4 : (n + 1) % 9 = 8 then
              False.elim (by have hN : n + 1 < 144 := lt_of_lt_of_eq hn (show cfg0.N = 144 from N_0); omega)
            else
              (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
          else
            False.elim (by have hN : n + 1 < 144 := lt_of_lt_of_eq hn (show cfg0.N = 144 from N_0); omega)
        else
          False.elim (by have hN : n + 1 < 144 := lt_of_lt_of_eq hn (show cfg0.N = 144 from N_0); omega)
    else
      if h4 : (n + 1) % 9 = 8 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, (outsAt0 c n (Nat.lt_of_succ_lt hn)).2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        False.elim (by have hN : n + 1 < 144 := lt_of_lt_of_eq hn (show cfg0.N = 144 from N_0); omega)

/-- `outsAt0` at the first block of a head. -/
theorem outsAt0_A (c : Dev nD) (t : Fin cfg0.N) (h0 : t.val % 9 ≤ 7) (h1 : t.val % 9 = 0) (h2 : ¬1 ≤ t.val % 9) (h3 : ¬1 ≤ t.val % 9) (h4 : ¬t.val % 9 = 8) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a block in between. -/
theorem outsAt0_B (c : Dev nD) (t : Fin cfg0.N) (h0 : t.val % 9 ≤ 7) (h1 : ¬t.val % 9 = 0) (h2 : 1 ≤ t.val % 9) (h3 : 1 ≤ t.val % 9) (h4 : ¬t.val % 9 = 8) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h1); exact absurd (Nat.zero_mod _) h1)
  | succ n => exact (dif_pos h0).trans ((dif_neg h1).trans ((dif_pos h2).trans ((dif_pos h3).trans ((dif_neg h4).trans rfl))))

/-- `outsAt0` after the last block. -/
theorem outsAt0_C (c : Dev nD) (t : Fin cfg0.N) (h0 : ¬t.val % 9 ≤ 7) (h4 : t.val % 9 = 8) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact by omega)
  | succ n => exact (dif_neg h0).trans ((dif_pos h4).trans rfl)

/-- What is held between the points: before the first one the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-- The data of the pipeline: the arrays as the call finds them, and what each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The block of bias gradients keeps its contents through the points that leave it alone. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 144 := lt_of_lt_of_eq t.isLt (show cfg0.N = 144 from N_0)
  rw [after0_8, after0_8]
  by_cases h0 : t.val % 9 ≤ 7
  · by_cases h1 : t.val % 9 = 0
    · by_cases h2 : 1 ≤ t.val % 9
      · exfalso; omega
      · by_cases h3 : 1 ≤ t.val % 9
        · exfalso; omega
        · by_cases h4 : t.val % 9 = 8
          · exfalso; omega
          · rw [liveAt0_8_A t ((hcond0_0 t).mpr h0) ((hcond0_1 t).mpr h1) (fun h => h2 ((hcond0_2 t).mp h)) (fun h => h3 ((hcond0_3 t).mp h)) (fun h => h4 ((hcond0_4 t).mp h))] at hi
            exact absurd hi Bool.false_ne_true
    · by_cases h2 : 1 ≤ t.val % 9
      · by_cases h3 : 1 ≤ t.val % 9
        · by_cases h4 : t.val % 9 = 8
          · exfalso; omega
          · rw [liveAt0_8_B t ((hcond0_0 t).mpr h0) (fun h => h1 ((hcond0_1 t).mp h)) ((hcond0_2 t).mpr h2) ((hcond0_3 t).mpr h3) (fun h => h4 ((hcond0_4 t).mp h))] at hi
            exact absurd hi Bool.false_ne_true
        · exfalso; omega
      · exfalso; omega
  · by_cases h4 : t.val % 9 = 8
    · rw [outsAt0_C m c t h0 h4]
    · exfalso; omega
/-- A block in between finds the bias gradients that the block before left. -/
theorem before0_8_B (c : Dev nD) (t : Fin cfg0.N) (h0 : t.val % 9 ≤ 7) (h1 : ¬t.val % 9 = 0) (h2 : 1 ≤ t.val % 9) (h3 : 1 ≤ t.val % 9) (h4 : ¬t.val % 9 = 8) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t ((hcond0_0 t).mpr h0) (fun h => h1 ((hcond0_1 t).mp h)) ((hcond0_2 t).mpr h2) ((hcond0_3 t).mpr h3) (fun h => h4 ((hcond0_4 t).mp h))]; exact Bool.false_ne_true)]
  dsimp only [dats]
/-- So does the point after the last block. -/
theorem before0_8_C (c : Dev nD) (t : Fin cfg0.N) (h0 : ¬t.val % 9 ≤ 7) (h4 : t.val % 9 = 8) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_C t (fun h => h0 ((hcond0_0 t).mp h)) ((hcond0_4 t).mpr h4)]; exact Bool.false_ne_true)]
  dsimp only [dats]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body keeps its contract at every point of the grid, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  by_cases h0 : t.val % 9 ≤ 7
  · by_cases h1 : t.val % 9 = 0
    · by_cases h2 : 1 ≤ t.val % 9
      · exfalso; omega
      · by_cases h3 : 1 ≤ t.val % 9
        · exfalso; omega
        · by_cases h4 : t.val % 9 = 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [Dat.leavesExact_idle (dats m 0 c) 7 t (idleAt0_7_A t ((hcond0_0 t).mpr h0) ((hcond0_1 t).mpr h1) (fun h => h2 ((hcond0_2 t).mp h)) (fun h => h3 ((hcond0_3 t).mp h)) (fun h => h4 ((hcond0_4 t).mp h))) (noFlush0_7_A t ((hcond0_0 t).mpr h0) ((hcond0_1 t).mpr h1) (fun h => h2 ((hcond0_2 t).mp h)) (fun h => h3 ((hcond0_3 t).mp h)) (fun h => h4 ((hcond0_4 t).mp h)))]
            rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h)) (fun h => h3 ((hcond0_3 t).mp h)) (fun h => h4 ((hcond0_4 t).mp h))], after0_8]
            by_cases hz : t.val = 0
            · rw [PhiS_castSucc m c t, PhiS_zero m c _ _ hz, PhiA0_eq]
              rw [outsAt0_A m c t h0 h1 h2 h3 h4]
              unfold out0_A_8 sout0_A_0 sout0_A_1 sout0_A_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t)).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [HS0]; · iexact HS0
              isplitl [HS1]; · iexact HS1
              isplitl [HS2]; · iexact HS2
              iintro ⟨H0, H1, H2, H3, H4, H5, H6, H7, ⟨%e8, H8⟩, ⟨%es0, HS0⟩, ⟨%es1, HS1⟩, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              unfold owns; iexists _; isplitr
              swap; · iexact H8
              ipureintro; exact View.read_writes_of_cover _ _ _ _ _ (cover0_A_8 c _ _ _ _ _ _ _ _ _ _ _ _ _ _ _ _ _ _ _ _ _ _ _ _ _ _ _ _ _ _ _ _ _ _ _ _ _)
            · rw [PhiS_castSucc m c t, PhiS_pos m c _ _ hz]
              rw [outsAt0_A m c t h0 h1 h2 h3 h4]
              unfold out0_A_8 sout0_A_0 sout0_A_1 sout0_A_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t)).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [HS0]; · iexists _; iexact HS0
              isplitl [HS1]; · iexists _; iexact HS1
              isplitl [HS2]; · iexists _; iexact HS2
              iintro ⟨H0, H1, H2, H3, H4, H5, H6, H7, ⟨%e8, H8⟩, ⟨%es0, HS0⟩, ⟨%es1, HS1⟩, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              unfold owns; iexists _; isplitr
              swap; · iexact H8
              ipureintro; exact View.read_writes_of_cover _ _ _ _ _ (cover0_A_8 c _ _ _ _ _ _ _ _ _ _ _ _ _ _ _ _ _ _ _ _ _ _ _ _ _ _ _ _ _ _ _ _ _ _ _ _ _)
    · by_cases h2 : 1 ≤ t.val % 9
      · by_cases h3 : 1 ≤ t.val % 9
        · by_cases h4 : t.val % 9 = 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_B t ((hcond0_0 t).mpr h0) (fun h => h1 ((hcond0_1 t).mp h)) ((hcond0_2 t).mpr h2) ((hcond0_3 t).mpr h3) (fun h => h4 ((hcond0_4 t).mp h))], after0_7]
            rw [show (dats m 0 c).leavesExact 8 t = owns (c : Thread nD τ) (ms0_8 t) fullShare ((dats m 0 c).after 8 t) from by
      unfold Dat.leavesExact; rw [liveAt0_8_B t ((hcond0_0 t).mpr h0) (fun h => h1 ((hcond0_1 t).mp h)) ((hcond0_2 t).mpr h2) ((hcond0_3 t).mpr h3) (fun h => h4 ((hcond0_4 t).mp h))], after0_8]
            by_cases hz : t.val = 0
            · exfalso; have hN : t.val < 144 := lt_of_lt_of_eq t.isLt (show cfg0.N = 144 from N_0); omega
            · rw [PhiS_castSucc m c t, PhiS_pos m c _ _ hz]
              rw [outsAt0_B m c t h0 h1 h2 h3 h4]
              simp only [before0_8_B m c t h0 h1 h2 h3 h4]
              unfold out0_B_7 out0_B_8 sout0_B_0 sout0_B_1 sout0_B_2; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_B c (grid0.coords t) _ _ _ _ _ _ _ _ _ _ _ _ _ _ _ _ _ _ _ _ _ _ _ _ ((hcond0_0 t).mpr h0) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) _ _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexact H8
              isplitl [HS0]; · iexact HS0
              isplitl [HS1]; · iexact HS1
              isplitl [HS2]; · iexact HS2
              iintro ⟨H0, H1, H2, H3, H4, H5, H6, ⟨%e7, H7⟩, ⟨%e8, H8⟩, ⟨%es0, HS0⟩, ⟨%es1, HS1⟩, ⟨%es2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_B_1 c _ _ _ _ _ _ _ _ _ _ _ _ _ _ _ _ _ _ _ _ _ _ _ _ _ _ _ _ _ _ _ _ _ _ _ _ _ _ _ _ _)
                  unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]
              · unfold owns; iexists _; isplitr
                swap; · iexact H7
                ipureintro; exact View.read_writes_of_cover _ _ _ _ _ (cover0_B_7 c _ _ _ _ _ _ _ _ _ _ _ _ _ _ _ _ _ _ _ _ _ _ _ _ _ _ _ _ _ _ _ _ _ _ _ _ _ _ _ _ _)
              unfold owns; iexists _; isplitr
              swap; · iexact H8
              ipureintro; exact View.read_writes_of_cover _ _ _ _ _ (cover0_B_8 c _ _ _ _ _ _ _ _ _ _ _ _ _ _ _ _ _ _ _ _ _ _ _ _ _ _ _ _ _ _ _ _ _ _ _ _ _ _ _ _ _)
        · exfalso; omega
      · exfalso; omega
  · by_cases h4 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_4 t).mpr h4)], after0_7]
      rw [show (dats m 0 c).leavesExact 8 t = owns (c : Thread nD τ) (ms0_8 t) fullShare ((dats m 0 c).after 8 t) from by
      unfold Dat.leavesExact; rw [idleAt0_8_C t (fun h => h0 ((hcond0_0 t).mp h)) ((hcond0_4 t).mpr h4), flush0_8_C t (fun h => h0 ((hcond0_0 t).mp h)) ((hcond0_4 t).mpr h4)], after0_8]
      by_cases hz : t.val = 0
      · exfalso; have hN : t.val < 144 := lt_of_lt_of_eq t.isLt (show cfg0.N = 144 from N_0); omega
      · rw [PhiS_castSucc m c t, PhiS_pos m c _ _ hz]
        rw [outsAt0_C m c t h0 h4]
        simp only [before0_8_C m c t h0 h4]
        unfold out0_C_7 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ (fun h => h0 ((hcond0_0 t).mp h)) ((hcond0_4 t).mpr h4) (iblk m c 0 t) (iblk m c 1 t) (iblk m c 2 t) (iblk m c 3 t) (iblk m c 4 t) (iblk m c 5 t) (iblk m c 6 t) _ _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HS1]; · iexact HS1
        isplitl [HS2]; · iexact HS2
        iintro ⟨H0, H1, H2, H3, H4, H5, H6, ⟨%e7, H7⟩, H8, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _)
        iexact H8
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 144 := N_0; omega)

set_option backward.isDefEq.respectTransparency.types false in
/-- Every fair execution of the program ends, with the arrays at the contents tracked here and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame of the attention gradient: every fair execution ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Attn.Words.lean ====
/-
  The kernel over words: with the named constant read as the word it stands for, the idealised program is the kernel's own,
  so the run of the one is the run of the other.
-/
module

public import proofs.«01_k».proof.Defs
public import proofs.«01_k».proof.Proof.Attn.Frame
public import proofs.«01_k».proof.Proof.Gen.Kernel

@[expose] public section

set_option maxRecDepth 16384
set_option maxHeartbeats 1000000

noncomputable section

namespace Cert.Attn

open Idealize.ShloMosaic Idealize.ShloMosaic.TcCoe Idealize.SL.Sem

/-- The named constant read as the word it stands for. -/
@[reducible] def words : Named Bits := ⟨fun _ _ φ b => (Scalar.ofBits φ b : Bits φ)⟩

attribute [local instance] words
attribute [local instance] Cert.Kernel.Gen.facts Cert.KernelIdeal.Gen.facts

/-- The bodies are the same. -/
theorem bodies : Cert.Kernel.defs₀ (F := Bits) = Cert.KernelIdeal.defs₀ (F := Bits) := by
  funext p l a
  cases p
  · match l, a with
    | 0, (t, s) => rfl
  all_goals rfl

/-- The pipelines over the bodies are the same. -/
theorem pipelines : Cert.Kernel.defs (F := Bits) = Cert.KernelIdeal.defs (F := Bits) :=
  congrArg (Pipeline.defs (Cert.KernelIdeal.pcfgs (F := Bits))) bodies

/-- The kernel over words ends, its arguments unchanged and its counters at zero. -/
theorem kernel_frame : Cert.quiescent_Kernel (hKernel := Cert.Kernel.Gen.facts) := by
  intro m ρ _
  rw [pipelines]
  exact Cert.KernelIdeal.Attn.frame (F := Bits) m ρ

end Cert.Attn

end
-- ==== Proof.Attn.Pay.lean ====
/-
  What the body of the backward attention call computes from one block of queries, over the extended reals, entry by
  entry: the scores, their exponentials, the probabilities, and the derivatives of all of them.
-/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic

/-- The scale of the scores, 1/√128 rounded to a float. -/
def σ : EReal := Ideal.ofBits .f32 0x3DB504F3#32

theorem word_bot : Ideal.ofBits .f32 0xFF800000#32 = ⊥ := by simp [Ideal.ofBits, Ideal.ieee]

/-- The scores against the current block of keys. -/
theorem pay17_apply (q k : Vec Ideal S1x512x128 .bf16) (b : Vec Ideal S1x512x512 .f32) (r c : Fin 512) :
    k0_pay17 q k b (ix2 r c) = (∑ d : Fin 128, q (ix3 0 r d) * k (ix3 0 c d)) * σ + b (ix3 0 r c) := by
  pointwise [k0_pay17, k0_pay12, k0_pay14, σ]

/-- The scores against the previous block of keys, before the first block's are masked. -/
theorem pay16_apply (a1 : BitVec 32) (q k : Vec Ideal S1x512x128 .bf16) (b : Vec Ideal S1x512x512 .f32) (r c : Fin 512) :
    k0_pay16 a1 q k b (ix2 r c) = (∑ d : Fin 128, q (ix3 0 r d) * k (ix3 0 c d)) * σ + b (ix3 0 r c) + (if a1 = 0#32 then ⊥ else 0) := by
  pointwise [k0_pay16, k0_pay12, k0_pay13, σ]
  by_cases h : a1 = 0#32
  · simp [Scalar.select, Scalar.cmpi, IntOp.cmpi, Named.named, κ, h]
  · have h' : (a1 == 0#32) = false := by simpa using h
    simp [Scalar.select, Scalar.cmpi, IntOp.cmpi, h, h']

/-- A query's greatest score. -/
theorem pay18_apply (a1 : BitVec 32) (q kp kc : Vec Ideal S1x512x128 .bf16) (b b' : Vec Ideal S1x512x512 .f32) (r : Fin 512) :
    k0_pay18 a1 q kp kc b b' (ix2 r 0) = max (Finset.univ.fold max ⊥ fun c : Fin 512 => k0_pay16 a1 q kp b (ix2 r c)) (Finset.univ.fold max ⊥ fun c : Fin 512 => k0_pay17 q kc b' (ix2 r c)) := by
  pointwise [k0_pay18]
  rw [word_bot]

theorem pay19_apply (a1 : BitVec 32) (q kp kc : Vec Ideal S1x512x128 .bf16) (b b' : Vec Ideal S1x512x512 .f32) (r c : Fin 512) :
    k0_pay19 a1 q kp kc b b' (ix2 r c) = Ideal.exp (k0_pay16 a1 q kp b (ix2 r c) - k0_pay18 a1 q kp kc b b' (ix2 r 0)) := by
  pointwise [k0_pay19]

theorem pay20_apply (a1 : BitVec 32) (q kp kc : Vec Ideal S1x512x128 .bf16) (b b' : Vec Ideal S1x512x512 .f32) (r c : Fin 512) :
    k0_pay20 a1 q kp kc b b' (ix2 r c) = k0_pay18 a1 q kp kc b b' (ix2 r 0) := by
  pointwise [k0_pay20]

theorem pay21_apply (s m : FVec Ideal S512x512 .f32) (r c : Fin 512) :
    k0_pay21 s m (ix2 r c) = Ideal.exp (s (ix2 r c) - m (ix2 r c)) := by
  pointwise [k0_pay21]

/-- The reciprocal of the sum of a query's exponentials. -/
theorem pay22_apply (s e m : FVec Ideal S512x512 .f32) (r : Fin 512) :
    k0_pay22 s e m (ix2 r 0) = Ideal.div 1 (∑ c : Fin 512, e (ix2 r c) + ∑ c : Fin 512, k0_pay21 s m (ix2 r c)) := by
  pointwise [k0_pay22]

theorem pay23_apply (s e m : FVec Ideal S512x512 .f32) (r c : Fin 512) :
    k0_pay23 s e m (ix2 r c) = e (ix2 r c) * k0_pay22 s e m (ix2 r 0) := by
  pointwise [k0_pay23]

theorem pay24_apply (s e m : FVec Ideal S512x512 .f32) (r c : Fin 512) :
    k0_pay24 s e m (ix2 r c) = k0_pay21 s m (ix2 r c) * k0_pay22 s e m (ix2 r 0) := by
  pointwise [k0_pay24]

theorem pay25_apply (g v : Vec Ideal S1x512x128 .bf16) (r c : Fin 512) :
    k0_pay25 (k0_pay15 g) v (ix2 r c) = ∑ d : Fin 128, g (ix3 0 r d) * v (ix3 0 c d) := by
  pointwise [k0_pay25, k0_pay15]

theorem pay26_apply (g v : Vec Ideal S1x512x128 .bf16) (r c : Fin 512) :
    k0_pay26 (k0_pay15 g) v (ix2 r c) = ∑ d : Fin 128, g (ix3 0 r d) * v (ix3 0 c d) := by
  pointwise [k0_pay26, k0_pay15]

theorem pay27_apply (g : FVec Ideal S512x128 .bf16) (s e m : FVec Ideal S512x512 .f32) (vp vc : Vec Ideal S1x512x128 .bf16) (r : Fin 512) :
    k0_pay27 g s e m vp vc (ix2 r 0) = ∑ c : Fin 512, k0_pay23 s e m (ix2 r c) * k0_pay25 g vp (ix2 r c) + ∑ c : Fin 512, k0_pay24 s e m (ix2 r c) * k0_pay26 g vc (ix2 r c) := by
  pointwise [k0_pay27]

theorem pay28_apply (g : FVec Ideal S512x128 .bf16) (s e m : FVec Ideal S512x512 .f32) (vp vc : Vec Ideal S1x512x128 .bf16) (r c : Fin 512) :
    k0_pay28 g s e m vp vc (ix2 r c) = k0_pay23 s e m (ix2 r c) * (k0_pay25 g vp (ix2 r c) - k0_pay27 g s e m vp vc (ix2 r 0)) := by
  pointwise [k0_pay28]

theorem pay29_apply (g : FVec Ideal S512x128 .bf16) (s e m : FVec Ideal S512x512 .f32) (vp vc : Vec Ideal S1x512x128 .bf16) (r c : Fin 512) :
    k0_pay29 g s e m vp vc (ix2 r c) = k0_pay24 s e m (ix2 r c) * (k0_pay26 g vc (ix2 r c) - k0_pay27 g s e m vp vc (ix2 r 0)) := by
  pointwise [k0_pay29]

theorem pay30_apply (g : FVec Ideal S512x128 .bf16) (s e m : FVec Ideal S512x512 .f32) (vp vc : Vec Ideal S1x512x128 .bf16) (r c : Fin 512) :
    k0_pay30 g s e m vp vc (ix3 0 r c) = k0_pay28 g s e m vp vc (ix2 r c) := by
  pointwise [k0_pay30]

theorem pay31_apply (g : FVec Ideal S512x128 .bf16) (s e m : FVec Ideal S512x512 .f32) (vp vc : Vec Ideal S1x512x128 .bf16) (r c : Fin 512) :
    k0_pay31 g s e m vp vc (ix3 0 r c) = k0_pay29 g s e m vp vc (ix2 r c) := by
  pointwise [k0_pay31]

theorem pay32_apply (g : FVec Ideal S512x128 .bf16) (s e m : FVec Ideal S512x512 .f32) (vp vc : Vec Ideal S1x512x128 .bf16) (a : Vec Ideal S1x512x512 .f32) (r c : Fin 512) :
    k0_pay32 g s e m vp vc a (ix3 0 r c) = a (ix3 0 r c) + k0_pay28 g s e m vp vc (ix2 r c) := by
  pointwise [k0_pay32]

theorem pay33_apply (g : FVec Ideal S512x128 .bf16) (s e m : FVec Ideal S512x512 .f32) (vp vc : Vec Ideal S1x512x128 .bf16) (a : Vec Ideal S1x512x512 .f32) (r c : Fin 512) :
    k0_pay33 g s e m vp vc a (ix3 0 r c) = a (ix3 0 r c) + k0_pay29 g s e m vp vc (ix2 r c) := by
  pointwise [k0_pay33]

theorem pay34_apply (g : FVec Ideal S512x128 .bf16) (s e m : FVec Ideal S512x512 .f32) (vp vc : Vec Ideal S1x512x128 .bf16) (r c : Fin 512) :
    k0_pay34 g s e m vp vc (ix2 r c) = k0_pay28 g s e m vp vc (ix2 r c) * σ := by
  pointwise [k0_pay34, σ]

/-- The gradient of the block's queries. -/
theorem pay6_apply (kp kc : Vec Ideal S1x512x128 .bf16) (dc dp : FVec Ideal S512x512 .f32) (r : Fin 512) (d : Fin 128) :
    k0_pay6 (k0_pay13 kp) (k0_pay14 kc) dc dp (ix2 r d) = ∑ c : Fin 512, dp (ix2 r c) * kp (ix3 0 c d) + ∑ c : Fin 512, dc (ix2 r c) * σ * kc (ix3 0 c d) := by
  pointwise [k0_pay6, k0_pay13, k0_pay14, k0_pay1, k0_pay2, σ]

/-- The part of the gradient of the current block's keys that these queries give. -/
theorem pay7_apply (q : Vec Ideal S1x512x128 .bf16) (dc : FVec Ideal S512x512 .f32) (c : Fin 512) (d : Fin 128) :
    k0_pay7 (k0_pay12 q) dc (ix2 c d) = ∑ r : Fin 512, dc (ix2 r c) * σ * q (ix3 0 r d) := by
  pointwise [k0_pay7, k0_pay12, k0_pay2, σ]

/-- The part of the gradient of the current block's values that these queries give. -/
theorem pay8_apply (g : Vec Ideal S1x512x128 .bf16) (p : FVec Ideal S512x512 .f32) (c : Fin 512) (d : Fin 128) :
    k0_pay8 (k0_pay15 g) p (ix2 c d) = ∑ r : Fin 512, p (ix2 r c) * g (ix3 0 r d) := by
  pointwise [k0_pay8, k0_pay15]

theorem pay3_apply (a : Vec Ideal S512x128 .f32) (r : Fin 512) (d : Fin 128) : k0_pay3 a (ix3 0 r d) = a (ix2 r d) := by
  pointwise [k0_pay3]

/-- The gradient of the previous block's keys: the part that its own queries gave, and the part that these give. -/
theorem pay4_apply (q : Vec Ideal S1x512x128 .bf16) (dp : FVec Ideal S512x512 .f32) (a : Vec Ideal S512x128 .f32) (c : Fin 512) (d : Fin 128) :
    k0_pay4 (k0_pay12 q) dp a (ix3 0 c d) = a (ix2 c d) + ∑ r : Fin 512, dp (ix2 r c) * q (ix3 0 r d) := by
  pointwise [k0_pay4, k0_pay12, k0_pay1]

/-- The gradient of the previous block's values likewise. -/
theorem pay5_apply (g : Vec Ideal S1x512x128 .bf16) (p : FVec Ideal S512x512 .f32) (a : Vec Ideal S512x128 .f32) (c : Fin 512) (d : Fin 128) :
    k0_pay5 (k0_pay15 g) p a (ix3 0 c d) = a (ix2 c d) + ∑ r : Fin 512, p (ix2 r c) * g (ix3 0 r d) := by
  pointwise [k0_pay5, k0_pay15]

theorem pay9_apply (a : Vec Ideal S512x128 .f32) (r : Fin 512) (d : Fin 128) : k0_pay9 a (ix3 0 r d) = a (ix2 r d) := by
  pointwise [k0_pay9]

theorem pay10_apply (a : Vec Ideal S512x128 .f32) (r : Fin 512) (d : Fin 128) : k0_pay10 a (ix3 0 r d) = a (ix2 r d) := by
  pointwise [k0_pay10]

theorem pay11_apply (a : Vec Ideal S512x128 .f32) (r : Fin 512) (d : Fin 128) : k0_pay11 a (ix3 0 r d) = a (ix2 r d) := by
  pointwise [k0_pay11]

end Cert.KernelIdeal.Attn
-- ==== Proof.Attn.Rows.lean ====
/-
  One row of scores: its greatest, the exponentials, the probabilities and the derivative of the loss by each score, over
  the extended reals. A row of 1024 scores that is −∞ outside 576 neighbouring places has the same probabilities and
  derivatives as the row of those 576, and the derivative is the one that differentiating the softmax gives.
-/
module

public import Idealize.ShloMosaic.Lib.IdealHost

@[expose] public section

noncomputable section

namespace Cert.Band

open Idealize.ShloMosaic Finset

/-! ## Sums over places, most of which hold nothing -/

/-- A sum whose terms outside `m` places from `o` on are zero. -/
theorem sum_window (f : ℕ → EReal) {o m n : ℕ} (h : o + m ≤ n) (hf : ∀ c, c < n → ¬(o ≤ c ∧ c < o + m) → f c = 0) :
    ∑ c ∈ range n, f c = ∑ k ∈ range m, f (o + k) := by
  have h1 : ∑ c ∈ Ico o (o + m), f c = ∑ c ∈ range n, f c := by
    refine sum_subset (fun c hc => ?_) (fun c hc hn => ?_)
    · rw [mem_Ico] at hc; rw [mem_range]; omega
    · rw [mem_range] at hc; rw [mem_Ico] at hn; exact hf c hc hn
  rw [← h1, sum_Ico_eq_sum_range]; congr 1; congr 1; omega

/-- A greatest element likewise, where the others are −∞. -/
theorem sup_window (f : ℕ → EReal) {o m n : ℕ} (h : o + m ≤ n) (hf : ∀ c, c < n → ¬(o ≤ c ∧ c < o + m) → f c = ⊥) :
    (range n).sup f = (range m).sup fun k => f (o + k) := by
  refine le_antisymm (Finset.sup_le fun c hc => ?_) (Finset.sup_le fun k hk => ?_)
  · rw [mem_range] at hc
    by_cases hw : o ≤ c ∧ c < o + m
    · have h2 : c - o ∈ range m := by rw [mem_range]; omega
      have h3 := le_sup (f := fun k => f (o + k)) h2
      rwa [show o + (c - o) = c by omega] at h3
    · rw [hf c hc hw]; exact bot_le
  · rw [mem_range] at hk
    exact le_sup (f := f) (show o + k ∈ range n by rw [mem_range]; omega)

/-- A product with a real that is not negative, taken into a sum. -/
theorem coe_mul_sum {ι : Type} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih =>
    rw [sum_insert ha, sum_insert ha, EReal.left_distrib_of_nonneg_of_ne_top (by exact_mod_cast hr) (EReal.coe_ne_top r), ih]

theorem sum_mul_coe {ι : Type} (s : Finset ι) (f : ι → EReal) {r : ℝ} (hr : 0 ≤ r) : (∑ i ∈ s, f i) * (r : EReal) = ∑ i ∈ s, f i * (r : EReal) := by
  rw [mul_comm, coe_mul_sum s f hr]; exact sum_congr rfl fun i _ => mul_comm _ _

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem div_coe (x : EReal) {r : ℝ} (hr : r ≠ 0) : Ideal.div x r = x * ((r⁻¹ : ℝ) : EReal) := by
  unfold Ideal.div; rw [if_neg (by exact_mod_cast hr), EReal.coe_inv]

/-! ## A row -/

/-- The greatest of the first `n` scores. -/
def top (n : ℕ) (s : ℕ → EReal) : EReal := (range n).sup s

/-- The exponential of a score less the greatest. -/
def ex (n : ℕ) (s : ℕ → EReal) (k : ℕ) : EReal := Ideal.exp (s k - top n s)

/-- The sum of the exponentials. -/
def tot (n : ℕ) (s : ℕ → EReal) : EReal := ∑ k ∈ range n, ex n s k

/-- The probability of a place. -/
def prob (n : ℕ) (s : ℕ → EReal) (k : ℕ) : EReal := ex n s k * Ideal.div 1 (tot n s)

/-- The mean, by the probabilities, of what the places bring. -/
def mean (n : ℕ) (s w : ℕ → EReal) : EReal := ∑ k ∈ range n, prob n s k * w k

/-- The derivative by a score, where the place brings `w`. -/
def der (n : ℕ) (s w : ℕ → EReal) (k : ℕ) : EReal := prob n s k * (w k - mean n s w)

/-- No score is +∞, and some score is a number. -/
structure Good (n : ℕ) (s : ℕ → EReal) : Prop where
  ne_top : ∀ k, k < n → s k ≠ ⊤
  some : ∃ k, k < n ∧ s k ≠ ⊥

variable {n : ℕ} {s : ℕ → EReal}

theorem Good.top_real (h : Good n s) : ∃ r : ℝ, top n s = r := by
  obtain ⟨k, hk, hs⟩ := h.some
  have h1 : top n s ≠ ⊤ := by
    have : top n s < ⊤ := (Finset.sup_lt_iff (by exact bot_lt_top)).mpr fun k hk => lt_top_iff_ne_top.mpr (h.ne_top k (mem_range.mp hk))
    exact this.ne
  have h2 : top n s ≠ ⊥ := by
    intro e
    have h3 : s k ≤ top n s := le_sup (f := s) (mem_range.mpr hk)
    rw [e] at h3; exact hs (le_bot_iff.mp h3)
  exact ⟨(top n s).toReal, (EReal.coe_toReal h1 h2).symm⟩

theorem Good.ex_bot (h : Good n s) {k : ℕ} (hk : s k = ⊥) : ex n s k = 0 := by
  obtain ⟨r, hr⟩ := h.top_real
  unfold ex; rw [hk, hr]; simp

/-- Every exponential is a real that is not negative, and positive where the score is a number. -/
theorem Good.ex_real (h : Good n s) {k : ℕ} (hk : k < n) : ∃ e : ℝ, 0 ≤ e ∧ (s k ≠ ⊥ → 0 < e) ∧ ex n s k = e := by
  obtain ⟨r, hr⟩ := h.top_real
  by_cases hb : s k = ⊥
  · exact ⟨0, le_refl _, fun h' => absurd hb h', by rw [h.ex_bot hb]; simp⟩
  · obtain ⟨x, hx⟩ : ∃ x : ℝ, s k = x := ⟨(s k).toReal, (EReal.coe_toReal (h.ne_top k hk) hb).symm⟩
    refine ⟨Real.exp (x - r), (Real.exp_pos _).le, fun _ => Real.exp_pos _, ?_⟩
    unfold ex; rw [hx, hr, ← EReal.coe_sub, Ideal.exp_coe]

theorem Good.tot_real (h : Good n s) : ∃ l : ℝ, 0 < l ∧ tot n s = l := by
  have hch : ∀ k, ∃ e : ℝ, k < n → 0 ≤ e ∧ (s k ≠ ⊥ → 0 < e) ∧ ex n s k = e := fun k => by
    by_cases hk : k < n
    · obtain ⟨e, he⟩ := h.ex_real hk; exact ⟨e, fun _ => he⟩
    · exact ⟨0, fun h' => absurd h' hk⟩
  choose e he using hch
  refine ⟨∑ k ∈ range n, e k, ?_, ?_⟩
  · obtain ⟨k, hk, hs⟩ := h.some
    exact sum_pos' (fun j hj => (he j (mem_range.mp hj)).1) ⟨k, mem_range.mpr hk, (he k hk).2.1 hs⟩
  · unfold tot; rw [← sum_coe]
    exact sum_congr rfl fun k hk => (he k (mem_range.mp hk)).2.2

theorem Good.prob_bot (h : Good n s) {k : ℕ} (hk : s k = ⊥) : prob n s k = 0 := by
  unfold prob; rw [h.ex_bot hk, zero_mul]

theorem Good.der_bot (h : Good n s) {w : ℕ → EReal} {k : ℕ} (hk : s k = ⊥) : der n s w k = 0 := by
  unfold der; rw [h.prob_bot hk, zero_mul]

/-- The mean does not see what a place with the score −∞ brings. -/
theorem Good.mean_congr (h : Good n s) {w w' : ℕ → EReal} (hw : ∀ k, k < n → s k ≠ ⊥ → w k = w' k) : mean n s w = mean n s w' := by
  refine sum_congr rfl fun k hk => ?_
  by_cases hb : s k = ⊥
  · rw [h.prob_bot hb, zero_mul, zero_mul]
  · rw [hw k (mem_range.mp hk) hb]

theorem Good.der_congr (h : Good n s) {w w' : ℕ → EReal} (hw : ∀ k, k < n → s k ≠ ⊥ → w k = w' k) {k : ℕ} (hk : k < n) : der n s w k = der n s w' k := by
  by_cases hb : s k = ⊥
  · rw [h.der_bot hb, h.der_bot hb]
  · unfold der; rw [h.mean_congr hw, hw k hk hb]

/-- Dividing by the total, as differentiating a quotient does it, gives the same derivative. -/
theorem Good.der_quotient (h : Good n s) (w : ℕ → EReal) {k : ℕ} (hk : k < n) :
    (Ideal.div (w k) (tot n s) + -∑ j ∈ range n, w j * Ideal.div 1 (tot n s * tot n s) * ex n s j) * ex n s k = der n s w k := by
  obtain ⟨l, hl, el⟩ := h.tot_real
  have hch : ∀ j, ∃ e : ℝ, j < n → ex n s j = e := fun j => by
    by_cases hj : j < n
    · obtain ⟨e, -, -, he⟩ := h.ex_real hj; exact ⟨e, fun _ => he⟩
    · exact ⟨0, fun h' => absurd h' hj⟩
  choose e he using hch
  have hc : (0 : ℝ) ≤ l⁻¹ := (inv_pos.mpr hl).le
  have hll : l * l ≠ 0 := (mul_pos hl hl).ne'
  have hm : ∑ j ∈ range n, w j * Ideal.div 1 (tot n s * tot n s) * ex n s j = ((l⁻¹ : ℝ) : EReal) * mean n s w := by
    unfold mean; rw [coe_mul_sum _ _ hc]
    refine sum_congr rfl fun j hj => ?_
    unfold prob
    rw [el, ← EReal.coe_mul, div_coe _ hll, div_coe _ hl.ne', one_mul, one_mul, mul_inv, EReal.coe_mul]
    ac_rfl
  rw [hm, el, div_coe _ hl.ne', ← mul_neg, mul_comm (w k), ← EReal.left_distrib_of_nonneg_of_ne_top (by exact_mod_cast hc) (EReal.coe_ne_top _)]
  unfold der prob
  rw [el, div_coe _ hl.ne', one_mul, ← sub_eq_add_neg]
  ac_rfl

/-! ## The part of a row that is not masked -/

variable {o m : ℕ}

theorem top_window (h : o + m ≤ n) (hs : ∀ c, c < n → ¬(o ≤ c ∧ c < o + m) → s c = ⊥) : top n s = top m fun k => s (o + k) :=
  sup_window s h hs

theorem ex_window (h : o + m ≤ n) (hs : ∀ c, c < n → ¬(o ≤ c ∧ c < o + m) → s c = ⊥) (k : ℕ) : ex n s (o + k) = ex m (fun k => s (o + k)) k := by
  unfold ex; rw [top_window h hs]

theorem tot_window (g : Good n s) (h : o + m ≤ n) (hs : ∀ c, c < n → ¬(o ≤ c ∧ c < o + m) → s c = ⊥) : tot n s = tot m fun k => s (o + k) := by
  unfold tot
  rw [sum_window _ h fun c hc hn => g.ex_bot (hs c hc hn)]
  exact sum_congr rfl fun k _ => ex_window h hs k

theorem prob_window (g : Good n s) (h : o + m ≤ n) (hs : ∀ c, c < n → ¬(o ≤ c ∧ c < o + m) → s c = ⊥) (k : ℕ) : prob n s (o + k) = prob m (fun k => s (o + k)) k := by
  unfold prob; rw [ex_window h hs, tot_window g h hs]

theorem mean_window (g : Good n s) (h : o + m ≤ n) (hs : ∀ c, c < n → ¬(o ≤ c ∧ c < o + m) → s c = ⊥) (w : ℕ → EReal) :
    mean n s w = mean m (fun k => s (o + k)) fun k => w (o + k) := by
  unfold mean
  rw [sum_window _ h fun c hc hn => by rw [g.prob_bot (hs c hc hn), zero_mul]]
  exact sum_congr rfl fun k _ => by rw [prob_window g h hs]

theorem der_window (g : Good n s) (h : o + m ≤ n) (hs : ∀ c, c < n → ¬(o ≤ c ∧ c < o + m) → s c = ⊥) (w : ℕ → EReal) (k : ℕ) :
    der n s w (o + k) = der m (fun k => s (o + k)) (fun k => w (o + k)) k := by
  unfold der; rw [prob_window g h hs, mean_window g h hs]

theorem Good.window (g : Good n s) (h : o + m ≤ n) (hs : ∀ c, c < n → ¬(o ≤ c ∧ c < o + m) → s c = ⊥) : Good m fun k => s (o + k) where
  ne_top k hk := g.ne_top _ (by omega)
  some := by
    obtain ⟨c, hc, hb⟩ := g.some
    have hw : o ≤ c ∧ c < o + m := by by_contra hn; exact hb (hs c hc hn)
    exact ⟨c - o, by omega, by rwa [show o + (c - o) = c by omega]⟩

end Cert.Band
-- ==== Proof.Attn.Sums.lean ====
/-
  One head of attention over a band of keys, and its gradients, as functions of positions: what a query sees, its scores,
  the derivatives by them, and the sums that gather a key's gradient from the queries that see it.

  A query at position `t` is in the block `t / 512`, and meets the 1024 keys of that block and the one before; the key of
  column `c` is at position `512 * (t / 512) + c - 512`. It sees those of its own group of 64 and of the eight groups
  before.
-/
module

public import proofs.«01_k».proof.Proof.Attn.Rows

@[expose] public section

noncomputable section

namespace Cert.Band

open Idealize.ShloMosaic Finset

/-- The query at `t` sees the key of column `c`. -/
abbrev seen (t c : ℕ) : Prop := 64 * (t % 512 / 64) ≤ c ∧ c < 64 * (t % 512 / 64) + 576 ∧ 512 ≤ 512 * (t / 512) + c

/-- The position of the key of column `c`. -/
def pos (t c : ℕ) : ℕ := 512 * (t / 512) + c - 512

/-- What a head of attention is given: queries, keys, values, the gradient of its output, the bias and the scale. -/
structure Head where
  q : ℕ → Fin 128 → EReal
  k : ℕ → Fin 128 → EReal
  v : ℕ → Fin 128 → EReal
  g : ℕ → Fin 128 → EReal
  b : ℕ → ℕ → EReal
  σ : EReal

variable (H : Head)

/-- The score of the query at `t` and the key of column `c`. -/
def Head.score (t c : ℕ) : EReal := if seen t c then (∑ d, H.q t d * H.k (pos t c) d) * H.σ + H.b (t % 512) c else ⊥

/-- The derivative of the loss by that key's probability. -/
def Head.wt (t c : ℕ) : EReal := if seen t c then ∑ d, H.g t d * H.v (pos t c) d else 0

/-- The probability. -/
def Head.P (t c : ℕ) : EReal := prob 1024 (H.score t) c

/-- The derivative of the loss by the score. -/
def Head.D (t c : ℕ) : EReal := der 1024 (H.score t) (H.wt t) c

/-- Every row of scores has a greatest, and it is a number. -/
def Head.Ok : Prop := ∀ t, t < 4096 → Good 1024 (H.score t)

variable {H}

theorem Head.score_bot {t c : ℕ} (h : ¬seen t c) : H.score t c = ⊥ := if_neg h

theorem Head.Ok.D_zero (ok : H.Ok) {t c : ℕ} (ht : t < 4096) (h : ¬seen t c) : H.D t c = 0 := (ok t ht).der_bot (Head.score_bot h)

theorem Head.Ok.P_zero (ok : H.Ok) {t c : ℕ} (ht : t < 4096) (h : ¬seen t c) : H.P t c = 0 := (ok t ht).prob_bot (Head.score_bot h)

/-- The gradient of a query. -/
def Head.dq (H : Head) (t : ℕ) (d : Fin 128) : EReal := ∑ c ∈ range 1024, H.D t c * H.σ * H.k (pos t c) d

/-- What the queries of block `i` give to the gradient of the key of column `c`, for each of them weighed by `F`. -/
def fromBlock (F : ℕ → ℕ → EReal) (i c : ℕ) : EReal := ∑ r ∈ range 512, F (512 * i + r) c

/-- A key's gradient, gathered block by block: from its own block's queries and the next block's. -/
def gather (F : ℕ → ℕ → EReal) (u : ℕ) : EReal :=
  fromBlock F (u / 512) (512 + u % 512) + if u / 512 < 7 then fromBlock F (u / 512 + 1) (u % 512) else 0

/-- The gradient of a key. -/
def Head.dk (H : Head) (u : ℕ) (d : Fin 128) : EReal := gather (fun t c => H.D t c * H.σ * H.q t d) u

/-- The gradient of a value. -/
def Head.dv (H : Head) (u : ℕ) (d : Fin 128) : EReal := gather (fun t c => H.P t c * H.g t d) u

/-- The gradient of the bias. -/
def Head.ds (H : Head) (r c : ℕ) : EReal := ∑ i ∈ range 8, H.D (512 * i + r) c

/-- A sum over places, group by group. -/
theorem sum_groups (f : ℕ → EReal) (m n : ℕ) : ∑ t ∈ range (m * n), f t = ∑ T ∈ range n, ∑ r ∈ range m, f (m * T + r) := by
  induction n with
  | zero => simp
  | succ n ih => rw [Nat.mul_succ, sum_range_add, ih, sum_range_succ]

/-- The weight that the query at `t` gives to the key at `u`, where that key is among the 1024 that it meets. -/
def atKey (F : ℕ → ℕ → EReal) (u t : ℕ) : EReal :=
  if 512 * (t / 512) ≤ u + 512 ∧ u + 512 - 512 * (t / 512) < 1024 then F t (u + 512 - 512 * (t / 512)) else 0

variable {F : ℕ → ℕ → EReal}

theorem gather_eq (u : ℕ) (hu : u < 4096) : gather F u = ∑ t ∈ range 4096, atKey F u t := by
  have hA : ∀ t, ¬(512 * (u / 512) ≤ t ∧ t < 512 * (u / 512) + 1024) → atKey F u t = 0 := fun t ht => if_neg (by omega)
  have h1 : ∀ r, r < 512 → atKey F u (512 * (u / 512) + r) = F (512 * (u / 512) + r) (512 + u % 512) := fun r hr => by
    unfold atKey
    rw [if_pos (by omega)]; congr 1; omega
  have h2 : ∀ r, r < 512 → atKey F u (512 * (u / 512) + (512 + r)) = F (512 * (u / 512 + 1) + r) (u % 512) := fun r hr => by
    unfold atKey
    rw [if_pos (by omega)]; congr 1 <;> omega
  unfold gather fromBlock
  by_cases h7 : u / 512 < 7
  · rw [if_pos h7, sum_window (atKey F u) (show 512 * (u / 512) + (512 + 512) ≤ 4096 by omega) (fun t _ hn => hA t (by omega)), sum_range_add]
    exact congrArg₂ _ (sum_congr rfl fun r hr => (h1 r (mem_range.mp hr)).symm) (sum_congr rfl fun r hr => (h2 r (mem_range.mp hr)).symm)
  · rw [if_neg h7, add_zero, sum_window (atKey F u) (show 512 * (u / 512) + 512 ≤ 4096 by omega) (fun t ht hn => hA t (by omega))]
    exact sum_congr rfl fun r hr => (h1 r (mem_range.mp hr)).symm

/-- The same gradient, gathered by groups of 64: from the key's own group of queries and the eight after it. -/
theorem gather_groups (hF : ∀ t c, t < 4096 → ¬seen t c → F t c = 0) (u : ℕ) (hu : u < 4096) :
    gather F u = ∑ j ∈ range 9, if u / 64 + j < 64 then ∑ r ∈ range 64, F (64 * (u / 64 + j) + r) (64 * ((u / 64 + j) % 8) + (64 * (8 - j) + u % 64)) else 0 := by
  have hA : ∀ T r, r < 64 → T < 64 → ¬(u / 64 ≤ T ∧ T < u / 64 + 9) → atKey F u (64 * T + r) = 0 := fun T r hr hT hn => by
    unfold atKey
    split
    · exact hF _ _ (by omega) (fun hs => by omega)
    · rfl
  rw [gather_eq u hu, show 4096 = 64 * 64 from rfl, sum_groups]
  let G : ℕ → EReal := fun T => if T < 64 then ∑ r ∈ range 64, atKey F u (64 * T + r) else 0
  have e1 : ∑ T ∈ range 64, ∑ r ∈ range 64, atKey F u (64 * T + r) = ∑ T ∈ range 73, G T := by
    rw [sum_window G (show 0 + 64 ≤ 73 by omega) fun T _ hn => if_neg (by omega)]
    exact sum_congr rfl fun T hT => by rw [zero_add]; exact (if_pos (mem_range.mp hT)).symm
  rw [e1, sum_window G (show u / 64 + 9 ≤ 73 by omega) fun T _ hn => ?_]
  · refine sum_congr rfl fun j hj => ?_
    have hj' := mem_range.mp hj
    show (if _ then _ else _) = _
    split
    · refine sum_congr rfl fun r hr => ?_
      have hr' := mem_range.mp hr
      unfold atKey
      rw [if_pos (by omega)]; congr 1; omega
    · rfl
  · show (if _ then _ else _) = _
    split
    · exact sum_eq_zero fun r hr => hA T r (mem_range.mp hr) ‹_› hn
    · rfl

theorem Head.Ok.dk_groups (ok : H.Ok) (u : ℕ) (hu : u < 4096) (d : Fin 128) :
    H.dk u d = ∑ j ∈ range 9, if u / 64 + j < 64 then ∑ r ∈ range 64, H.D (64 * (u / 64 + j) + r) (64 * ((u / 64 + j) % 8) + (64 * (8 - j) + u % 64)) * H.σ * H.q (64 * (u / 64 + j) + r) d else 0 :=
  gather_groups (F := fun t c => H.D t c * H.σ * H.q t d) (fun t c ht hn => by rw [ok.D_zero ht hn, zero_mul, zero_mul]) u hu

theorem Head.Ok.dv_groups (ok : H.Ok) (u : ℕ) (hu : u < 4096) (d : Fin 128) :
    H.dv u d = ∑ j ∈ range 9, if u / 64 + j < 64 then ∑ r ∈ range 64, H.P (64 * (u / 64 + j) + r) (64 * ((u / 64 + j) % 8) + (64 * (8 - j) + u % 64)) * H.g (64 * (u / 64 + j) + r) d else 0 :=
  gather_groups (F := fun t c => H.P t c * H.g t d) (fun t c ht hn => by rw [ok.P_zero ht hn, zero_mul]) u hu

/-! ## The 576 columns of a query's own band -/

/-- A query's scores in the band of its group. -/
def Head.bandScore (H : Head) (t k : ℕ) : EReal := H.score t (64 * (t % 512 / 64) + k)

/-- The derivatives by the probabilities there. -/
def Head.bandWt (H : Head) (t k : ℕ) : EReal := H.wt t (64 * (t % 512 / 64) + k)

theorem outside {t c : ℕ} (h : ¬(64 * (t % 512 / 64) ≤ c ∧ c < 64 * (t % 512 / 64) + 576)) : H.score t c = ⊥ :=
  Head.score_bot fun hs => h ⟨hs.1, hs.2.1⟩

theorem Head.Ok.band (ok : H.Ok) {t : ℕ} (ht : t < 4096) : Good 576 (H.bandScore t) :=
  (ok t ht).window (by omega) fun _ _ hn => outside hn

theorem Head.Ok.D_band (ok : H.Ok) {t : ℕ} (ht : t < 4096) (k : ℕ) : H.D t (64 * (t % 512 / 64) + k) = der 576 (H.bandScore t) (H.bandWt t) k :=
  der_window (ok t ht) (by omega) (fun _ _ hn => outside hn) _ k

theorem Head.Ok.P_band (ok : H.Ok) {t : ℕ} (ht : t < 4096) (k : ℕ) : H.P t (64 * (t % 512 / 64) + k) = prob 576 (H.bandScore t) k :=
  prob_window (ok t ht) (by omega) (fun _ _ hn => outside hn) k

/-- A query's gradient from the band of its group, the scale taken out of the sum. -/
theorem Head.Ok.dq_band (ok : H.Ok) {s : ℝ} (hs : 0 ≤ s) (eσ : H.σ = s) {t : ℕ} (ht : t < 4096) (d : Fin 128) :
    H.dq t d = (∑ k ∈ range 576, der 576 (H.bandScore t) (H.bandWt t) k * H.k (pos t (64 * (t % 512 / 64) + k)) d) * H.σ := by
  unfold Head.dq
  rw [sum_window _ (show 64 * (t % 512 / 64) + 576 ≤ 1024 by omega) fun c _ hn => by
    rw [ok.D_zero ht (fun h => hn ⟨h.1, h.2.1⟩), zero_mul, zero_mul], eσ, sum_mul_coe _ _ hs]
  exact sum_congr rfl fun k _ => by rw [ok.D_band ht]; ac_rfl

end Cert.Band
-- ==== Proof.Attn.Block.lean ====
/-
  What the body of the backward attention call computes from one block of queries is the head's own: the scores of
  `Band.Head`, the probabilities, and the derivatives by the scores.
-/
module

public import proofs.«01_k».proof.Proof.Attn.Pay
public import proofs.«01_k».proof.Proof.Attn.Sums
public import Idealize.ShloMosaic.Lib.Pipeline.Value
public import Idealize.ShloMosaic.Lib.Pipeline.ValueKit

@[expose] public section

set_option maxRecDepth 16384

noncomputable section

namespace Cert.KernelIdeal.Attn

open Cert.KernelIdeal Cert.KernelIdeal.Gen Idealize.ShloMosaic Cert.Band

/-- Two halves of a row as one. -/
def join (f f' : Fin 512 → EReal) (c : ℕ) : EReal := if h : c < 512 then f ⟨c, h⟩ else if h' : c - 512 < 512 then f' ⟨c - 512, h'⟩ else 0

theorem join_lo (f f' : Fin 512 → EReal) (c : Fin 512) : join f f' c = f c := dif_pos c.isLt

theorem join_hi (f f' : Fin 512 → EReal) (c : Fin 512) : join f f' (512 + c) = f' c := by
  have h := c.isLt
  unfold join
  rw [dif_neg (by omega), dif_pos (by omega)]
  exact congrArg f' (Fin.ext (Nat.add_sub_cancel_left ..))

theorem sum_halves (f : ℕ → EReal) : ∑ c ∈ Finset.range 1024, f c = ∑ c : Fin 512, f c + ∑ c : Fin 512, f (512 + c) := by
  rw [show 1024 = 512 + 512 from rfl, Finset.sum_range_add, Finset.sum_range, Finset.sum_range]

theorem sup_halves (f : ℕ → EReal) :
    (Finset.range 1024).sup f = max (Finset.univ.fold max ⊥ fun c : Fin 512 => f c) (Finset.univ.fold max ⊥ fun c : Fin 512 => f (512 + c)) := by
  refine le_antisymm (Finset.sup_le fun c hc => ?_) (max_le ?_ ?_)
  · rw [Finset.mem_range] at hc
    by_cases h : c < 512
    · exact le_max_of_le_left ((Finset.le_fold_max _).mpr (Or.inr ⟨⟨c, h⟩, Finset.mem_univ _, le_refl _⟩))
    · refine le_max_of_le_right ((Finset.le_fold_max _).mpr (Or.inr ⟨⟨c - 512, by omega⟩, Finset.mem_univ _, ?_⟩))
      show f c ≤ f (512 + (c - 512))
      rw [show 512 + (c - 512) = c by omega]
  · exact (Finset.fold_max_le _).mpr ⟨bot_le, fun c _ => Finset.le_sup (f := f) (by rw [Finset.mem_range]; omega)⟩
  · exact (Finset.fold_max_le _).mpr ⟨bot_le, fun c _ => Finset.le_sup (f := f) (by rw [Finset.mem_range]; omega)⟩

/-- The bias of the previous block's keys. -/
def bLo (b : Vec Ideal S1x512x1024 .f32) : Vec Ideal S1x512x512 .f32 := View.ld b (Rect.unit ![0, 0, 0] ![1, 512, 512] inb_S1x512x1024_S1x512x512_0_0_0)

/-- The bias of the current block's keys. -/
def bHi (b : Vec Ideal S1x512x1024 .f32) : Vec Ideal S1x512x512 .f32 := View.ld b (Rect.unit ![0, 0, 512] ![1, 512, 512] inb_S1x512x1024_S1x512x512_0_0_512)

theorem bLo_apply (b : Vec Ideal S1x512x1024 .f32) (r c : Fin 512) : bLo b (ix3 0 r c) = b (ix3 0 r ⟨c, by omega⟩) :=
  View.ld_unit_apply_of b _ _ _ _ _ (by intro a; fin_cases a <;> simp [ix3])

theorem bHi_apply (b : Vec Ideal S1x512x1024 .f32) (r c : Fin 512) : bHi b (ix3 0 r c) = b (ix3 0 r ⟨512 + c, by omega⟩) :=
  View.ld_unit_apply_of b _ _ _ _ _ (by intro a; fin_cases a <;> simp [ix3])

section payloads

variable (a : BitVec 32) (q kp kc vp vc : Vec Ideal S1x512x128 .bf16) (b : Vec Ideal S1x512x1024 .f32) (g : Vec Ideal S1x512x128 .bf16)

/-- The scores against the current block, and the two blocks of exponentials' words, as the body names them. -/
def sC : FVec Ideal S512x512 .f32 := k0_pay17 q kc (bHi b)
def eP : FVec Ideal S512x512 .f32 := k0_pay19 a q kp kc (bLo b) (bHi b)
def mB : FVec Ideal S512x512 .f32 := k0_pay20 a q kp kc (bLo b) (bHi b)
/-- The probabilities of the previous block's keys and of the current block's. -/
def pP : FVec Ideal S512x512 .f32 := k0_pay23 (sC q kc b) (eP a q kp kc b) (mB a q kp kc b)
def pC : FVec Ideal S512x512 .f32 := k0_pay24 (sC q kc b) (eP a q kp kc b) (mB a q kp kc b)
/-- The derivatives by the scores of the previous block's keys and of the current block's. -/
def dP : FVec Ideal S512x512 .f32 := k0_pay28 (k0_pay15 g) (sC q kc b) (eP a q kp kc b) (mB a q kp kc b) vp vc
def dC : FVec Ideal S512x512 .f32 := k0_pay29 (k0_pay15 g) (sC q kc b) (eP a q kp kc b) (mB a q kp kc b) vp vc

/-- A row of scores, both blocks. -/
def row (r : Fin 512) : ℕ → EReal := join (fun c => k0_pay16 a q kp (bLo b) (ix2 r c)) fun c => k0_pay17 q kc (bHi b) (ix2 r c)

/-- A row of the derivatives by the probabilities, both blocks. -/
def wrow (r : Fin 512) : ℕ → EReal := join (fun c => k0_pay25 (k0_pay15 g) vp (ix2 r c)) fun c => k0_pay26 (k0_pay15 g) vc (ix2 r c)

theorem top_row (r : Fin 512) : k0_pay18 a q kp kc (bLo b) (bHi b) (ix2 r 0) = top 1024 (row a q kp kc b r) := by
  rw [pay18_apply, top, sup_halves]
  simp only [row, join_lo, join_hi]

theorem ex_lo (r c : Fin 512) : eP a q kp kc b (ix2 r c) = ex 1024 (row a q kp kc b r) c := by
  rw [eP, pay19_apply, top_row, ex]
  simp only [row, join_lo]

theorem ex_hi (r c : Fin 512) : k0_pay21 (sC q kc b) (mB a q kp kc b) (ix2 r c) = ex 1024 (row a q kp kc b r) (512 + c) := by
  rw [pay21_apply, mB, pay20_apply, top_row, ex, sC]
  simp only [row, join_hi]

theorem inv_tot (r : Fin 512) : k0_pay22 (sC q kc b) (eP a q kp kc b) (mB a q kp kc b) (ix2 r 0) = Ideal.div 1 (tot 1024 (row a q kp kc b r)) := by
  rw [pay22_apply, tot, sum_halves]
  simp only [ex_lo, ex_hi]

theorem pP_row (r c : Fin 512) : pP a q kp kc b (ix2 r c) = prob 1024 (row a q kp kc b r) c := by
  rw [pP, pay23_apply, inv_tot, ex_lo, prob]

theorem pC_row (r c : Fin 512) : pC a q kp kc b (ix2 r c) = prob 1024 (row a q kp kc b r) (512 + c) := by
  rw [pC, pay24_apply, inv_tot, ex_hi, prob]

theorem mean_row (r : Fin 512) :
    k0_pay27 (k0_pay15 g) (sC q kc b) (eP a q kp kc b) (mB a q kp kc b) vp vc (ix2 r 0) = mean 1024 (row a q kp kc b r) (wrow vp vc g r) := by
  rw [pay27_apply, mean, sum_halves]
  exact congrArg₂ _ (Finset.sum_congr rfl fun c _ => congrArg₂ _ (pP_row a q kp kc b r c) (by rw [wrow, join_lo])) (Finset.sum_congr rfl fun c _ => congrArg₂ _ (pC_row a q kp kc b r c) (by rw [wrow, join_hi]))

theorem dP_row (r c : Fin 512) : dP a q kp kc vp vc b g (ix2 r c) = der 1024 (row a q kp kc b r) (wrow vp vc g r) c := by
  rw [dP, pay28_apply, mean_row, der]
  exact congrArg₂ _ (pP_row a q kp kc b r c) (congrArg₂ _ (by rw [wrow, join_lo]) rfl)

theorem dC_row (r c : Fin 512) : dC a q kp kc vp vc b g (ix2 r c) = der 1024 (row a q kp kc b r) (wrow vp vc g r) (512 + c) := by
  rw [dC, pay29_apply, mean_row, der]
  exact congrArg₂ _ (pC_row a q kp kc b r c) (congrArg₂ _ (by rw [wrow, join_hi]) rfl)

end payloads

/-- The blocks that the body finds at block `i` of a head hold that head's queries, keys, values, gradients and bias; the
    bias is −∞ outside the band. -/
structure Holds (H : Head) (i : ℕ) (q kp kc vp vc : Vec Ideal S1x512x128 .bf16) (b : Vec Ideal S1x512x1024 .f32) (g : Vec Ideal S1x512x128 .bf16) : Prop where
  lt : i < 8
  q : ∀ (r : Fin 512) (d : Fin 128), q (ix3 0 r d) = H.q (512 * i + r) d
  kp : ∀ (c : Fin 512) (d : Fin 128), 1 ≤ i → kp (ix3 0 c d) = H.k (512 * i + c - 512) d
  kc : ∀ (c : Fin 512) (d : Fin 128), kc (ix3 0 c d) = H.k (512 * i + (512 + c) - 512) d
  vp : ∀ (c : Fin 512) (d : Fin 128), 1 ≤ i → vp (ix3 0 c d) = H.v (512 * i + c - 512) d
  vc : ∀ (c : Fin 512) (d : Fin 128), vc (ix3 0 c d) = H.v (512 * i + (512 + c) - 512) d
  g : ∀ (r : Fin 512) (d : Fin 128), g (ix3 0 r d) = H.g (512 * i + r) d
  b : ∀ (r : Fin 512) (c : Fin 1024), b (ix3 0 r c) = if 64 * (r.val / 64) ≤ c.val ∧ c.val < 64 * (r.val / 64) + 576 then H.b r c else ⊥
  σ : H.σ = σ

section holds

variable {H : Head} {i : ℕ} {q kp kc vp vc : Vec Ideal S1x512x128 .bf16} {b : Vec Ideal S1x512x1024 .f32} {g : Vec Ideal S1x512x128 .bf16}

theorem word_eq_zero (h : i < 8) : BitVec.ofNat 32 i = 0#32 ↔ i = 0 := by
  constructor
  · intro e
    have := congrArg BitVec.toNat e
    simp only [BitVec.toNat_ofNat] at this
    omega
  · rintro rfl; rfl

theorem Holds.row (h : Holds H i q kp kc vp vc b g) (r : Fin 512) (c : ℕ) (hc : c < 1024) :
    row (BitVec.ofNat 32 i) q kp kc b r c = H.score (512 * i + r) c := by
  have hi := h.lt
  have hr := r.isLt
  have e1 : (512 * i + r.val) % 512 = r := by omega
  have e2 : (512 * i + r.val) / 512 = i := by omega
  unfold Head.score pos
  simp only [e1, e2]
  by_cases hlo : c < 512
  · rw [Attn.row, show c = ((⟨c, hlo⟩ : Fin 512) : ℕ) from rfl, join_lo, pay16_apply, bLo_apply, h.b]
    simp only [word_eq_zero hi]
    by_cases h0 : i = 0
    · rw [if_pos h0, EReal.add_bot, if_neg (by simp only [seen, e1, e2]; omega)]
    · rw [if_neg h0, add_zero]
      by_cases hb : 64 * (r.val / 64) ≤ c ∧ c < 64 * (r.val / 64) + 576
      · rw [if_pos hb, if_pos (by simp only [seen, e1, e2]; omega), h.σ]
        simp only [h.q, h.kp _ _ (show 1 ≤ i by omega)]
      · rw [if_neg hb, if_neg (by simp only [seen, e1, e2]; omega), EReal.add_bot]
  · obtain ⟨c', rfl⟩ : ∃ c' : Fin 512, c = 512 + c'.val := ⟨⟨c - 512, by omega⟩, by simp only; omega⟩
    have hc' := c'.isLt
    rw [Attn.row, join_hi, pay17_apply, bHi_apply, h.b]
    by_cases hb : 64 * (r.val / 64) ≤ 512 + c'.val ∧ 512 + c'.val < 64 * (r.val / 64) + 576
    · rw [if_pos hb, if_pos (by simp only [seen, e1, e2]; omega), h.σ]
      simp only [h.q, h.kc]
    · rw [if_neg hb, if_neg (by simp only [seen, e1, e2]; omega), EReal.add_bot]

theorem Holds.wrow (h : Holds H i q kp kc vp vc b g) (r : Fin 512) (c : ℕ) (hc : c < 1024) (hs : H.score (512 * i + r) c ≠ ⊥) :
    wrow vp vc g r c = H.wt (512 * i + r) c := by
  have hi := h.lt
  have hr := r.isLt
  have e2 : (512 * i + r.val) / 512 = i := by omega
  have hseen : seen (512 * i + r) c := by by_contra hn; exact hs (Head.score_bot hn)
  unfold Head.wt pos
  rw [if_pos hseen, e2]
  have hx := hseen.2.2
  rw [e2] at hx
  by_cases hlo : c < 512
  · rw [Attn.wrow, show c = ((⟨c, hlo⟩ : Fin 512) : ℕ) from rfl, join_lo, pay25_apply]
    simp only [h.g, h.vp _ _ (show 1 ≤ i by omega)]
  · obtain ⟨c', rfl⟩ : ∃ c' : Fin 512, c = 512 + c'.val := ⟨⟨c - 512, by omega⟩, by simp only; omega⟩
    rw [Attn.wrow, join_hi, pay26_apply]
    simp only [h.g, h.vc]

theorem top_congr {n : ℕ} {s s' : ℕ → EReal} (h : ∀ k, k < n → s k = s' k) : top n s = top n s' :=
  Finset.sup_congr rfl fun k hk => h k (Finset.mem_range.mp hk)

theorem prob_congr {n : ℕ} {s s' : ℕ → EReal} (h : ∀ k, k < n → s k = s' k) {k : ℕ} (hk : k < n) : prob n s k = prob n s' k := by
  unfold prob tot ex
  rw [top_congr h, h k hk]
  exact congrArg _ (congrArg _ (Finset.sum_congr rfl fun j hj => by rw [h j (Finset.mem_range.mp hj)]))

theorem der_congr {n : ℕ} {s s' w : ℕ → EReal} (h : ∀ k, k < n → s k = s' k) {k : ℕ} (hk : k < n) : der n s w k = der n s' w k := by
  unfold der mean
  rw [prob_congr h hk]
  exact congrArg _ (congrArg _ (Finset.sum_congr rfl fun j hj => by rw [prob_congr h (Finset.mem_range.mp hj)]))

theorem Holds.P (h : Holds H i q kp kc vp vc b g) (r : Fin 512) {c : ℕ} (hc : c < 1024) :
    prob 1024 (Attn.row (BitVec.ofNat 32 i) q kp kc b r) c = H.P (512 * i + r) c :=
  prob_congr (h.row r) hc

theorem Holds.D (h : Holds H i q kp kc vp vc b g) (ok : H.Ok) (r : Fin 512) {c : ℕ} (hc : c < 1024) :
    der 1024 (Attn.row (BitVec.ofNat 32 i) q kp kc b r) (Attn.wrow vp vc g r) c = H.D (512 * i + r) c := by
  have hi := h.lt
  rw [der_congr (h.row r) hc]
  exact (ok _ (by omega)).der_congr (fun k hk hs => h.wrow r k hk hs) hc

theorem Holds.pP (h : Holds H i q kp kc vp vc b g) (r c : Fin 512) : pP (BitVec.ofNat 32 i) q kp kc b (ix2 r c) = H.P (512 * i + r) c :=
  (pP_row ..).trans (h.P r (by omega))

theorem Holds.pC (h : Holds H i q kp kc vp vc b g) (r c : Fin 512) : pC (BitVec.ofNat 32 i) q kp kc b (ix2 r c) = H.P (512 * i + r) (512 + c) :=
  (pC_row ..).trans (h.P r (by omega))

theorem Holds.dP (h : Holds H i q kp kc vp vc b g) (ok : H.Ok) (r c : Fin 512) : dP (BitVec.ofNat 32 i) q kp kc vp vc b g (ix2 r c) = H.D (512 * i + r) c :=
  (dP_row ..).trans (h.D ok r (by omega))

theorem Holds.dC (h : Holds H i q kp kc vp vc b g) (ok : H.Ok) (r c : Fin 512) : dC (BitVec.ofNat 32 i) q kp kc vp vc b g (ix2 r c) = H.D (512 * i + r) (512 + c) :=
  (dC_row ..).trans (h.D ok r (by omega))

/-- A sum over a block's queries. -/
theorem fromBlock_eq (F : ℕ → ℕ → EReal) (i c : ℕ) : fromBlock F i c = ∑ r : Fin 512, F (512 * i + r) c := Finset.sum_range _

/-- The gradient of the block's queries. -/
theorem Holds.dq (h : Holds H i q kp kc vp vc b g) (ok : H.Ok) (r : Fin 512) (d : Fin 128) :
    k0_pay6 (k0_pay13 kp) (k0_pay14 kc) (Attn.dC (BitVec.ofNat 32 i) q kp kc vp vc b g) (k0_pay34 (k0_pay15 g) (sC q kc b) (eP (BitVec.ofNat 32 i) q kp kc b) (mB (BitVec.ofNat 32 i) q kp kc b) vp vc) (ix2 r d)
      = H.dq (512 * i + r) d := by
  have hi := h.lt
  have hr := r.isLt
  have e2 : (512 * i + r.val) / 512 = i := by omega
  rw [pay6_apply, Head.dq, sum_halves]
  refine congrArg₂ _ (Finset.sum_congr rfl fun c _ => ?_) (Finset.sum_congr rfl fun c _ => ?_)
  · rw [pay34_apply, show k0_pay28 (k0_pay15 g) (sC q kc b) (eP (BitVec.ofNat 32 i) q kp kc b) (mB (BitVec.ofNat 32 i) q kp kc b) vp vc (ix2 r c) = _ from h.dP ok r c, h.σ]
    have hc := c.isLt
    by_cases h0 : i = 0
    · rw [ok.D_zero (by omega) (by omega), zero_mul, zero_mul, zero_mul]
    · rw [h.kp _ _ (by omega), pos, e2]
  · rw [h.dC ok, h.σ, h.kc, pos, e2]

/-- What the block's queries give to the current block's keys. -/
theorem Holds.dkc (h : Holds H i q kp kc vp vc b g) (ok : H.Ok) (c : Fin 512) (d : Fin 128) :
    k0_pay7 (k0_pay12 q) (Attn.dC (BitVec.ofNat 32 i) q kp kc vp vc b g) (ix2 c d) = fromBlock (fun t c => H.D t c * H.σ * H.q t d) i (512 + c) := by
  rw [pay7_apply, fromBlock_eq]
  exact Finset.sum_congr rfl fun r _ => by rw [h.dC ok, h.σ, h.q]

/-- What they give to the previous block's keys, added to what those hold. -/
theorem Holds.dkp (h : Holds H i q kp kc vp vc b g) (ok : H.Ok) (a : Vec Ideal S512x128 .f32) (c : Fin 512) (d : Fin 128) :
    k0_pay4 (k0_pay12 q) (k0_pay34 (k0_pay15 g) (sC q kc b) (eP (BitVec.ofNat 32 i) q kp kc b) (mB (BitVec.ofNat 32 i) q kp kc b) vp vc) a (ix3 0 c d)
      = a (ix2 c d) + fromBlock (fun t c => H.D t c * H.σ * H.q t d) i c := by
  rw [pay4_apply, fromBlock_eq]
  refine congrArg _ (Finset.sum_congr rfl fun r _ => ?_)
  rw [pay34_apply, show k0_pay28 (k0_pay15 g) (sC q kc b) (eP (BitVec.ofNat 32 i) q kp kc b) (mB (BitVec.ofNat 32 i) q kp kc b) vp vc (ix2 r c) = _ from h.dP ok r c, h.σ, h.q]

/-- What they give to the current block's values. -/
theorem Holds.dvc (h : Holds H i q kp kc vp vc b g) (c : Fin 512) (d : Fin 128) :
    k0_pay8 (k0_pay15 g) (Attn.pC (BitVec.ofNat 32 i) q kp kc b) (ix2 c d) = fromBlock (fun t c => H.P t c * H.g t d) i (512 + c) := by
  rw [pay8_apply, fromBlock_eq]
  exact Finset.sum_congr rfl fun r _ => by rw [h.pC, h.g]

/-- What they give to the previous block's values, added to what those hold. -/
theorem Holds.dvp (h : Holds H i q kp kc vp vc b g) (a : Vec Ideal S512x128 .f32) (c : Fin 512) (d : Fin 128) :
    k0_pay5 (k0_pay15 g) (Attn.pP (BitVec.ofNat 32 i) q kp kc b) a (ix3 0 c d) = a (ix2 c d) + fromBlock (fun t c => H.P t c * H.g t d) i c := by
  rw [pay5_apply, fromBlock_eq]
  exact congrArg _ (Finset.sum_congr rfl fun r _ => by rw [h.pP, h.g])

end holds

end Cert.KernelIdeal.Attn
-- ==== Proof.Attn.Open.lean ====
/-
  What the stores of the backward attention call's body leave, at each of its three kinds of point, in the words of the
  entries that `Pay` names.
-/
module

public import proofs.«01_k».proof.Proof.Attn.Frame
public import proofs.«01_k».proof.Proof.Attn.Block

@[expose] public section

set_option maxRecDepth 16384

noncomputable section

namespace Cert.KernelIdeal.Attn

open Cert.KernelIdeal Cert.KernelIdeal.Gen Idealize.ShloMosaic Idealize.ShloMosaic.TcCoe Cert.Band

variable (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x1024 .f32) (harg8 : arg8.IsWhole) (arg9 : Memref sig .tc .vmem S1x512x128 .bf16) (harg9 : arg9.IsWhole) (arg10 : Memref sig .tc .vmem S3x512x128 .bf16) (harg10 : arg10.IsWhole) (arg11 : Memref sig .tc .vmem S1x512x1024 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole)
  (x0 x1 x2 x3 x4 : Vec Ideal S1x512x128 .bf16) (x5 : Vec Ideal S1x512x1024 .f32) (x6 : Vec Ideal S1x512x128 .bf16) (xo8 : Vec Ideal S1x512x1024 .f32) (xs0 xs1 xs2 : Vec Ideal S512x128 .f32)

private theorem hz2 : (![0, 0] : Fin 2 → Nat) = fun _ => 0 := by funext a; fin_cases a <;> rfl
private theorem hz3 : (![0, 0, 0] : Fin 3 → Nat) = fun _ => 0 := by funext a; fin_cases a <;> rfl

/-- An index of a tile of one plane, by its two other coordinates. -/
theorem eq_ix3 {m n : ℕ} (x : (⟨3, ![1, m, n]⟩ : Shape).Idx) (r : Fin m) (d : Fin n) (h1 : (x 1 : ℕ) = r) (h2 : (x 2 : ℕ) = d) : x = ix3 0 r d := by
  funext a
  fin_cases a
  · exact Fin.ext (by have := (x 0).isLt; simp only [ix3]; change (x 0 : ℕ) < 1 at this; change (x 0 : ℕ) = 0; omega)
  · exact Fin.ext h1
  · exact Fin.ext h2

/-- Three stores of a plane each, read at an index of each plane. -/
theorem planes (w0 w1 w2 : Vec Ideal S1x512x128 .bf16) (p : Fin 3) (r : Fin 512) (d : Fin 128) :
    View.canon ([⟨Rect.unit ![2, 0, 0] ![1, 512, 128] inb_S3x512x128_S1x512x128_2_0_0, w2⟩, ⟨Rect.unit ![1, 0, 0] ![1, 512, 128] inb_S3x512x128_S1x512x128_1_0_0, w1⟩,
        ⟨Rect.unit ![0, 0, 0] ![1, 512, 128] inb_S3x512x128_S1x512x128_0_0_0, w0⟩] : List (View.Piece (Elt Ideal) S3x512x128 .bf16)) (ix3 p r d)
      = (![w0, w1, w2] p) (ix3 0 r d) := by
  refine View.canon_eq_of_allAt _ _ _ ?cov ?_
  case cov => apply View.cover_of_tiledL _ ![1, 512, 128]; sl_kernel_rfl
  refine View.allAt_cons_unit _ _ _ _ _ ?_ (View.allAt_cons_unit _ _ _ _ _ ?_ (View.allAt_cons_unit _ _ _ _ _ ?_ (View.allAt_nil _ _)))
  all_goals
    intro x hx
    have h0 := hx 0
    have hx0 := (x 0).isLt
    rw [eq_ix3 x r d (by simpa [ix3] using (hx 1).symm) (by simpa [ix3] using (hx 2).symm)]
    fin_cases p <;> simp [ix3] at h0 hx0 <;> first | rfl | omega

/-- Two stores of half the columns each, read at an index of each half. -/
theorem halves (w w' : Vec Ideal S1x512x512 .f32) (r e : Fin 512) :
    View.canon ([⟨Rect.unit ![0, 0, 512] ![1, 512, 512] inb_S1x512x1024_S1x512x512_0_0_512, w'⟩, ⟨Rect.unit ![0, 0, 0] ![1, 512, 512] inb_S1x512x1024_S1x512x512_0_0_0, w⟩] : List (View.Piece (Elt Ideal) S1x512x1024 .f32)) (ix3 0 r ⟨e.val, by omega⟩) = w (ix3 0 r e)
      ∧ View.canon ([⟨Rect.unit ![0, 0, 512] ![1, 512, 512] inb_S1x512x1024_S1x512x512_0_0_512, w'⟩, ⟨Rect.unit ![0, 0, 0] ![1, 512, 512] inb_S1x512x1024_S1x512x512_0_0_0, w⟩] : List (View.Piece (Elt Ideal) S1x512x1024 .f32)) (ix3 0 r ⟨512 + e.val, by omega⟩) = w' (ix3 0 r e) := by
  constructor
  all_goals
    refine View.canon_eq_of_allAt _ _ _ ?cov ?_
    case cov => apply View.cover_of_tiledL _ ![1, 512, 512]; sl_kernel_rfl
    refine View.allAt_cons_unit _ _ _ _ _ ?_ (View.allAt_cons_unit _ _ _ _ _ ?_ (View.allAt_nil _ _))
    all_goals
      intro x hx
      have h2 := hx 2
      have hx2 : (x 2 : ℕ) < 512 := (x 2).isLt
      have he := e.isLt
      simp [ix3] at h2
      first
        | omega
        | rw [eq_ix3 x r e (by simpa [ix3] using (hx 1).symm) (by omega)]

/-- What the first block of a head leaves in the scratch that carries dq. -/
theorem sout0_A_0_eq (hc0 : cond0_0 i) (hc1 : cond0_1 i) (hc2 : ¬cond0_2 i) (hc3 : ¬cond0_3 i) (hc4 : ¬cond0_4 i) :
    sout0_A_0 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 = k0_pay6 (k0_pay13 x1) (k0_pay14 x2) (dC (BitVec.ofNat 32 (i 1).val) x0 x1 x2 x3 x4 x5 x6) (k0_pay34 (k0_pay15 x6) (sC x0 x2 x5) (eP (BitVec.ofNat 32 (i 1).val) x0 x1 x2 x5) (mB (BitVec.ofNat 32 (i 1).val) x0 x1 x2 x5) x3 x4) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6)]
  unfold kernelRun0_A; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- What the first block of a head leaves in the scratch that carries dk. -/
theorem sout0_A_1_eq (hc0 : cond0_0 i) (hc1 : cond0_1 i) (hc2 : ¬cond0_2 i) (hc3 : ¬cond0_3 i) (hc4 : ¬cond0_4 i) :
    sout0_A_1 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 = k0_pay7 (k0_pay12 x0) (dC (BitVec.ofNat 32 (i 1).val) x0 x1 x2 x3 x4 x5 x6) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6)]
  unfold kernelRun0_A; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- What the first block of a head leaves in the scratch that carries dv. -/
theorem sout0_A_2_eq (hc0 : cond0_0 i) (hc1 : cond0_1 i) (hc2 : ¬cond0_2 i) (hc3 : ¬cond0_3 i) (hc4 : ¬cond0_4 i) :
    sout0_A_2 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 = k0_pay8 (k0_pay15 x6) (pC (BitVec.ofNat 32 (i 1).val) x0 x1 x2 x5) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6)]
  unfold kernelRun0_A; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- What a block in between leaves in the scratch that carries dq. -/
theorem sout0_B_0_eq (hc0 : cond0_0 i) (hc1 : ¬cond0_1 i) (hc2 : cond0_2 i) (hc3 : cond0_3 i) (hc4 : ¬cond0_4 i) :
    sout0_B_0 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2 = k0_pay6 (k0_pay13 x1) (k0_pay14 x2) (dC (BitVec.ofNat 32 (i 1).val) x0 x1 x2 x3 x4 x5 x6) (k0_pay34 (k0_pay15 x6) (sC x0 x2 x5) (eP (BitVec.ofNat 32 (i 1).val) x0 x1 x2 x5) (mB (BitVec.ofNat 32 (i 1).val) x0 x1 x2 x5) x3 x4) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2)]
  unfold kernelRun0_B; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- What a block in between leaves in the scratch that carries dk. -/
theorem sout0_B_1_eq (hc0 : cond0_0 i) (hc1 : ¬cond0_1 i) (hc2 : cond0_2 i) (hc3 : cond0_3 i) (hc4 : ¬cond0_4 i) :
    sout0_B_1 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2 = k0_pay7 (k0_pay12 x0) (dC (BitVec.ofNat 32 (i 1).val) x0 x1 x2 x3 x4 x5 x6) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2)]
  unfold kernelRun0_B; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- What a block in between leaves in the scratch that carries dv. -/
theorem sout0_B_2_eq (hc0 : cond0_0 i) (hc1 : ¬cond0_1 i) (hc2 : cond0_2 i) (hc3 : cond0_3 i) (hc4 : ¬cond0_4 i) :
    sout0_B_2 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2 = k0_pay8 (k0_pay15 x6) (pC (BitVec.ofNat 32 (i 1).val) x0 x1 x2 x5) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2)]
  unfold kernelRun0_B; dsimp only; sl_unfold_words
  rw [View.canon_unit_zero hz2]
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- The first block of a head leaves its own derivatives in the block of the bias gradient. -/
theorem out0_A_8_eq (hc0 : cond0_0 i) (hc1 : cond0_1 i) (hc2 : ¬cond0_2 i) (hc3 : ¬cond0_3 i) (hc4 : ¬cond0_4 i) :
    out0_A_8 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 = View.canon [⟨Rect.unit ![0, 0, 512] ![1, 512, 512] inb_S1x512x1024_S1x512x512_0_0_512, k0_pay31 (k0_pay15 x6) (sC x0 x2 x5) (eP (BitVec.ofNat 32 (i 1).val) x0 x1 x2 x5) (mB (BitVec.ofNat 32 (i 1).val) x0 x1 x2 x5) x3 x4⟩, ⟨Rect.unit ![0, 0, 0] ![1, 512, 512] inb_S1x512x1024_S1x512x512_0_0_0, k0_pay30 (k0_pay15 x6) (sC x0 x2 x5) (eP (BitVec.ofNat 32 (i 1).val) x0 x1 x2 x5) (mB (BitVec.ofNat 32 (i 1).val) x0 x1 x2 x5) x3 x4⟩] := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6)]
  unfold kernelRun0_A; dsimp only; sl_unfold_words
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- A block in between adds its own. -/
theorem out0_B_8_eq (hc0 : cond0_0 i) (hc1 : ¬cond0_1 i) (hc2 : cond0_2 i) (hc3 : cond0_3 i) (hc4 : ¬cond0_4 i) :
    out0_B_8 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2 = View.canon [⟨Rect.unit ![0, 0, 512] ![1, 512, 512] inb_S1x512x1024_S1x512x512_0_0_512, k0_pay33 (k0_pay15 x6) (sC x0 x2 x5) (eP (BitVec.ofNat 32 (i 1).val) x0 x1 x2 x5) (mB (BitVec.ofNat 32 (i 1).val) x0 x1 x2 x5) x3 x4 (bHi xo8)⟩, ⟨Rect.unit ![0, 0, 0] ![1, 512, 512] inb_S1x512x1024_S1x512x512_0_0_0, k0_pay32 (k0_pay15 x6) (sC x0 x2 x5) (eP (BitVec.ofNat 32 (i 1).val) x0 x1 x2 x5) (mB (BitVec.ofNat 32 (i 1).val) x0 x1 x2 x5) x3 x4 (bLo xo8)⟩] := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2)]
  unfold kernelRun0_B; dsimp only; sl_unfold_words
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- A block in between leaves the block before's dq, dk and dv. -/
theorem out0_B_7_eq (hc0 : cond0_0 i) (hc1 : ¬cond0_1 i) (hc2 : cond0_2 i) (hc3 : cond0_3 i) (hc4 : ¬cond0_4 i) :
    out0_B_7 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2 = View.canon [⟨Rect.unit ![2, 0, 0] ![1, 512, 128] inb_S3x512x128_S1x512x128_2_0_0, k0_pay5 (k0_pay15 x6) (pP (BitVec.ofNat 32 (i 1).val) x0 x1 x2 x5) xs2⟩, ⟨Rect.unit ![1, 0, 0] ![1, 512, 128] inb_S3x512x128_S1x512x128_1_0_0, k0_pay4 (k0_pay12 x0) (k0_pay34 (k0_pay15 x6) (sC x0 x2 x5) (eP (BitVec.ofNat 32 (i 1).val) x0 x1 x2 x5) (mB (BitVec.ofNat 32 (i 1).val) x0 x1 x2 x5) x3 x4) xs1⟩, ⟨Rect.unit ![0, 0, 0] ![1, 512, 128] inb_S3x512x128_S1x512x128_0_0_0, k0_pay3 xs0⟩] := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xo8 xs0 xs1 xs2)]
  unfold kernelRun0_B; dsimp only; sl_unfold_words
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]
  rfl

/-- The point after the last block leaves that block's dq, dk and dv. -/
theorem out0_C_7_eq (hc0 : ¬cond0_0 i) (hc4 : cond0_4 i) :
    out0_C_7 c i arg3 harg3 arg4 harg4 arg5 harg5 arg6 harg6 arg7 harg7 arg8 harg8 arg9 harg9 arg10 harg10 arg11 harg11 arg12 harg12 arg13 harg13 arg14 harg14 hc0 hc4 x0 x1 x2 x3 x4 x5 x6 xo8 xs0 xs1 xs2 = View.canon [⟨Rect.unit ![2, 0, 0] ![1, 512, 128] inb_S3x512x128_S1x512x128_2_0_0, k0_pay11 xs2⟩, ⟨Rect.unit ![1, 0, 0] ![1, 512, 128] inb_S3x512x128_S1x512x128_1_0_0, k0_pay10 xs1⟩, ⟨Rect.unit ![0, 0, 0] ![1, 512, 128] inb_S3x512x128_S1x512x128_0_0_0, k0_pay9 xs0⟩] := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 hc0 hc4 x0 x1 x2 x3 x4 x5 x6 xo8 xs0 xs1 xs2)]
  unfold kernelRun0_C; dsimp only; sl_unfold_words
  simp only [View.readAt_eq_ld, harg3.read_unread, harg4.read_unread, harg5.read_unread, harg6.read_unread, harg7.read_unread, harg8.read_unread, harg9.read_unread, harg11.read_unread, harg12.read_unread, harg13.read_unread, harg14.read_unread, View.ld_unit_zero (S := S1x512x128) hz3, View.ld_unit_zero (S := S512x128) hz2]

end Cert.KernelIdeal.Attn
-- ==== Proof.Attn.Reads.lean ====
/-
  The blocks that the backward attention call reads, as entries of the arrays it is given: the block of queries, the two of
  keys and the two of values, the bias where the head attends, the gradient of the head's output.
-/
module

public import proofs.«01_k».proof.Proof.Attn.Open
public import Idealize.ShloMosaic.Lib.StableHlo.RunRead
public import Idealize.ShloMosaic.Lib.Pointwise
public import Idealize.ShloMosaic.Lib.Pipeline.ValueKit.Partial

@[expose] public section

set_option maxRecDepth 16384

noncomputable section

namespace Cert.Band

open Idealize.ShloMosaic

/-- An array of three axes at three places, zero outside of it. -/
def at3 {A B C : ℕ} (X : (⟨3, ![A, B, C]⟩ : Shape).Idx → EReal) (a b c : ℕ) : EReal :=
  if h : a < A ∧ b < B ∧ c < C then X (ix3 ⟨a, h.1⟩ ⟨b, h.2.1⟩ ⟨c, h.2.2⟩) else 0

/-- An entry of the array is the array at the entry's places. -/
theorem at3_of {A B C : ℕ} (X : (⟨3, ![A, B, C]⟩ : Shape).Idx → EReal) (i : (⟨3, ![A, B, C]⟩ : Shape).Idx) {a b c : ℕ}
    (ha : (i 0 : ℕ) = a) (hb : (i 1 : ℕ) = b) (hc : (i 2 : ℕ) = c) : X i = at3 X a b c := by
  subst ha; subst hb; subst hc
  have h0 : (i 0 : ℕ) < A := (i 0).isLt
  have h1 : (i 1 : ℕ) < B := (i 1).isLt
  have h2 : (i 2 : ℕ) < C := (i 2).isLt
  rw [at3, dif_pos ⟨h0, h1, h2⟩]
  congr 1
  funext a
  fin_cases a <;> rfl

/-- Head `h` of the step's arrays: the projections' planes 0, 1 and 2 are the queries, the keys and the values, and plane 0 of
    the other array is the gradient of the heads' outputs. -/
def headOf (p : (⟨3, ![7, 4096, 2048]⟩ : Shape).Idx → EReal) (o : (⟨3, ![2, 4096, 2048]⟩ : Shape).Idx → EReal)
    (b : (⟨3, ![16, 512, 1024]⟩ : Shape).Idx → EReal) (σ : EReal) (h : ℕ) : Head where
  q t d := at3 p 0 t (128 * h + d)
  k t d := at3 p 1 t (128 * h + d)
  v t d := at3 p 2 t (128 * h + d)
  g t d := at3 o 0 t (128 * h + d)
  b r c := at3 b h r c
  σ := σ

end Cert.Band

namespace Cert.KernelIdeal.Attn

open Cert.KernelIdeal Cert.KernelIdeal.Gen Idealize.ShloMosaic Idealize.ShloMosaic.TcCoe Cert.Band

variable (m : (ℓ : Loc nD τ sig) → Buf (Elt Ideal) ℓ) (c : Dev nD)

/-- Head `h` of the arrays in memory. -/
def head (h : ℕ) : Head :=
  headOf (m ((c : Thread nD τ).loc main_arg1)) (m ((c : Thread nD τ).loc main_arg2)) (m ((c : Thread nD τ).loc main_arg3)) σ h

/-- The index maps of the blocks that are read, at point `t`: of head `t / 9`, block `min (t % 9) 7`. -/
theorem maps : ∀ t : Fin grid0.N,
    (win0_0.index t (0 : Fin 3) = 0 ∧ win0_0.index t (1 : Fin 3) = min (t.val % 9) 7 ∧ win0_0.index t (2 : Fin 3) = t.val / 9)
    ∧ (win0_1.index t (0 : Fin 3) = 1 ∧ win0_1.index t (1 : Fin 3) = min (t.val % 9) 7 - 1 ∧ win0_1.index t (2 : Fin 3) = t.val / 9)
    ∧ (win0_2.index t (0 : Fin 3) = 1 ∧ win0_2.index t (1 : Fin 3) = min (t.val % 9) 7 ∧ win0_2.index t (2 : Fin 3) = t.val / 9)
    ∧ (win0_3.index t (0 : Fin 3) = 2 ∧ win0_3.index t (1 : Fin 3) = min (t.val % 9) 7 - 1 ∧ win0_3.index t (2 : Fin 3) = t.val / 9)
    ∧ (win0_4.index t (0 : Fin 3) = 2 ∧ win0_4.index t (1 : Fin 3) = min (t.val % 9) 7 ∧ win0_4.index t (2 : Fin 3) = t.val / 9)
    ∧ (win0_5.index t (0 : Fin 3) = t.val / 9 ∧ win0_5.index t (1 : Fin 3) = 0 ∧ win0_5.index t (2 : Fin 3) = 0)
    ∧ (win0_6.index t (0 : Fin 3) = 0 ∧ win0_6.index t (1 : Fin 3) = min (t.val % 9) 7 ∧ win0_6.index t (2 : Fin 3) = t.val / 9)
    ∧ (win0_7.index t (0 : Fin 3) = 0 ∧ win0_7.index t (1 : Fin 3) = t.val % 9 - 1 ∧ win0_7.index t (2 : Fin 3) = t.val / 9)
    ∧ (win0_8.index t (0 : Fin 3) = t.val / 9 ∧ win0_8.index t (1 : Fin 3) = 0 ∧ win0_8.index t (2 : Fin 3) = 0)
    ∧ ((grid0.coords t 1).val = t.val % 9) := by decide +kernel

variable (t : Fin cfg0.N) (r : Fin 512) (d : Fin 128)

/-- The queries of the point's block. -/
theorem iblk0_apply : iblk m c 0 t (ix3 0 r d) = (head m c (t.val / 9)).q (512 * min (t.val % 9) 7 + r) d := by
  obtain ⟨⟨e0, e1, e2⟩, -⟩ := maps t
  show V m c main_arg1 (((cfg0.win 0).blk t).view.emb (ix3 0 r d)) = _
  rw [V_main_arg1]
  refine at3_of _ _ ?_ ?_ ?_
  · show win0_0.index t (0 : Fin 3) * 1 + 1 * 0 = _; omega
  · show win0_0.index t (1 : Fin 3) * 512 + 1 * r.val = _; rw [e1]; ring
  · show win0_0.index t (2 : Fin 3) * 128 + 1 * d.val = _; rw [e2]; ring

/-- The keys of the block before it. -/
theorem iblk1_apply : iblk m c 1 t (ix3 0 r d) = (head m c (t.val / 9)).k (512 * (min (t.val % 9) 7 - 1) + r) d := by
  obtain ⟨-, ⟨e0, e1, e2⟩, -⟩ := maps t
  show V m c main_arg1 (((cfg0.win 1).blk t).view.emb (ix3 0 r d)) = _
  rw [V_main_arg1]
  refine at3_of _ _ ?_ ?_ ?_
  · show win0_1.index t (0 : Fin 3) * 1 + 1 * 0 = _; omega
  · show win0_1.index t (1 : Fin 3) * 512 + 1 * r.val = _; rw [e1]; ring
  · show win0_1.index t (2 : Fin 3) * 128 + 1 * d.val = _; rw [e2]; ring

/-- The keys of the block. -/
theorem iblk2_apply : iblk m c 2 t (ix3 0 r d) = (head m c (t.val / 9)).k (512 * min (t.val % 9) 7 + r) d := by
  obtain ⟨-, -, ⟨e0, e1, e2⟩, -⟩ := maps t
  show V m c main_arg1 (((cfg0.win 2).blk t).view.emb (ix3 0 r d)) = _
  rw [V_main_arg1]
  refine at3_of _ _ ?_ ?_ ?_
  · show win0_2.index t (0 : Fin 3) * 1 + 1 * 0 = _; omega
  · show win0_2.index t (1 : Fin 3) * 512 + 1 * r.val = _; rw [e1]; ring
  · show win0_2.index t (2 : Fin 3) * 128 + 1 * d.val = _; rw [e2]; ring

/-- The values of the block before it. -/
theorem iblk3_apply : iblk m c 3 t (ix3 0 r d) = (head m c (t.val / 9)).v (512 * (min (t.val % 9) 7 - 1) + r) d := by
  obtain ⟨-, -, -, ⟨e0, e1, e2⟩, -⟩ := maps t
  show V m c main_arg1 (((cfg0.win 3).blk t).view.emb (ix3 0 r d)) = _
  rw [V_main_arg1]
  refine at3_of _ _ ?_ ?_ ?_
  · show win0_3.index t (0 : Fin 3) * 1 + 1 * 0 = _; omega
  · show win0_3.index t (1 : Fin 3) * 512 + 1 * r.val = _; rw [e1]; ring
  · show win0_3.index t (2 : Fin 3) * 128 + 1 * d.val = _; rw [e2]; ring

/-- The values of the block. -/
theorem iblk4_apply : iblk m c 4 t (ix3 0 r d) = (head m c (t.val / 9)).v (512 * min (t.val % 9) 7 + r) d := by
  obtain ⟨-, -, -, -, ⟨e0, e1, e2⟩, -⟩ := maps t
  show V m c main_arg1 (((cfg0.win 4).blk t).view.emb (ix3 0 r d)) = _
  rw [V_main_arg1]
  refine at3_of _ _ ?_ ?_ ?_
  · show win0_4.index t (0 : Fin 3) * 1 + 1 * 0 = _; omega
  · show win0_4.index t (1 : Fin 3) * 512 + 1 * r.val = _; rw [e1]; ring
  · show win0_4.index t (2 : Fin 3) * 128 + 1 * d.val = _; rw [e2]; ring

/-- The gradient of the outputs of the block's queries. -/
theorem iblk6_apply : iblk m c 6 t (ix3 0 r d) = (head m c (t.val / 9)).g (512 * min (t.val % 9) 7 + r) d := by
  obtain ⟨-, -, -, -, -, -, ⟨e0, e1, e2⟩, -⟩ := maps t
  show V m c main_arg2 (((cfg0.win 6).blk t).view.emb (ix3 0 r d)) = _
  rw [V_main_arg2]
  refine at3_of _ _ ?_ ?_ ?_
  · show win0_6.index t (0 : Fin 3) * 1 + 1 * 0 = _; omega
  · show win0_6.index t (1 : Fin 3) * 512 + 1 * r.val = _; rw [e1]; ring
  · show win0_6.index t (2 : Fin 3) * 128 + 1 * d.val = _; rw [e2]; ring

/-- Where the query `r` of a block meets the key of column `c`, by the eight groups of 64 queries. -/
def met : (⟨S8x1x1024, .i1⟩ : BufTy).Contents (Elt Ideal) :=
  andi
    (cmpi .sge (broadcastInDim S8x1x1024 ![0, 1, 2] bcast_S1x1x1024_S8x1x1024_0_1_2 (broadcastInDim S1x1x1024 ![2] bcast_S1024_S1x1x1024_2 (iotaInDim S1024 32 0)))
      (broadcastInDim S8x1x1024 ![0, 1, 2] bcast_S8x1x1_S8x1x1024_0_1_2
        (muli (broadcastInDim S8x1x1 ![] bcast_S_S8x1x1 (constantI S_ 32 64#32)) (broadcastInDim S8x1x1 ![0] bcast_S8_S8x1x1_0 (iotaInDim S8 32 0)))))
    (cmpi .slt (broadcastInDim S8x1x1024 ![0, 1, 2] bcast_S1x1x1024_S8x1x1024_0_1_2 (broadcastInDim S1x1x1024 ![2] bcast_S1024_S1x1x1024_2 (iotaInDim S1024 32 0)))
      (broadcastInDim S8x1x1024 ![0, 1, 2] bcast_S8x1x1_S8x1x1024_0_1_2
        (addi (muli (broadcastInDim S8x1x1 ![] bcast_S_S8x1x1 (constantI S_ 32 64#32)) (broadcastInDim S8x1x1 ![0] bcast_S8_S8x1x1_0 (iotaInDim S8 32 0)))
          (broadcastInDim S8x1x1 ![] bcast_S_S8x1x1 (constantI S_ 32 576#32)))))

private theorem met_words : ∀ (a : Fin 8) (e : Fin 1024),
    IntOp.andi (IntOp.cmpi .sge (BitVec.ofNat 32 e.val) (IntOp.muli (64#32) (BitVec.ofNat 32 a.val)))
        (IntOp.cmpi .slt (BitVec.ofNat 32 e.val) (IntOp.addi (IntOp.muli (64#32) (BitVec.ofNat 32 a.val)) 576#32))
      = if 64 * a.val ≤ e.val ∧ e.val < 64 * a.val + 576 then 1#1 else 0#1 := by decide +kernel

/-- It meets the 576 keys from its group's first one on. -/
theorem met_apply (a : Fin 8) (e : Fin 1024) : met (ix3 a 0 e) = if 64 * a.val ≤ e.val ∧ e.val < 64 * a.val + 576 then 1#1 else 0#1 := by
  rw [← met_words a e]
  unfold met
  pointwise

/-- The bias with every pair that doesn't meet at minus infinity. -/
def masked (b : FVec Ideal S16x512x1024 .f32) : FVec Ideal S16x512x1024 .f32 :=
  select (broadcastInDim S16x512x1024 ![0, 1, 2] bcast_S1x512x1024_S16x512x1024_0_1_2 (broadcastInDim S1x512x1024 ![1, 2] bcast_S512x1024_S1x512x1024_1_2
      (shapeCast S512x1024 (broadcastInDim S8x64x1024 ![0, 1, 2] bcast_S8x1x1024_S8x64x1024_0_1_2 met) shapeCasts_S8x64x1024_S512x1024)))
    b (broadcastInDim S16x512x1024 ![] bcast_S_S16x512x1024 (constant S_ .f32 0xFF800000#32 : FVec Ideal S_ .f32))

theorem masked_apply (b : FVec Ideal S16x512x1024 .f32) (h : Fin 16) (r : Fin 512) (e : Fin 1024) :
    masked b (ix3 h r e) = if 64 * (r.val / 64) ≤ e.val ∧ e.val < 64 * (r.val / 64) + 576 then b (ix3 h r e) else ⊥ := by
  have h1 : (broadcastInDim S16x512x1024 ![0, 1, 2] bcast_S1x512x1024_S16x512x1024_0_1_2 (broadcastInDim S1x512x1024 ![1, 2] bcast_S512x1024_S1x512x1024_1_2
      (shapeCast S512x1024 (broadcastInDim S8x64x1024 ![0, 1, 2] bcast_S8x1x1024_S8x64x1024_0_1_2 met) shapeCasts_S8x64x1024_S512x1024))) (ix3 h r e)
      = met (ix3 ⟨r.val / 64, by omega⟩ 0 e) := by
    pointwise
  show Scalar.select _ (b (ix3 h r e)) (Ideal.ofBits .f32 0xFF800000#32) = _
  rw [h1, met_apply]
  by_cases hb : 64 * (r.val / 64) ≤ e.val ∧ e.val < 64 * (r.val / 64) + 576
  · simp [Scalar.select, hb]
  · simp only [Scalar.select, if_neg hb]
    exact (if_neg (by decide)).trans word_bot

/-- The bias as the call is given it. -/
theorem V_bias : V m c main_v18 = masked (m ((c : Thread nD τ).loc main_arg3)) := by
  unfold V
  after_reads_simp
  rfl

/-- The array whose first three planes the call writes starts as the array of the step's gradients. -/
theorem V_rest : V m c main_v19_0 = m ((c : Thread nD τ).loc main_arg0) := by
  unfold V
  after_reads_simp
  rfl

/-- The bias of the head. -/
theorem iblk5_apply (e : Fin 1024) : iblk m c 5 t (ix3 0 r e)
    = if 64 * (r.val / 64) ≤ e.val ∧ e.val < 64 * (r.val / 64) + 576 then (head m c (t.val / 9)).b r e else ⊥ := by
  obtain ⟨-, -, -, -, -, ⟨e0, e1, e2⟩, -⟩ := maps t
  have ht : t.val / 9 < 16 := by have := t.isLt; have h := N_0; omega
  show V m c main_v18 (((cfg0.win 5).blk t).view.emb (ix3 0 r e)) = _
  rw [V_bias, show ((cfg0.win 5).blk t).view.emb (ix3 0 r e) = ix3 ⟨t.val / 9, ht⟩ r e from ?_, masked_apply]
  · refine if_congr Iff.rfl ?_ rfl
    exact at3_of _ _ rfl rfl rfl
  · funext a
    fin_cases a
    · refine Fin.ext ?_; show win0_5.index t (0 : Fin 3) * 1 + 1 * 0 = t.val / 9; omega
    · refine Fin.ext ?_; show win0_5.index t (1 : Fin 3) * 512 + 1 * r.val = r.val; omega
    · refine Fin.ext ?_; show win0_5.index t (2 : Fin 3) * 1024 + 1 * e.val = e.val; omega

/-- At the point of a block the call holds that block of the head. -/
theorem holds (ht : t.val % 9 < 8) : Holds (head m c (t.val / 9)) (t.val % 9) (iblk m c 0 t) (iblk m c 1 t) (iblk m c 2 t) (iblk m c 3 t) (iblk m c 4 t)
    (iblk m c 5 t) (iblk m c 6 t) where
  lt := ht
  q r d := by rw [iblk0_apply, show min (t.val % 9) 7 = t.val % 9 by omega]
  kp r d h := by rw [iblk1_apply]; congr 1; omega
  kc r d := by rw [iblk2_apply]; congr 1; omega
  vp r d h := by rw [iblk3_apply]; congr 1; omega
  vc r d := by rw [iblk4_apply]; congr 1; omega
  g r d := by rw [iblk6_apply, show min (t.val % 9) 7 = t.val % 9 by omega]
  b r e := iblk5_apply ..
  σ := rfl

end Cert.KernelIdeal.Attn
-- ==== Proof.Attn.State.lean ====
/-
  What the backward attention call holds after each point of a head's nine, and so what it writes back: the gradients of a
  block's queries, keys and values at the point after it, and at the last one the gradient of the bias.
-/
module

public import proofs.«01_k».proof.Proof.Attn.Reads

@[expose] public section

set_option maxRecDepth 16384

noncomputable section

namespace Cert.KernelIdeal.Attn

open Cert.KernelIdeal Cert.KernelIdeal.Gen Idealize.ShloMosaic Idealize.ShloMosaic.TcCoe Cert.Band

variable (m : (ℓ : Loc nD τ sig) → Buf (Elt Ideal) ℓ) (c : Dev nD)

theorem coord (t : Fin cfg0.N) : (grid0.coords t 1).val = t.val % 9 := (maps t).2.2.2.2.2.2.2.2.2

/-- Every head's rows of scores have a greatest one. -/
abbrev Fine : Prop := ∀ h, h < 16 → (head m c h).Ok

theorem point_lt (t : Fin cfg0.N) : t.val / 9 < 16 := by
  have h : t.val < 144 := lt_of_lt_of_eq t.isLt N_0
  omega

section scratch

variable (t : Fin cfg0.N) (ht : t.val % 9 < 8) (r : Fin 512) (d : Fin 128)

include ht

/-- After a block's point one scratch holds the gradient of the block's queries, … -/
theorem held_dq (ok : Fine m c) : (outsAt0 m c t.val t.isLt).2.2.1 (ix2 r d) = (head m c (t.val / 9)).dq (512 * (t.val % 9) + r) d := by
  by_cases h1 : t.val % 9 = 0
  · rw [outsAt0_A m c t (by omega) h1 (by omega) (by omega) (by omega)]
    dsimp only
    rw [sout0_A_0_eq, coord]
    exact (holds m c t ht).dq (ok _ (point_lt t)) r d
  · rw [outsAt0_B m c t (by omega) h1 (by omega) (by omega) (by omega)]
    dsimp only
    rw [sout0_B_0_eq, coord]
    exact (holds m c t ht).dq (ok _ (point_lt t)) r d

/-- … one its queries' part of the gradient of the block's keys, … -/
theorem held_dk (ok : Fine m c) : (outsAt0 m c t.val t.isLt).2.2.2.1 (ix2 r d)
    = fromBlock (fun t' e => (head m c (t.val / 9)).D t' e * (head m c (t.val / 9)).σ * (head m c (t.val / 9)).q t' d) (t.val % 9) (512 + r) := by
  by_cases h1 : t.val % 9 = 0
  · rw [outsAt0_A m c t (by omega) h1 (by omega) (by omega) (by omega)]
    dsimp only
    rw [sout0_A_1_eq, coord]
    exact (holds m c t ht).dkc (ok _ (point_lt t)) r d
  · rw [outsAt0_B m c t (by omega) h1 (by omega) (by omega) (by omega)]
    dsimp only
    rw [sout0_B_1_eq, coord]
    exact (holds m c t ht).dkc (ok _ (point_lt t)) r d

/-- … and one their part of the gradient of the block's values. -/
theorem held_dv : (outsAt0 m c t.val t.isLt).2.2.2.2 (ix2 r d)
    = fromBlock (fun t' e => (head m c (t.val / 9)).P t' e * (head m c (t.val / 9)).g t' d) (t.val % 9) (512 + r) := by
  by_cases h1 : t.val % 9 = 0
  · rw [outsAt0_A m c t (by omega) h1 (by omega) (by omega) (by omega)]
    dsimp only
    rw [sout0_A_2_eq, coord]
    exact (holds m c t ht).dvc r d
  · rw [outsAt0_B m c t (by omega) h1 (by omega) (by omega) (by omega)]
    dsimp only
    rw [sout0_B_2_eq, coord]
    exact (holds m c t ht).dvc r d

end scratch

/-- A column is one of the first 512, or one of the others. -/
theorem column (e : Fin 1024) : (∃ e' : Fin 512, e = ⟨e'.val, by omega⟩) ∨ ∃ e' : Fin 512, e = ⟨512 + e'.val, by omega⟩ := by
  by_cases h : e.val < 512
  · exact Or.inl ⟨⟨e.val, h⟩, rfl⟩
  · exact Or.inr ⟨⟨e.val - 512, by omega⟩, Fin.ext (by simp only; omega)⟩

/-- The first block's point leaves its derivatives by the scores. -/
theorem first_ds (ok : Fine m c) (t : Fin cfg0.N) (h1 : t.val % 9 = 0) (r : Fin 512) (e : Fin 1024) :
    (outsAt0 m c t.val t.isLt).2.1 (ix3 0 r e) = (head m c (t.val / 9)).D r e := by
  have H := holds m c t (by omega)
  have o := ok _ (point_lt t)
  rw [outsAt0_A m c t (by omega) h1 (by omega) (by omega) (by omega)]
  dsimp only
  rw [out0_A_8_eq, coord]
  rcases column e with ⟨e', rfl⟩ | ⟨e', rfl⟩
  · refine (halves _ _ r e').1.trans ((pay30_apply ..).trans ((H.dP o r e').trans ?_))
    rw [h1]; congr 1; omega
  · refine (halves _ _ r e').2.trans ((pay31_apply ..).trans ((H.dC o r e').trans ?_))
    rw [h1]; congr 1; omega

/-- A later one adds its own to what the point before left. -/
theorem next_ds (ok : Fine m c) (t : Fin cfg0.N) (h1 : ¬t.val % 9 = 0) (h8 : t.val % 9 < 8) (r : Fin 512) (e : Fin 1024) :
    (outsAt0 m c t.val t.isLt).2.1 (ix3 0 r e)
      = (outsAt0 m c (t.val - 1) (Nat.lt_of_le_of_lt (Nat.sub_le _ _) t.isLt)).2.1 (ix3 0 r e) + (head m c (t.val / 9)).D (512 * (t.val % 9) + r) e := by
  have H := holds m c t h8
  have o := ok _ (point_lt t)
  rw [outsAt0_B m c t (by omega) h1 (by omega) (by omega) (by omega)]
  dsimp only
  rw [out0_B_8_eq, coord]
  rcases column e with ⟨e', rfl⟩ | ⟨e', rfl⟩
  · refine (halves _ _ r e').1.trans ((pay32_apply ..).trans ?_)
    exact congrArg₂ _ (bLo_apply ..) (H.dP o r e')
  · refine (halves _ _ r e').2.trans ((pay33_apply ..).trans ?_)
    exact congrArg₂ _ (bHi_apply ..) (H.dC o r e')

/-- After block `i`'s point the block of the bias gradient holds the sum of the derivatives of the blocks so far. -/
theorem held_ds (ok : Fine m c) (h : ℕ) (r : Fin 512) (e : Fin 1024) : ∀ (i : ℕ) (_ : i < 8) (hn : 9 * h + i < cfg0.N),
    (outsAt0 m c (9 * h + i) hn).2.1 (ix3 0 r e) = ∑ j ∈ Finset.range (i + 1), (head m c h).D (512 * j + r) e
  | 0, _, hn => by
    rw [first_ds m c ok ⟨9 * h + 0, hn⟩ (by simp only; omega), show (9 * h + 0) / 9 = h by omega, Finset.sum_range_one]
    congr 1; omega
  | i + 1, hi, hn => by
    rw [next_ds m c ok ⟨9 * h + (i + 1), hn⟩ (by simp only; omega) (by simp only; omega)]
    have e1 : 9 * h + (i + 1) - 1 = 9 * h + i := by omega
    have e2 : (9 * h + (i + 1)) / 9 = h := by omega
    have e3 : (9 * h + (i + 1)) % 9 = i + 1 := by omega
    have ih := held_ds ok h r e i (by omega) (by omega)
    simp only [e1, e2, e3]
    rw [ih, Finset.sum_range_succ _ (i + 1)]

/-- At a head's last point it holds the head's bias gradient. -/
theorem left_ds (ok : Fine m c) (t : Fin cfg0.N) (h8 : t.val % 9 = 8) (r : Fin 512) (e : Fin 1024) :
    (outsAt0 m c t.val t.isLt).2.1 (ix3 0 r e) = (head m c (t.val / 9)).ds r e := by
  rw [outsAt0_C m c t (by omega) h8]
  dsimp only
  have e1 : t.val - 1 = 9 * (t.val / 9) + 7 := by omega
  simp only [e1]
  exact held_ds m c ok _ r e 7 (by omega) _

/-- The point after block `i`'s leaves, in plane `p`, that block's gradient of the queries, of the keys or of the values. -/
theorem left_planes (ok : Fine m c) (t : Fin cfg0.N) (h1 : ¬t.val % 9 = 0) (p : Fin 3) (r : Fin 512) (d : Fin 128) :
    (outsAt0 m c t.val t.isLt).1 (ix3 p r d)
      = (![(head m c (t.val / 9)).dq, (head m c (t.val / 9)).dk, (head m c (t.val / 9)).dv] p) (512 * (t.val % 9 - 1) + r) d := by
  have hr := r.isLt
  have htN := t.isLt
  have e1 : (t.val - 1) / 9 = t.val / 9 := by omega
  have e2 : (t.val - 1) % 9 = t.val % 9 - 1 := by omega
  have e3 : (512 * (t.val % 9 - 1) + r.val) / 512 = t.val % 9 - 1 := by omega
  have e4 : (512 * (t.val % 9 - 1) + r.val) % 512 = r.val := by omega
  have q := held_dq m c ⟨t.val - 1, by omega⟩ (by simp only; omega) r d ok
  have k := held_dk m c ⟨t.val - 1, by omega⟩ (by simp only; omega) r d ok
  have v := held_dv m c ⟨t.val - 1, by omega⟩ (by simp only; omega) r d
  simp only [e1, e2] at q k v
  by_cases h8 : t.val % 9 = 8
  · rw [outsAt0_C m c t (by omega) h8]
    dsimp only
    rw [out0_C_7_eq]
    refine (planes _ _ _ p r d).trans ?_
    fin_cases p
    · exact (pay9_apply ..).trans q
    · refine (pay10_apply ..).trans (k.trans ?_)
      show _ = gather _ _
      rw [gather, e3, e4, if_neg (by omega), add_zero]
    · refine (pay11_apply ..).trans (v.trans ?_)
      show _ = gather _ _
      rw [gather, e3, e4, if_neg (by omega), add_zero]
  · have H := holds m c t (by omega)
    have o := ok _ (point_lt t)
    rw [outsAt0_B m c t (by omega) h1 (by omega) (by omega) (by omega)]
    dsimp only
    rw [out0_B_7_eq, coord]
    refine (planes _ _ _ p r d).trans ?_
    fin_cases p
    · exact (pay3_apply ..).trans q
    · refine (H.dkp o _ r d).trans ?_
      show _ = gather _ _
      rw [k, gather, e3, e4, if_pos (by omega), show t.val % 9 - 1 + 1 = t.val % 9 by omega]
    · refine (H.dvp _ r d).trans ?_
      show _ = gather _ _
      rw [v, gather, e3, e4, if_pos (by omega), show t.val % 9 - 1 + 1 = t.val % 9 by omega]

/-! ## The arrays after the call -/

/-- The array of the step's gradients: planes 0, 1 and 2 hold the gradients of the queries, keys and values. -/
def dproj : (⟨S7x4096x2048, .bf16⟩ : BufTy).Contents (Elt Ideal) := fun i =>
  if (i 0).val / 3 = 0 then
    (![fun h => (head m c h).dq, fun h => (head m c h).dk, fun h => (head m c h).dv] (Fin.ofNat 3 (i 0).val)) ((i 2).val / 128) (i 1).val (Fin.ofNat 128 (i 2).val)
  else m ((c : Thread nD τ).loc main_arg0) i

/-- The gradient of the bias. -/
def dbias : (⟨S16x512x1024, .f32⟩ : BufTy).Contents (Elt Ideal) := fun i => (head m c (i 0).val).ds (i 1).val (i 2).val

theorem final7 (ok : Fine m c) : (dats m 0 c).arrAt 7 cfg0.N = dproj m c := by
  refine ((dats m 0 c).arrAt_eq_of_coversWhere 7 (dproj m c) (P := fun i => (i 0).val / 3 = 0) (fun β => β (0 : Fin 3) = 0) (by decide +kernel)
    (fun t hf y => ?_) (fun j => Iff.rfl)).trans ?_
  · have h1 : ¬t.val % 9 = 0 := (by decide +kernel : ∀ t : Fin grid0.N, win0_7.flush t = true → ¬t.val % 9 = 0) t hf
    obtain ⟨-, -, -, -, -, -, -, ⟨e0, e1, e2⟩, -⟩ := maps t
    show (dats m 0 c).after 7 t ((cfg0.win 7).xinj (grid0.coords t) y) = _
    have b0 : (((cfg0.win 7).blk t).view.emb y 0).val = win0_7.index t (0 : Fin 3) * 3 + 1 * ((cfg0.win 7).xinj (grid0.coords t) y 0).val := rfl
    have b1 : (((cfg0.win 7).blk t).view.emb y 1).val = win0_7.index t (1 : Fin 3) * 512 + 1 * ((cfg0.win 7).xinj (grid0.coords t) y 1).val := rfl
    have b2 : (((cfg0.win 7).blk t).view.emb y 2).val = win0_7.index t (2 : Fin 3) * 128 + 1 * ((cfg0.win 7).xinj (grid0.coords t) y 2).val := rfl
    generalize ((cfg0.win 7).blk t).view.emb y = i at b0 b1 b2 ⊢
    generalize (cfg0.win 7).xinj (grid0.coords t) y = z at b0 b1 b2 ⊢
    obtain ⟨p, r, d, rfl⟩ : ∃ (p : Fin 3) (r : Fin 512) (d : Fin 128), z = ix3 p r d := ⟨z 0, z 1, z 2, by funext a; fin_cases a <;> rfl⟩
    rw [after0_7, left_planes m c ok t h1]
    replace b0 : (i 0).val = win0_7.index t (0 : Fin 3) * 3 + 1 * p.val := b0
    replace b1 : (i 1).val = win0_7.index t (1 : Fin 3) * 512 + 1 * r.val := b1
    replace b2 : (i 2).val = win0_7.index t (2 : Fin 3) * 128 + 1 * d.val := b2
    have hd := d.isLt
    have hp := p.isLt
    rw [dproj, if_pos (by omega), show (i 2).val / 128 = t.val / 9 by omega, show (i 1).val = 512 * (t.val % 9 - 1) + r.val by omega,
      show Fin.ofNat 3 (i 0).val = p from Fin.ext (by simp only [Fin.ofNat]; omega), show Fin.ofNat 128 (i 2).val = d from Fin.ext (by simp only [Fin.ofNat]; omega)]
    fin_cases p <;> rfl
  · funext i
    by_cases h : (i 0).val / 3 = 0
    · rw [if_pos h]
    · rw [if_neg h, dproj, if_neg h]
      exact congrFun (V_rest m c) i

theorem final8 (ok : Fine m c) : (dats m 0 c).arrAt 8 cfg0.N = dbias m c := by
  refine (dats m 0 c).arrAt_eq_of_covers 8 (dbias m c) (by decide +kernel) (fun t hf y => ?_)
  have h8 : t.val % 9 = 8 := (flush0_8 t).mp hf
  obtain ⟨-, -, -, -, -, -, -, -, ⟨e0, e1, e2⟩, -⟩ := maps t
  show (dats m 0 c).after 8 t ((cfg0.win 8).xinj (grid0.coords t) y) = _
  have b0 : (((cfg0.win 8).blk t).view.emb y 0).val = win0_8.index t (0 : Fin 3) * 1 + 1 * ((cfg0.win 8).xinj (grid0.coords t) y 0).val := rfl
  have b1 : (((cfg0.win 8).blk t).view.emb y 1).val = win0_8.index t (1 : Fin 3) * 512 + 1 * ((cfg0.win 8).xinj (grid0.coords t) y 1).val := rfl
  have b2 : (((cfg0.win 8).blk t).view.emb y 2).val = win0_8.index t (2 : Fin 3) * 1024 + 1 * ((cfg0.win 8).xinj (grid0.coords t) y 2).val := rfl
  generalize ((cfg0.win 8).blk t).view.emb y = i at b0 b1 b2 ⊢
  generalize (cfg0.win 8).xinj (grid0.coords t) y = z at b0 b1 b2 ⊢
  have hz : (z 0).val < 1 := (z 0).isLt
  obtain ⟨r, e, rfl⟩ : ∃ (r : Fin 512) (e : Fin 1024), z = ix3 0 r e := ⟨z 1, z 2, eq_ix3 z (z 1) (z 2) rfl rfl⟩
  rw [after0_8, left_ds m c ok t h8]
  replace b1 : (i 1).val = win0_8.index t (1 : Fin 3) * 512 + 1 * r.val := b1
  replace b2 : (i 2).val = win0_8.index t (2 : Fin 3) * 1024 + 1 * e.val := b2
  rw [dbias, show (i 0).val = t.val / 9 by omega, show (i 1).val = r.val by omega, show (i 2).val = e.val by omega]

/-- The run of the program, with what it leaves in its two results. -/
theorem run (ρ : Dev nD → PrngReg) (ok : ∀ c, Fine m c) : θ_run defs (onTc (τ := τ) (main (F := Ideal))) ⟨m, fun _ => 0, ρ⟩ (fun r => ∀ c : Dev nD,
    r.2.mem ((c : Thread nD τ).loc main_v19_0) = dproj m c ∧ r.2.mem ((c : Thread nD τ).loc main_v19_1) = dbias m c) :=
  (θ_run defs _ _).mono (fun r h c => ⟨((h c).1 7).trans (final7 m c (ok c)), ((h c).1 8).trans (final8 m c (ok c))⟩) (run_main m ρ)

end Cert.KernelIdeal.Attn
-- ==== Proof.Attn.RefKeys.lean ====
/-
  What the reference gathers before it scores anything: the keys and the values that each group of 64 queries meets, nine
  groups of 64 one after the other, the queries times the scale and the bias of each group. Each is an entry of the arrays that the step is given.
-/
module

public import proofs.«01_k».proof.Proof.Attn.Reads
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Cert.Band

variable (x1 : (⟨S7x4096x2048, .bf16⟩ : BufTy).Contents (Elt Ideal)) (x2 : (⟨S2x4096x2048, .bf16⟩ : BufTy).Contents (Elt Ideal))
  (x3 : (⟨S16x512x1024, .f32⟩ : BufTy).Contents (Elt Ideal))

/-- Head `h` of the reference's arrays. -/
abbrev hd (h : ℕ) : Head := headOf x1 x2 x3 Cert.KernelIdeal.Attn.σ h

/-- Rows with 512 rows of zeros before them. -/
def padded (f : ℕ → Fin 128 → EReal) (u : ℕ) (d : Fin 128) : EReal := if u < 512 then 0 else f (u - 512) d

/-- A row of the padded array that is a row of zeros or one of a plane of the projections. -/
theorem padded_row (f : ℕ → Fin 128 → EReal) (p : Fin 7) (h : Fin 16) (hf : ∀ t d, f t d = at3 x1 p t (128 * h + d)) (u : ℕ)
    (hu : ¬u < 512 → u - 512 < 4096) (d : Fin 128) (hd : h.val * 128 + d.val < 2048) :
    (if hlt : u < 512 then (0 : EReal) else x1 (ix3 p ⟨u - 512, hu hlt⟩ ⟨h.val * 128 + d.val, hd⟩)) = padded f u d := by
  unfold padded
  by_cases hlt : u < 512
  · rw [dif_pos hlt, if_pos hlt]
  · rw [dif_neg hlt, if_neg hlt, hf]
    exact at3_of x1 _ rfl rfl (show h.val * 128 + d.val = 128 * h + d by omega)

theorem keys_rows (r : Fin 72) (s : Fin 64) (h : Fin 16) (d : Fin 128) :
    val_main_v21 (F := Ideal) x1 (ix5 0 r s h d) = padded (hd x1 x2 x3 h).k (r * 64 + s) d := by
  pointwise [val_main_v21, val_main_v19, val_main_v18, val_main_cst_0, val_main_v13, val_main_v7, val_main_v6, val_main_v5, val_main_v4]
  exact padded_row x1 (hd x1 x2 x3 h).k 1 h (fun _ _ => rfl) (r * 64 + s) (fun _ => by omega) d (by omega)

theorem values_rows (r : Fin 72) (s : Fin 64) (h : Fin 16) (d : Fin 128) :
    val_main_v101 (F := Ideal) x1 (ix5 0 r s h d) = padded (hd x1 x2 x3 h).v (r * 64 + s) d := by
  pointwise [val_main_v101, val_main_v99, val_main_v98, val_main_cst_15, val_main_v14, val_main_v11, val_main_v10, val_main_v9, val_main_v8]
  exact padded_row x1 (hd x1 x2 x3 h).v 2 h (fun _ _ => rfl) (r * 64 + s) (fun _ => by omega) d (by omega)

theorem slices_group : ∀ j : Fin 9, S1x72x64x16x128.Slices ![0, j.val, 0, 0, 0] S1x64x64x16x128 := by decide

/-- The groups `j` after each group of 64 queries, of the padded array. -/
def part (y : S1x72x64x16x128.Idx → EReal) (j : Fin 9) : S1x64x64x16x128.Idx → EReal :=
  extractStridedSlice S1x64x64x16x128 ![0, j.val, 0, 0, 0] y (slices_group j)

theorem part_apply (y : S1x72x64x16x128.Idx → EReal) (j : Fin 9) (C s : Fin 64) (h : Fin 16) (d : Fin 128) :
    part y j (ix5 0 C s h d) = y (ix5 0 ⟨j + C, by omega⟩ s h d) :=
  extractStridedSlice_apply _ y (slices_group j) _ _ fun a => match a with
    | ⟨0, _⟩ => rfl
    | ⟨1, _⟩ => rfl
    | ⟨2, _⟩ => (Nat.zero_add s.val).symm
    | ⟨3, _⟩ => (Nat.zero_add h.val).symm
    | ⟨4, _⟩ => (Nat.zero_add d.val).symm

/-- Nine arrays joined along their keys, at a key of the one `j`. -/
theorem join_nine (f : Fin 9 → S1x64x64x16x128.Idx → EReal) (C s : Fin 64) (h : Fin 16) (d : Fin 128) (j : Fin 9) (k : Fin 576) (hk : 64 * j.val + s.val = k.val) :
    concatenate S1x64x576x16x128 2 [⟨S1x64x64x16x128, f 0⟩, ⟨S1x64x64x16x128, f 1⟩, ⟨S1x64x64x16x128, f 2⟩, ⟨S1x64x64x16x128, f 3⟩, ⟨S1x64x64x16x128, f 4⟩, ⟨S1x64x64x16x128, f 5⟩, ⟨S1x64x64x16x128, f 6⟩, ⟨S1x64x64x16x128, f 7⟩, ⟨S1x64x64x16x128, f 8⟩]
      concatenates_S1x64x64x16x128_S1x64x64x16x128_S1x64x64x16x128_S1x64x64x16x128_S1x64x64x16x128_S1x64x64x16x128_S1x64x64x16x128_S1x64x64x16x128_S1x64x64x16x128_S1x64x576x16x128_d2 (ix5 0 C k h d)
      = f j (ix5 0 C s h d) :=
  concatenate_apply_piece (2 : Fin S1x64x576x16x128.rank)
    [⟨S1x64x64x16x128, f 0⟩, ⟨S1x64x64x16x128, f 1⟩, ⟨S1x64x64x16x128, f 2⟩, ⟨S1x64x64x16x128, f 3⟩, ⟨S1x64x64x16x128, f 4⟩, ⟨S1x64x64x16x128, f 5⟩, ⟨S1x64x64x16x128, f 6⟩, ⟨S1x64x64x16x128, f 7⟩, ⟨S1x64x64x16x128, f 8⟩] _ _ j.val j.isLt S1x64x64x16x128 (f j) (by fin_cases j <;> rfl) rfl (64 * j.val)
    (by fin_cases j <;> rfl) (ix5 0 C s h d)
    (fun b hb => match b, hb with
      | ⟨0, _⟩, _ => rfl
      | ⟨1, _⟩, _ => rfl
      | ⟨2, _⟩, hb => absurd rfl hb
      | ⟨3, _⟩, _ => rfl
      | ⟨4, _⟩, _ => rfl) hk

/-- The groups that group `C` of queries meets, joined: key `k` of them is row `64 * C + k` of the padded array. -/
theorem joined (y : S1x72x64x16x128.Idx → EReal) (f : ℕ → Fin 128 → EReal) (h : Fin 16) (hy : ∀ r s d, y (ix5 0 r s h d) = padded f (r * 64 + s) d)
    (C : Fin 64) (k : Fin 576) (d : Fin 128) :
    concatenate S1x64x576x16x128 2 [⟨S1x64x64x16x128, part y 0⟩, ⟨S1x64x64x16x128, part y 1⟩, ⟨S1x64x64x16x128, part y 2⟩, ⟨S1x64x64x16x128, part y 3⟩, ⟨S1x64x64x16x128, part y 4⟩, ⟨S1x64x64x16x128, part y 5⟩, ⟨S1x64x64x16x128, part y 6⟩, ⟨S1x64x64x16x128, part y 7⟩, ⟨S1x64x64x16x128, part y 8⟩]
      concatenates_S1x64x64x16x128_S1x64x64x16x128_S1x64x64x16x128_S1x64x64x16x128_S1x64x64x16x128_S1x64x64x16x128_S1x64x64x16x128_S1x64x64x16x128_S1x64x64x16x128_S1x64x576x16x128_d2 (ix5 0 C k h d)
      = padded f (64 * C + k) d := by
  rw [join_nine (part y) C ⟨k % 64, by omega⟩ h d ⟨k / 64, by omega⟩ k (by show 64 * (k.val / 64) + k.val % 64 = k.val; omega), part_apply, hy]
  exact congrArg (padded f · d) (show (k.val / 64 + C.val) * 64 + k.val % 64 = 64 * C + k by omega)

theorem keys (C : Fin 64) (k : Fin 576) (h : Fin 16) (d : Fin 128) :
    val_main_v31 (F := Ideal) x1 (ix5 0 C k h d) = padded (hd x1 x2 x3 h).k (64 * C + k) d :=
  joined (val_main_v21 (F := Ideal) x1) (hd x1 x2 x3 h).k h (fun r s d => keys_rows x1 x2 x3 r s h d) C k d

theorem values (C : Fin 64) (k : Fin 576) (h : Fin 16) (d : Fin 128) :
    val_main_v111 (F := Ideal) x1 (ix5 0 C k h d) = padded (hd x1 x2 x3 h).v (64 * C + k) d :=
  joined (val_main_v101 (F := Ideal) x1) (hd x1 x2 x3 h).v h (fun r s d => values_rows x1 x2 x3 r s h d) C k d

/-- The queries times the scale. -/
theorem queries (C : Fin 64) (r : Fin 64) (h : Fin 16) (d : Fin 128) :
    val_main_v17 (F := Ideal) x1 (ix5 0 C r h d) = (hd x1 x2 x3 h).q (64 * C + r) d * (hd x1 x2 x3 h).σ := by
  pointwise [val_main_v17, val_main_v16, val_main_v15, val_main_cst, val_main_v12, val_main_v3, val_main_v2, val_main_v1, val_main_v0]
  exact congrArg (· * _) (at3_of x1 _ rfl (show C.val * 64 + r.val = 64 * C + r by omega) (show h.val * 128 + d.val = 128 * h + d by omega))

/-- The gradients of the head's outputs. -/
theorem outputs (C : Fin 64) (h : Fin 16) (d : Fin 128) (r : Fin 64) :
    val_main_v120 (F := Ideal) x2 (ix5 0 C h d r) = (hd x1 x2 x3 h).g (64 * C + r) d := by
  pointwise [val_main_v120, val_main_v119, val_main_v118, val_main_v117, val_main_v116, val_main_v115]
  exact at3_of x2 _ rfl (show C.val * 64 + r.val = 64 * C + r by omega) (show h.val * 128 + d.val = 128 * h + d by omega)

theorem slices_bias : ∀ g : Fin 8, S16x512x1024.Slices ![0, 64 * g.val, 64 * g.val] S16x64x576 := by decide

/-- The bias of group `g` of a block, on the diagonal of the bias array. -/
def biasPart (g : Fin 8) : S16x1x64x576.Idx → EReal :=
  broadcastInDim S16x1x64x576 ![0, 2, 3] bcast_S16x64x576_S16x1x64x576_0_2_3 (extractStridedSlice S16x64x576 ![0, 64 * g.val, 64 * g.val] x3 (slices_bias g))

theorem biasPart_apply (h : Fin 16) (g : Fin 8) (r : Fin 64) (k : Fin 576) :
    biasPart x3 g (ix4 h 0 r k) = (hd x1 x2 x3 h).b (64 * g + r) (64 * g + k) := by
  pointwise [biasPart]
  exact at3_of x3 _ rfl rfl rfl

/-- Eight arrays joined along their groups, at group `g`. -/
theorem join_eight (f : Fin 8 → S16x1x64x576.Idx → EReal) (h : Fin 16) (g : Fin 8) (r : Fin 64) (k : Fin 576) :
    concatenate S16x8x64x576 1 [⟨S16x1x64x576, f 0⟩, ⟨S16x1x64x576, f 1⟩, ⟨S16x1x64x576, f 2⟩, ⟨S16x1x64x576, f 3⟩, ⟨S16x1x64x576, f 4⟩, ⟨S16x1x64x576, f 5⟩, ⟨S16x1x64x576, f 6⟩, ⟨S16x1x64x576, f 7⟩]
      concatenates_S16x1x64x576_S16x1x64x576_S16x1x64x576_S16x1x64x576_S16x1x64x576_S16x1x64x576_S16x1x64x576_S16x1x64x576_S16x8x64x576_d1 (ix4 h g r k)
      = f g (ix4 h 0 r k) :=
  concatenate_apply_piece (1 : Fin S16x8x64x576.rank)
    [⟨S16x1x64x576, f 0⟩, ⟨S16x1x64x576, f 1⟩, ⟨S16x1x64x576, f 2⟩, ⟨S16x1x64x576, f 3⟩, ⟨S16x1x64x576, f 4⟩, ⟨S16x1x64x576, f 5⟩, ⟨S16x1x64x576, f 6⟩, ⟨S16x1x64x576, f 7⟩] _ _ g.val g.isLt S16x1x64x576 (f g) (by fin_cases g <;> rfl) rfl g.val
    (by fin_cases g <;> rfl) (ix4 h 0 r k)
    (fun b hb => match b, hb with
      | ⟨0, _⟩, _ => rfl
      | ⟨1, _⟩, hb => absurd rfl hb
      | ⟨2, _⟩, _ => rfl
      | ⟨3, _⟩, _ => rfl) (Nat.add_zero _)

theorem bias_group (h : Fin 16) (g : Fin 8) (r : Fin 64) (k : Fin 576) :
    val_main_v49 (F := Ideal) x3 (ix4 h g r k) = (hd x1 x2 x3 h).b (64 * g + r) (64 * g + k) :=
  (join_eight (biasPart x3) h g r k).trans (biasPart_apply x1 x2 x3 h g r k)

/-- Where the bias of group `C` is taken from. -/
theorem bias_places (h : Fin 16) (C r : Fin 64) (k : Fin 576) :
    idx_main_v50 (idx_main_v51 (idx_main_v52 (idx_main_v53 (ix5 0 h C r k)))) = ix4 h ⟨C % 8, by omega⟩ r k := by
  funext a; apply Fin.ext
  match a with
  | ⟨0, _⟩ => show (((h.val * 64 + C.val) * 64 + r.val) * 576 + k.val) / 2359296 = h.val; omega
  | ⟨1, _⟩ => show (((h.val * 64 + C.val) * 64 + r.val) * 576 + k.val) / 36864 % 8 = C.val % 8; omega
  | ⟨2, _⟩ => show (((h.val * 64 + C.val) * 64 + r.val) * 576 + k.val) / 576 % 64 = r.val; omega
  | ⟨3, _⟩ => show (((h.val * 64 + C.val) * 64 + r.val) * 576 + k.val) % 576 = k.val; omega

theorem bias (h : Fin 16) (C r : Fin 64) (k : Fin 576) :
    val_main_v53 (F := Ideal) x3 (ix5 0 h C r k) = (hd x1 x2 x3 h).b (64 * (C % 8) + r) (64 * (C % 8) + k) := by
  rw [val_main_v53_apply, val_main_v52_apply, val_main_v51_apply, val_main_v50_apply, bias_places]
  exact bias_group x1 x2 x3 h _ r k

end Cert.ReferenceIdeal.Attn

end
-- ==== Proof.Attn.RefMask.lean ====
/-
  The reference's mask, as a comparison of places.
-/
module

public import proofs.«01_k».proof.Proof.Attn.Reads
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Cert.Band

/-- The mask as words: key `k` of the nine groups is one of the sequence's. -/
theorem mask_word : ∀ (C : Fin 64) (k : Fin 576),
    IntOp.cmpi CmpIPredicate.sge (IntOp.addi (IntOp.muli (64#32) (IntOp.subi (BitVec.ofNat 32 C) 8#32)) (BitVec.ofNat 32 k)) 0#32 = if 512 ≤ 64 * C.val + k.val then 1#1 else 0#1 := by
  decide +kernel

theorem mask (C : Fin 64) (k : Fin 576) : val_main_v68 (F := Ideal) (ix5 0 0 C 0 k) = if 512 ≤ 64 * C.val + k.val then 1#1 else 0#1 := by
  rw [← mask_word C k]
  pointwise [val_main_v68, val_main_v67, val_main_v66, val_main_c_3, val_main_v65, val_main_v64, val_main_v63, val_main_v62, val_main_v61, val_main_c_2, val_main_v60, val_main_v59, val_main_c, val_main_v58, val_main_v57, val_main_v56, val_main_v55]

end Cert.ReferenceIdeal.Attn

end
-- ==== Proof.Attn.RefScore.lean ====
/-
  The reference's scores, exponentials, probabilities and the derivatives of the loss by the scores, each as the row of its
  query has it: 576 columns, of the group's own band.
-/
module

public import proofs.«01_k».proof.Proof.Attn.RefKeys
public import proofs.«01_k».proof.Proof.Attn.RefMask

@[expose] public section

set_option maxRecDepth 16384

noncomputable section

namespace Cert.ReferenceIdeal.Attn

open Cert.ReferenceIdeal Cert.ReferenceIdeal.Gen Cert.ReferenceIdeal.Read Idealize.ShloMosaic Cert.Band
open Cert.KernelIdeal.Attn (word_bot)

variable (x1 : (⟨S7x4096x2048, .bf16⟩ : BufTy).Contents (Elt Ideal)) (x2 : (⟨S2x4096x2048, .bf16⟩ : BufTy).Contents (Elt Ideal))
  (x3 : (⟨S16x512x1024, .f32⟩ : BufTy).Contents (Elt Ideal))

/-- The scale is a real that is not negative. -/
theorem scale_real : ∃ s : ℝ, 0 ≤ s ∧ Cert.KernelIdeal.Attn.σ = (s : EReal) := by
  refine ⟨11863283 / 2 ^ 27, by norm_num, ?_⟩
  unfold Cert.KernelIdeal.Attn.σ
  simp [Ideal.ofBits, Ideal.ieee, -EReal.coe_mul]; norm_num

/-- A greatest of `n` entries, as the reference takes it. -/
theorem fold_eq_top {n : ℕ} (f : Fin n → EReal) (s : ℕ → EReal) (h : ∀ k : Fin n, f k = s k) : Finset.univ.fold max ⊥ f = top n s := by
  refine le_antisymm ((Finset.fold_max_le _).mpr ⟨bot_le, fun k _ => ?_⟩) (Finset.sup_le fun k hk => ?_)
  · rw [h k]; exact Finset.le_sup (f := s) (Finset.mem_range.mpr k.isLt)
  · exact (Finset.le_fold_max _).mpr (Or.inr ⟨⟨k, Finset.mem_range.mp hk⟩, Finset.mem_univ _, (h ⟨k, Finset.mem_range.mp hk⟩).symm.le⟩)

/-- The places of the query of row `r` of group `C`. -/
theorem places (C r : ℕ) (hr : r < 64) (k : ℕ) (hk : k < 576) :
    (64 * C + r) % 512 / 64 = C % 8 ∧ (64 * C + r) % 512 = 64 * (C % 8) + r ∧ pos (64 * C + r) (64 * (C % 8) + k) = 64 * C + k - 512
      ∧ (seen (64 * C + r) (64 * (C % 8) + k) ↔ 512 ≤ 64 * C + k) := by
  unfold pos seen
  refine ⟨by omega, by omega, by omega, ?_⟩
  constructor
  · intro h; omega
  · intro h; omega

/-- What differentiating by a probability gives in the reference, also where it is masked. -/
def wide (H : Head) (C r k : ℕ) : EReal := ∑ d : Fin 128, H.g (64 * C + r) d * padded H.v (64 * C + k) d

theorem wide_eq (H : Head) (C r : ℕ) (hr : r < 64) (k : ℕ) (hk : k < 576) (h : 512 ≤ 64 * C + k) : wide H C r k = H.bandWt (64 * C + r) k := by
  obtain ⟨e1, e2, e3, e4⟩ := places C r hr k hk
  unfold wide Head.bandWt Head.wt padded
  rw [if_pos (by rw [e1]; exact e4.mpr h), e1, e3]
  exact Finset.sum_congr rfl fun d _ => by rw [if_neg (by omega)]

/-- Where the query does not see the key, its score is −∞. -/
theorem bandScore_bot (H : Head) (C r : ℕ) (hr : r < 64) (k : ℕ) (hk : k < 576) (h : ¬512 ≤ 64 * C + k) : H.bandScore (64 * C + r) k = ⊥ := by
  obtain ⟨e1, e2, e3, e4⟩ := places C r hr k hk
  unfold Head.bandScore
  rw [e1]
  exact Head.score_bot fun hs => h (e4.mp hs)

variable (h : Fin 16) (C r : Fin 64)

theorem score (k : Fin 576) : val_main_v69_0 (F := Ideal) x1 x3 (ix5 0 h C r k) = (hd x1 x2 x3 h).bandScore (64 * C + r) k := by
  obtain ⟨e1, e2, e3, e4⟩ := places C r r.isLt k k.isLt
  have em : val_main_v69_1 (F := Ideal) (ix5 0 h C r k) = if 512 ≤ 64 * C.val + k.val then 1#1 else 0#1 := by
    rw [val_main_v69_1_apply, show idx_main_v69_1 (ix5 0 h C r k) = ix5 0 0 C 0 k by idx_ext, mask]
  rw [val_main_v69_0_apply, em]
  by_cases hs : 512 ≤ 64 * C.val + k.val
  · rw [if_pos hs]
    refine Eq.trans (show _ = val_main_v54 (F := Ideal) x1 x3 (ix5 0 h C r k) from rfl) ?_
    unfold Head.bandScore Head.score
    rw [if_pos (by rw [e1]; exact e4.mpr hs), e1, e2, e3, val_main_v54_apply, bias x1 x2 x3, val_main_v32_apply]
    refine congrArg (· + _) ?_
    obtain ⟨s, s0, es⟩ := scale_real
    rw [show (hd x1 x2 x3 h).σ = (s : EReal) from es, sum_mul_coe _ _ s0]
    refine Finset.sum_congr rfl fun d _ => ?_
    rw [show lidx_main_v32 (ix5 0 h C r k) d = ix5 0 C r h d by idx_ext, show ridx_main_v32 (ix5 0 h C r k) d = ix5 0 C k h d by idx_ext,
      queries x1 x2 x3, keys x1 x2 x3, show (hd x1 x2 x3 h).σ = (s : EReal) from es]
    unfold padded
    rw [if_neg (by omega)]
    ac_rfl
  · rw [if_neg hs, bandScore_bot _ C r r.isLt k k.isLt hs]
    exact word_bot

theorem top_row : val_main_v70 (F := Ideal) x1 x3 (ix4 0 h C r) = top 576 ((hd x1 x2 x3 h).bandScore (64 * C + r)) := by
  have e := fun k => score x1 x2 x3 h C r k
  unfold val_main_v70
  generalize val_main_v69_0 (F := Ideal) x1 x3 = y at e ⊢
  pointwise [val_main_cst_5]
  rw [word_bot]
  exact fold_eq_top _ _ e

theorem exponential (k : Fin 576) : val_main_v90 (F := Ideal) x1 x3 (ix5 0 h C r k) = ex 576 ((hd x1 x2 x3 h).bandScore (64 * C + r)) k := by
  rw [val_main_v90_apply, val_main_v89_apply, val_main_v88_apply, val_main_v87_apply, val_main_v77_apply, val_main_v76_apply,
    show idx_main_v87 (idx_main_v88 (ix5 0 h C r k)) = ix4 0 h C r by idx_ext, score x1 x2 x3, top_row x1 x2 x3]
  unfold ex
  show Ideal.exp (_ - max (Ideal.ofBits .f32 0xFF800000#32) _) = _
  rw [word_bot, max_eq_right bot_le]

theorem total : val_main_v92 (F := Ideal) x1 x3 (ix5 0 h C r 0) = tot 576 ((hd x1 x2 x3 h).bandScore (64 * C + r)) := by
  rw [val_main_v92_apply, show idx_main_v92 (ix5 0 h C r 0) = ix4 0 h C r by idx_ext, val_main_v91_apply]
  refine Eq.trans (congrArg (· + _) (Ideal.ofBits_zero_f32)) ?_
  rw [zero_add]
  unfold tot
  rw [Finset.sum_range]
  exact Finset.sum_congr rfl fun k _ => by rw [show idx_main_v91 (ix4 0 h C r) k = ix5 0 h C r k by idx_ext, exponential x1 x2 x3]

theorem probability (ok : Good 576 ((hd x1 x2 x3 h).bandScore (64 * C + r))) (k : Fin 576) :
    val_main_v94 (F := Ideal) x1 x3 (ix5 0 h C r k) = prob 576 ((hd x1 x2 x3 h).bandScore (64 * C + r)) k := by
  rw [val_main_v94_apply, val_main_v93_apply, show idx_main_v93 (ix5 0 h C r k) = ix5 0 h C r 0 by idx_ext, exponential x1 x2 x3, total x1 x2 x3]
  obtain ⟨l, hl, el⟩ := ok.tot_real
  unfold prob
  rw [el]
  show Ideal.div _ _ = _
  rw [div_coe _ hl.ne', div_coe _ hl.ne', one_mul]

theorem weight (k : Fin 576) : val_main_v122 (F := Ideal) x1 x2 (ix5 0 h C r k) = wide (hd x1 x2 x3 h) C r k := by
  rw [val_main_v122_apply, val_main_v121_apply]
  unfold wide
  refine Finset.sum_congr rfl fun d _ => ?_
  rw [show lidx_main_v121 (idx_main_v122 (ix5 0 h C r k)) d = ix5 0 C h d r by idx_ext, show ridx_main_v121 (idx_main_v122 (ix5 0 h C r k)) d = ix5 0 C k h d by idx_ext,
    outputs x1 x2 x3, values x1 x2 x3]

/-- The sum over the axes of one entry each. -/
theorem sum_units (y : S1x16x64x64x1.Idx → EReal) : Ideal.hostReduceAdd reducesTo_S1x16x64x64x1_S16x64x64_d0_4 y 0 (ix3 h C r) = y (ix5 0 h C r 0) := by
  unfold Ideal.hostReduceAdd
  rw [zero_add, Finset.sum_filter_eq_sum_of_fiber _ (fun _ : Unit => (ix5 0 h C r 0 : S1x16x64x64x1.Idx)) (fun _ _ _ => rfl) (fun i => ?_)]
  · exact Fintype.sum_unique _
  · constructor
    · intro e
      refine ⟨(), funext fun a => Fin.ext ?_⟩
      match a with
      | ⟨0, _⟩ => have h0 : (i 0).val < 1 := (i 0).isLt; show 0 = (i 0).val; omega
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => have h4 : (i 4).val < 1 := (i 4).isLt; show 0 = (i 4).val; omega
    · rintro ⟨-, rfl⟩
      idx_ext

/-- What the quotient's divisor brings, for the whole row. -/
theorem divisor (k : Fin 576) : val_main_v164 (F := Ideal) x1 x2 x3 (ix5 0 h C r k)
    = -∑ j ∈ Finset.range 576, wide (hd x1 x2 x3 h) C r j * Ideal.div 1 (tot 576 ((hd x1 x2 x3 h).bandScore (64 * C + r)) * tot 576 ((hd x1 x2 x3 h).bandScore (64 * C + r))) * ex 576 ((hd x1 x2 x3 h).bandScore (64 * C + r)) j := by
  have e162 : val_main_v162 (F := Ideal) x1 x2 x3 (ix3 h C r) = val_main_v159 (F := Ideal) x1 x2 x3 (ix5 0 h C r 0) := by
    unfold val_main_v162
    generalize val_main_v159 (F := Ideal) x1 x2 x3 = y
    simp only [Host.reduceAdd, Ideal.hostReduceAdd_def]
    refine Eq.trans ?_ (sum_units h C r y)
    rw [show val_main_cst_27 (F := Ideal) (Shape.Idx.first h_S_) = 0 from Ideal.ofBits_zero_f32]
  have e158 : idx_main_v158 (ix5 0 h C r 0) = ix4 0 h C r := by
    funext a; apply Fin.ext
    match a with
    | ⟨0, _⟩ => rfl
    | ⟨1, _⟩ => show (((((0 * 16 + h.val) * 64 + C.val) * 64 + r.val) * 1 + 0) / 4096 % 16) = h.val; omega
    | ⟨2, _⟩ => show (((((0 * 16 + h.val) * 64 + C.val) * 64 + r.val) * 1 + 0) / 64 % 64) = C.val; omega
    | ⟨3, _⟩ => show (((((0 * 16 + h.val) * 64 + C.val) * 64 + r.val) * 1 + 0) % 64) = r.val; omega
  rw [val_main_v164_apply, val_main_v163_apply, show idx_main_v163 (idx_main_v164 (ix5 0 h C r k)) = ix3 h C r by idx_ext, e162, val_main_v159_apply,
    val_main_v158_apply, e158, val_main_v157_apply]
  refine Eq.trans (show _ = -(Ideal.ofBits .f32 0x00000000#32 + _) from rfl) ?_
  rw [Ideal.ofBits_zero_f32, zero_add, Finset.sum_range]
  refine congrArg Neg.neg (Finset.sum_congr rfl fun j _ => ?_)
  rw [show idx_main_v157 (ix4 0 h C r) j = ix5 0 h C r j by idx_ext, val_main_v156_apply, val_main_v155_apply, val_main_v154_apply,
    show idx_main_v154 (ix5 0 h C r j) = ix5 0 h C r 0 by idx_ext, val_main_v97_apply, val_main_v95_apply, val_main_v96_apply, weight x1 x2 x3, exponential x1 x2 x3, total x1 x2 x3]
  show _ * Ideal.div (Ideal.ofBits .f32 0x3F800000#32) _ * _ = _
  rw [Ideal.ofBits_one_f32]
  rfl

/-- The derivative of the loss by a score. -/
theorem derivative (ok : Good 576 ((hd x1 x2 x3 h).bandScore (64 * C + r))) (k : Fin 576) :
    val_main_v167 (F := Ideal) x1 x2 x3 (ix5 0 h C r k) = der 576 ((hd x1 x2 x3 h).bandScore (64 * C + r)) ((hd x1 x2 x3 h).bandWt (64 * C + r)) k := by
  have em : val_main_v69_1 (F := Ideal) (ix5 0 h C r k) = if 512 ≤ 64 * C.val + k.val then 1#1 else 0#1 := by
    rw [val_main_v69_1_apply, show idx_main_v69_1 (ix5 0 h C r k) = ix5 0 0 C 0 k by idx_ext, mask]
  rw [val_main_v167_apply, em]
  by_cases hs : 512 ≤ 64 * C.val + k.val
  · rw [if_pos hs]
    refine Eq.trans (show _ = val_main_v166 (F := Ideal) x1 x2 x3 (ix5 0 h C r k) from rfl) ?_
    rw [val_main_v166_apply, val_main_v165_apply, divisor, val_main_v161_apply, val_main_v160_apply, show idx_main_v160 (ix5 0 h C r k) = ix5 0 h C r 0 by idx_ext,
      weight x1 x2 x3, exponential x1 x2 x3, total x1 x2 x3]
    refine Eq.trans (ok.der_quotient (wide (hd x1 x2 x3 h) C r) k.isLt) (ok.der_congr (fun j hj hb => ?_) k.isLt)
    refine wide_eq _ C r r.isLt j hj ?_
    by_contra hn
    exact hb (bandScore_bot _ C r r.isLt j hj hn)
  · rw [if_neg hs, ok.der_bot (bandScore_bot _ C r r.isLt k k.isLt hs)]
    exact Ideal.ofBits_zero_f32

end Cert.ReferenceIdeal.Attn

end
-- ==== Proof.Attn.RefBias.lean ====
/-
  The reference's gradient of the bias: each group's derivatives summed over the blocks, and put back in the group's own place.
-/
module

public import proofs.«01_k».proof.Proof.Attn.RefScore
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read Idealize.ShloMosaic Cert.Band

theorem slices_chunk : ∀ a : Fin 8, S16x8x64x576.Slices ![0, a.val, 0, 0] S16x1x64x576 := by decide

theorem pads_chunk : ∀ a : Fin 8, S16x64x576.Pads (![0, 64 * a.val, 64 * a.val] : Fin 3 → Nat) ![0, 448 - 64 * a.val, 448 - 64 * a.val] ![0, 0, 0] S16x512x1024 := by decide

/-- The rows of group `a` of a block, in their place. -/
def place (y : S16x8x64x576.Idx → EReal) (z : S_.Idx → EReal) (a : Fin 8) : S16x512x1024.Idx → EReal :=
  pad S16x512x1024 ![0, 64 * a.val, 64 * a.val] ![0, 448 - 64 * a.val, 448 - 64 * a.val] ![0, 0, 0]
    (shapeCast S16x64x576 (extractStridedSlice S16x1x64x576 ![0, a.val, 0, 0] y (slices_chunk a)) shapeCasts_S16x1x64x576_S16x64x576) z (pads_chunk a) h_S_

variable (y : S16x8x64x576.Idx → EReal) (z : S_.Idx → EReal) (a : Fin 8) (h : Fin 16) (R : Fin 512) (c : Fin 1024)

theorem place_inside (r : Fin 64) (k : Fin 576) (hr : R.val = 64 * a.val + r.val) (hk : c.val = 64 * a.val + k.val) :
    place y z a (ix3 h R c) = y (ix4 h a r k) :=
  (pad_apply_of_inside _ _ _ _ _ (pads_chunk a) h_S_ (ix3 h R c) (ix3 h r k) (fun b => match b with
    | ⟨0, _⟩ => by show h.val = 0 + h.val * (0 + 1); omega
    | ⟨1, _⟩ => by show R.val = 64 * a.val + r.val * (0 + 1); omega
    | ⟨2, _⟩ => by show c.val = 64 * a.val + k.val * (0 + 1); omega)).trans
  ((shapeCast_apply _ shapeCasts_S16x1x64x576_S16x64x576 (ix3 h r k) (ix4 h 0 r k) (by
    rewrite [Shape.rowMajor_val_four, Shape.rowMajor_val_three]
    show ((h.val * 1 + 0) * 64 + r.val) * 576 + k.val = (h.val * 64 + r.val) * 576 + k.val
    omega)).trans
  (extractStridedSlice_apply _ y (slices_chunk a) (ix4 h 0 r k) (ix4 h a r k) fun b => match b with
    | ⟨0, _⟩ => (Nat.zero_add h.val).symm
    | ⟨1, _⟩ => rfl
    | ⟨2, _⟩ => (Nat.zero_add r.val).symm
    | ⟨3, _⟩ => (Nat.zero_add k.val).symm))

theorem place_outside (hz : z (Shape.Idx.first h_S_) = 0) (hn : ¬(R.val / 64 = a.val ∧ 64 * a.val ≤ c.val ∧ c.val < 64 * a.val + 576)) : place y z a (ix3 h R c) = 0 := by
  by_cases hR : R.val / 64 = a.val
  · refine (pad_apply_of_not_inside _ _ _ _ _ (pads_chunk a) h_S_ (ix3 h R c) (2 : Fin 3) (fun hc => hn ⟨hR, hc.1, ?_⟩)).trans hz
    have := hc.2.2
    have h1 := hc.1
    change (c.val - 64 * a.val) / (0 + 1) < 576 at this
    change 64 * a.val ≤ c.val at h1
    omega
  · refine (pad_apply_of_not_inside _ _ _ _ _ (pads_chunk a) h_S_ (ix3 h R c) (1 : Fin 3) (fun hc => hR ?_)).trans hz
    have := hc.2.2
    have h1 := hc.1
    change (R.val - 64 * a.val) / (0 + 1) < 64 at this
    change 64 * a.val ≤ R.val at h1
    omega

/-- The eight pieces added: at a row, the one of its group. -/
theorem place_sum (hz : z (Shape.Idx.first h_S_) = 0) :
    (addf (addf (addf (addf (addf (addf (addf (place y z 7 : FVec Ideal S16x512x1024 .f32) (place y z 6)) (place y z 5)) (place y z 4)) (place y z 3)) (place y z 2)) (place y z 1)) (place y z 0) : FVec Ideal S16x512x1024 .f32)
      (ix3 h R c) = place y z ⟨R.val / 64, by omega⟩ (ix3 h R c) := by
  have e : ∑ a : Fin 8, place y z a (ix3 h R c) = place y z ⟨R.val / 64, by omega⟩ (ix3 h R c) :=
    Finset.sum_eq_single _ (fun a _ ha => place_outside y z a h R c hz fun hc => ha (Fin.ext hc.1.symm)) (fun hn => absurd (Finset.mem_univ _) hn)
  rw [← e, Fin.sum_univ_eight]
  show place y z 7 (ix3 h R c) + place y z 6 (ix3 h R c) + place y z 5 (ix3 h R c) + place y z 4 (ix3 h R c) + place y z 3 (ix3 h R c) + place y z 2 (ix3 h R c) + place y z 1 (ix3 h R c) + place y z 0 (ix3 h R c) = _
  ac_rfl

variable (x1 : (⟨S7x4096x2048, .bf16⟩ : BufTy).Contents (Elt Ideal)) (x2 : (⟨S2x4096x2048, .bf16⟩ : BufTy).Contents (Elt Ideal))
  (x3 : (⟨S16x512x1024, .f32⟩ : BufTy).Contents (Elt Ideal))

/-- A group's derivatives, summed over the blocks. -/
theorem blocks (ok : (hd x1 x2 x3 h).Ok) (r : Fin 64) (k : Fin 576) : val_main_v172 (F := Ideal) x1 x2 x3 (ix4 h a r k)
    = ∑ i ∈ Finset.range 8, (hd x1 x2 x3 h).D (512 * i + (64 * a + r)) (64 * a + k) := by
  rw [val_main_v172_apply, show val_main_cst_30 (F := Ideal) (Shape.Idx.first h_S_) = 0 from Ideal.ofBits_zero_f32, zero_add, Fin.sum_univ_one, val_main_v171_apply,
    show idx_main_v171 (idx_main_v172 (ix4 h a r k) 0) = ix4 h a r k by idx_ext, val_main_v170_apply,
    show val_main_cst_29 (F := Ideal) (Shape.Idx.first h_S_) = 0 from Ideal.ofBits_zero_f32, zero_add, Finset.sum_range]
  refine Finset.sum_congr rfl fun i _ => ?_
  have e : idx_main_v169 (idx_main_v170 (ix4 h a r k) i) = ix4 h ⟨8 * i + a, by omega⟩ r k := by
    funext b; apply Fin.ext
    match b with
    | ⟨0, _⟩ => show ((((h.val * 8 + i.val) * 8 + a.val) * 64 + r.val) * 576 + k.val) / 2359296 = h.val; omega
    | ⟨1, _⟩ => show ((((h.val * 8 + i.val) * 8 + a.val) * 64 + r.val) * 576 + k.val) / 36864 % 64 = 8 * i.val + a.val; omega
    | ⟨2, _⟩ => show ((((h.val * 8 + i.val) * 8 + a.val) * 64 + r.val) * 576 + k.val) / 576 % 64 = r.val; omega
    | ⟨3, _⟩ => show ((((h.val * 8 + i.val) * 8 + a.val) * 64 + r.val) * 576 + k.val) % 576 = k.val; omega
  have ht : 64 * (8 * i.val + a.val) + r.val < 4096 := by omega
  rw [val_main_v169_apply, e, val_main_v168_apply, show val_main_cst_28 (F := Ideal) (Shape.Idx.first h_S_) = 0 from Ideal.ofBits_zero_f32, zero_add, Fin.sum_univ_one,
    show idx_main_v168 (ix4 h ⟨8 * i + a, by omega⟩ r k) 0 = ix5 0 h ⟨8 * i + a, by omega⟩ r k by idx_ext, derivative x1 x2 x3 h _ r (ok.band ht)]
  refine (ok.D_band ht k).symm.trans ?_
  exact congrArg₂ (hd x1 x2 x3 h).D (by show 64 * (8 * i.val + a.val) + r.val = _; omega) (by show 64 * ((64 * (8 * i.val + a.val) + r.val) % 512 / 64) + k.val = _; omega)

theorem second_result (ok : (hd x1 x2 x3 h).Ok) : val_main_v203 (F := Ideal) x1 x2 x3 (ix3 h R c) = (hd x1 x2 x3 h).ds R c := by
  refine Eq.trans (show _ = _ from rfl) ((place_sum (val_main_v172 (F := Ideal) x1 x2 x3) (constant (F := Ideal) S_ .f32 0x00000000#32) h R c Ideal.ofBits_zero_f32).trans ?_)
  unfold Head.ds
  by_cases hc : 64 * (R.val / 64) ≤ c.val ∧ c.val < 64 * (R.val / 64) + 576
  · rw [place_inside _ _ ⟨R.val / 64, by omega⟩ h R c ⟨R.val % 64, by omega⟩ ⟨c.val - 64 * (R.val / 64), by omega⟩ (by show R.val = 64 * (R.val / 64) + R.val % 64; omega)
      (by show c.val = 64 * (R.val / 64) + (c.val - 64 * (R.val / 64)); omega), blocks ⟨R.val / 64, by omega⟩ h x1 x2 x3 ok]
    exact Finset.sum_congr rfl fun i _ => congrArg₂ (hd x1 x2 x3 h).D (by show 512 * i + (64 * (R.val / 64) + R.val % 64) = _; omega)
      (by show 64 * (R.val / 64) + (c.val - 64 * (R.val / 64)) = _; omega)
  · rw [place_outside _ _ ⟨R.val / 64, by omega⟩ h R c Ideal.ofBits_zero_f32 fun hn => hc hn.2]
    refine (Finset.sum_eq_zero fun i hi => ok.D_zero (by have := Finset.mem_range.mp hi; omega) fun hs => hc ?_).symm
    have e : (512 * i + R.val) % 512 / 64 = R.val / 64 := by omega
    rw [seen, e] at hs
    exact ⟨hs.1, hs.2.1⟩

end Cert.ReferenceIdeal.Attn

end
-- ==== Proof.Attn.RefBack.lean ====
/-
  What the reference does with what each group of keys brings: nine pieces, each moved back by its groups and added. At one
  group this is the sum over the groups of queries that meet it.
-/
module

public import proofs.«01_k».proof.Proof.Attn.RefScore
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read Idealize.ShloMosaic Cert.Band

theorem slices_keys : ∀ j : Fin 9, S1x64x576x16x128.Slices ![0, 0, 64 * j.val, 0, 0] S1x64x64x16x128 := by decide

theorem pads_groups : ∀ j : Fin 9, S1x64x64x16x128.Pads (![0, j.val, 0, 0, 0] : Fin 5 → Nat) ![0, 8 - j.val, 0, 0, 0] ![0, 0, 0, 0, 0] S1x72x64x16x128 := by decide

/-- The `j`th 64 keys of every group, moved on by `j` groups. -/
def back (y : S1x64x576x16x128.Idx → EReal) (z : S_.Idx → EReal) (j : Fin 9) : S1x72x64x16x128.Idx → EReal :=
  pad S1x72x64x16x128 ![0, j.val, 0, 0, 0] ![0, 8 - j.val, 0, 0, 0] ![0, 0, 0, 0, 0]
    (extractStridedSlice S1x64x64x16x128 ![0, 0, 64 * j.val, 0, 0] y (slices_keys j)) z (pads_groups j) h_S_

variable (y : S1x64x576x16x128.Idx → EReal) (z : S_.Idx → EReal) (j : Fin 9) (R : Fin 72) (s : Fin 64) (h : Fin 16) (d : Fin 128)

theorem back_inside (C : Fin 64) (k : Fin 576) (hC : R.val = j.val + C.val) (hk : k.val = 64 * j.val + s.val) :
    back y z j (ix5 0 R s h d) = y (ix5 0 C k h d) :=
  (pad_apply_of_inside _ _ _ _ _ (pads_groups j) h_S_ (ix5 0 R s h d) (ix5 0 C s h d) (fun a => match a with
    | ⟨0, _⟩ => rfl
    | ⟨1, _⟩ => by show R.val = j.val + C.val * (0 + 1); omega
    | ⟨2, _⟩ => by show s.val = 0 + s.val * (0 + 1); omega
    | ⟨3, _⟩ => by show h.val = 0 + h.val * (0 + 1); omega
    | ⟨4, _⟩ => by show d.val = 0 + d.val * (0 + 1); omega)).trans
  (extractStridedSlice_apply _ y (slices_keys j) (ix5 0 C s h d) (ix5 0 C k h d) fun a => match a with
    | ⟨0, _⟩ => rfl
    | ⟨1, _⟩ => (Nat.zero_add C.val).symm
    | ⟨2, _⟩ => hk
    | ⟨3, _⟩ => (Nat.zero_add h.val).symm
    | ⟨4, _⟩ => (Nat.zero_add d.val).symm)

theorem back_outside (hz : z (Shape.Idx.first h_S_) = 0) (hR : ¬(j.val ≤ R.val ∧ R.val - j.val < 64)) : back y z j (ix5 0 R s h d) = 0 :=
  (pad_apply_of_not_inside _ _ _ _ _ (pads_groups j) h_S_ (ix5 0 R s h d) (1 : Fin 5) (fun hc => hR ⟨hc.1, by
    have := hc.2.2
    change (R.val - j.val) / (0 + 1) < 64 at this
    omega⟩)).trans hz

/-- The nine pieces added, at group `U` of the keys: the one `8 - i` brings what group `U + i` of the queries has. -/
theorem back_sum (f : ℕ → ℕ → EReal) (hz : z (Shape.Idx.first h_S_) = 0) (hy : ∀ (C : Fin 64) (k : Fin 576), y (ix5 0 C k h d) = f C k) (U : Fin 64) :
    (addf (addf (addf (addf (addf (addf (addf (addf (back y z 8 : FVec Ideal S1x72x64x16x128 .f32) (back y z 7)) (back y z 6)) (back y z 5)) (back y z 4)) (back y z 3)) (back y z 2)) (back y z 1)) (back y z 0) : FVec Ideal S1x72x64x16x128 .f32)
      (ix5 0 ⟨U + 8, by omega⟩ s h d) = ∑ i ∈ Finset.range 9, if U.val + i < 64 then f (U + i) (64 * (8 - i) + s) else 0 := by
  have e : ∀ (i : ℕ) (hi : i < 9), back y z ⟨8 - i, by omega⟩ (ix5 0 ⟨U + 8, by omega⟩ s h d) = if U.val + i < 64 then f (U + i) (64 * (8 - i) + s) else 0 := by
    intro i hi
    by_cases hU : U.val + i < 64
    · rw [if_pos hU, back_inside y z ⟨8 - i, by omega⟩ ⟨U + 8, by omega⟩ s h d ⟨U + i, hU⟩ ⟨64 * (8 - i) + s, by omega⟩ (by show U.val + 8 = 8 - i + (U.val + i); omega) rfl]
      exact hy _ _
    · rw [if_neg hU]
      exact back_outside y z ⟨8 - i, by omega⟩ ⟨U + 8, by omega⟩ s h d hz (fun hc => hU (by have := hc.2; change U.val + 8 - (8 - i) < 64 at this; omega))
  simp only [Finset.sum_range_succ, Finset.sum_range_zero, zero_add]
  exact congrArg₂ (· + ·) (congrArg₂ (· + ·) (congrArg₂ (· + ·) (congrArg₂ (· + ·) (congrArg₂ (· + ·) (congrArg₂ (· + ·) (congrArg₂ (· + ·) (congrArg₂ (· + ·)
    (e 0 (by omega)) (e 1 (by omega))) (e 2 (by omega))) (e 3 (by omega))) (e 4 (by omega))) (e 5 (by omega))) (e 6 (by omega))) (e 7 (by omega))) (e 8 (by omega))

end Cert.ReferenceIdeal.Attn

end
-- ==== Proof.Attn.RefGrad.lean ====
/-
  The reference's gradients of the projections, entry by entry: those of the query, of the key and of the value of each head, and
  the planes that are handed on.
-/
module

public import proofs.«01_k».proof.Proof.Attn.RefBack

@[expose] public section

set_option maxRecDepth 16384

noncomputable section

namespace Cert.ReferenceIdeal.Attn

open Cert.ReferenceIdeal Cert.ReferenceIdeal.Gen Cert.ReferenceIdeal.Read Idealize.ShloMosaic Cert.Band

variable (x1 : (⟨S7x4096x2048, .bf16⟩ : BufTy).Contents (Elt Ideal)) (x2 : (⟨S2x4096x2048, .bf16⟩ : BufTy).Contents (Elt Ideal))
  (x3 : (⟨S16x512x1024, .f32⟩ : BufTy).Contents (Elt Ideal))

variable (h : Fin 16) (d : Fin 128)

/-- The value's gradient that group `C` of the queries brings to its key `k`. -/
theorem value_parts (ok : (hd x1 x2 x3 h).Ok) (C : Fin 64) (k : Fin 576) : val_main_v124 (F := Ideal) x1 x2 x3 (ix5 0 C k h d)
    = ∑ r ∈ Finset.range 64, (hd x1 x2 x3 h).P (64 * C + r) (64 * (C % 8) + k) * (hd x1 x2 x3 h).g (64 * C + r) d := by
  rw [val_main_v124_apply, val_main_v123_apply, Finset.sum_range]
  refine Finset.sum_congr rfl fun r _ => ?_
  have ht : 64 * C.val + r.val < 4096 := by omega
  rw [show lidx_main_v123 (idx_main_v124 (ix5 0 C k h d)) r = ix5 0 C h d r by idx_ext, show ridx_main_v123 (idx_main_v124 (ix5 0 C k h d)) r = ix5 0 h C r k by idx_ext,
    outputs x1 x2 x3, probability x1 x2 x3 h C r (ok.band ht), ← ok.P_band ht k, (places C r r.isLt k k.isLt).1]
  exact mul_comm _ _

/-- The key's gradient that group `C` of the queries brings to its key `k`. -/
theorem key_parts (ok : (hd x1 x2 x3 h).Ok) (C : Fin 64) (k : Fin 576) : val_main_v205 (F := Ideal) x1 x2 x3 (ix5 0 C k h d)
    = ∑ r ∈ Finset.range 64, (hd x1 x2 x3 h).D (64 * C + r) (64 * (C % 8) + k) * (hd x1 x2 x3 h).σ * (hd x1 x2 x3 h).q (64 * C + r) d := by
  rw [val_main_v205_apply, val_main_v204_apply, Finset.sum_range]
  refine Finset.sum_congr rfl fun r _ => ?_
  have ht : 64 * C.val + r.val < 4096 := by omega
  rw [show lidx_main_v204 (idx_main_v205 (ix5 0 C k h d)) r = ix5 0 h C r k by idx_ext, show ridx_main_v204 (idx_main_v205 (ix5 0 C k h d)) r = ix5 0 C r h d by idx_ext,
    queries x1 x2 x3, derivative x1 x2 x3 h C r (ok.band ht), ← ok.D_band ht k, (places C r r.isLt k k.isLt).1]
  ac_rfl

theorem value_groups (ok : (hd x1 x2 x3 h).Ok) (U s : Fin 64) : val_main_v150 (F := Ideal) x1 x2 x3 (ix5 0 ⟨U + 8, by omega⟩ s h d) = (hd x1 x2 x3 h).dv (64 * U + s) d := by
  refine Eq.trans (show _ = _ from rfl) ((back_sum (val_main_v124 (F := Ideal) x1 x2 x3) (constant (F := Ideal) S_ .f32 0x00000000#32) s h d
    (fun C k => ∑ r ∈ Finset.range 64, (hd x1 x2 x3 h).P (64 * C + r) (64 * (C % 8) + k) * (hd x1 x2 x3 h).g (64 * C + r) d) Ideal.ofBits_zero_f32
    (fun C k => value_parts x1 x2 x3 h d ok C k) U).trans ?_)
  rw [ok.dv_groups (64 * U + s) (by omega), show (64 * U.val + s.val) / 64 = U.val by omega, show (64 * U.val + s.val) % 64 = s.val by omega]

theorem key_groups (ok : (hd x1 x2 x3 h).Ok) (U s : Fin 64) : val_main_v233 (F := Ideal) x1 x2 x3 (ix5 0 ⟨U + 8, by omega⟩ s h d) = (hd x1 x2 x3 h).dk (64 * U + s) d := by
  refine Eq.trans (show _ = _ from rfl) ((back_sum (val_main_v205 (F := Ideal) x1 x2 x3) (constant (F := Ideal) S_ .f32 0x00000000#32) s h d
    (fun C k => ∑ r ∈ Finset.range 64, (hd x1 x2 x3 h).D (64 * C + r) (64 * (C % 8) + k) * (hd x1 x2 x3 h).σ * (hd x1 x2 x3 h).q (64 * C + r) d) Ideal.ofBits_zero_f32
    (fun C k => key_parts x1 x2 x3 h d ok C k) U).trans ?_)
  rw [ok.dk_groups (64 * U + s) (by omega), show (64 * U.val + s.val) / 64 = U.val by omega, show (64 * U.val + s.val) % 64 = s.val by omega]

/-- The query's gradient before the scale. -/
theorem query_rows (ok : (hd x1 x2 x3 h).Ok) (C r : Fin 64) :
    val_main_v207 (F := Ideal) x1 x2 x3 (ix5 0 C r h d) * Cert.KernelIdeal.Attn.σ = (hd x1 x2 x3 h).dq (64 * C + r) d := by
  have ht : 64 * C.val + r.val < 4096 := by omega
  obtain ⟨s, s0, es⟩ := scale_real
  rw [ok.dq_band s0 (show (hd x1 x2 x3 h).σ = (s : EReal) from es) ht, val_main_v207_apply, val_main_v206_apply, Finset.sum_range]
  refine congrArg (· * _) (Finset.sum_congr rfl fun k _ => ?_)
  obtain ⟨e1, e2, e3, e4⟩ := places C r r.isLt k k.isLt
  rw [show lidx_main_v206 (idx_main_v207 (ix5 0 C r h d)) k = ix5 0 h C r k by idx_ext, show ridx_main_v206 (idx_main_v207 (ix5 0 C r h d)) k = ix5 0 C k h d by idx_ext,
    keys x1 x2 x3, derivative x1 x2 x3 h C r (ok.band ht)]
  by_cases hs : 512 ≤ 64 * C.val + k.val
  · unfold padded
    rw [if_neg (by omega), e1, e3]
  · rw [(ok.band ht).der_bot (bandScore_bot _ C r r.isLt k k.isLt hs), zero_mul, zero_mul]

variable (t : Fin 4096)

/-- A column of a plane is an entry of a head. -/
theorem column : idx_main_v240 (ix3 0 t ⟨128 * h + d, by omega⟩) = ix4 0 t h d := by
  funext b; apply Fin.ext
  match b with
  | ⟨0, _⟩ => rfl
  | ⟨1, _⟩ => show ((0 * 4096 + t.val) * 2048 + (128 * h.val + d.val)) / 2048 % 4096 = t.val; omega
  | ⟨2, _⟩ => show ((0 * 4096 + t.val) * 2048 + (128 * h.val + d.val)) / 128 % 16 = h.val; omega
  | ⟨3, _⟩ => show ((0 * 4096 + t.val) * 2048 + (128 * h.val + d.val)) % 128 = d.val; omega

/-- A row of the keys is one of the padded groups. -/
theorem key_row : idx_main_v151 (idx_main_v153 (ix4 0 t h d)) = ix5 0 ⟨(⟨t / 64, by omega⟩ : Fin 64) + 8, by show t.val / 64 + 8 < 72; omega⟩ ⟨t % 64, by omega⟩ h d := by
  funext b; apply Fin.ext
  match b with
  | ⟨0, _⟩ => rfl
  | ⟨1, _⟩ => show (((0 * 4608 + (512 + t.val)) * 16 + h.val) * 128 + d.val) / 131072 % 72 = t.val / 64 + 8; omega
  | ⟨2, _⟩ => show (((0 * 4608 + (512 + t.val)) * 16 + h.val) * 128 + d.val) / 2048 % 64 = t.val % 64; omega
  | ⟨3, _⟩ => show (((0 * 4608 + (512 + t.val)) * 16 + h.val) * 128 + d.val) / 128 % 16 = h.val; omega
  | ⟨4, _⟩ => show (((0 * 4608 + (512 + t.val)) * 16 + h.val) * 128 + d.val) % 128 = d.val; omega

/-- A row of the queries is one of the groups. -/
theorem query_row : idx_main_v237 (ix4 0 t h d) = ix5 0 ⟨t / 64, by omega⟩ ⟨t % 64, by omega⟩ h d := by
  funext b; apply Fin.ext
  match b with
  | ⟨0, _⟩ => rfl
  | ⟨1, _⟩ => show (((0 * 4096 + t.val) * 16 + h.val) * 128 + d.val) / 131072 % 64 = t.val / 64; omega
  | ⟨2, _⟩ => show (((0 * 4096 + t.val) * 16 + h.val) * 128 + d.val) / 2048 % 64 = t.val % 64; omega
  | ⟨3, _⟩ => show (((0 * 4096 + t.val) * 16 + h.val) * 128 + d.val) / 128 % 16 = h.val; omega
  | ⟨4, _⟩ => show (((0 * 4096 + t.val) * 16 + h.val) * 128 + d.val) % 128 = d.val; omega

theorem value_plane (ok : (hd x1 x2 x3 h).Ok) : val_main_v240 (F := Ideal) x1 x2 x3 (ix3 0 t ⟨128 * h + d, by omega⟩) = (hd x1 x2 x3 h).dv t d := by
  rw [val_main_v240_apply, column, val_main_v153_apply, val_main_v151_apply, key_row, value_groups x1 x2 x3 h d ok]
  exact congrArg ((hd x1 x2 x3 h).dv · d) (by show 64 * (t.val / 64) + t.val % 64 = t.val; omega)

theorem key_plane (ok : (hd x1 x2 x3 h).Ok) : val_main_v241 (F := Ideal) x1 x2 x3 (ix3 0 t ⟨128 * h + d, by omega⟩) = (hd x1 x2 x3 h).dk t d := by
  rw [val_main_v241_apply, show idx_main_v241 (ix3 0 t ⟨128 * h + d, by omega⟩) = ix4 0 t h d from column h d t, val_main_v236_apply, val_main_v234_apply,
    show idx_main_v234 (idx_main_v236 (ix4 0 t h d)) = _ from key_row h d t, key_groups x1 x2 x3 h d ok]
  exact congrArg ((hd x1 x2 x3 h).dk · d) (by show 64 * (t.val / 64) + t.val % 64 = t.val; omega)

theorem query_plane (ok : (hd x1 x2 x3 h).Ok) : val_main_v242 (F := Ideal) x1 x2 x3 (ix3 0 t ⟨128 * h + d, by omega⟩) = (hd x1 x2 x3 h).dq t d := by
  rw [val_main_v242_apply, show idx_main_v242 (ix3 0 t ⟨128 * h + d, by omega⟩) = ix4 0 t h d from column h d t, val_main_v239_apply, val_main_v237_apply, query_row, val_main_v238_apply]
  refine (query_rows x1 x2 x3 h d ok ⟨t / 64, by omega⟩ ⟨t % 64, by omega⟩).trans ?_
  exact congrArg ((hd x1 x2 x3 h).dq · d) (by show 64 * (t.val / 64) + t.val % 64 = t.val; omega)

variable (x0 : (⟨S7x4096x2048, .bf16⟩ : BufTy).Contents (Elt Ideal))

/-- Three planes and four, joined. -/
def planes (f₀ f₁ f₂ : S1x4096x2048.Idx → EReal) (g : S4x4096x2048.Idx → EReal) : S7x4096x2048.Idx → EReal :=
  concatenate S7x4096x2048 0 [⟨S1x4096x2048, f₀⟩, ⟨S1x4096x2048, f₁⟩, ⟨S1x4096x2048, f₂⟩, ⟨S4x4096x2048, g⟩]
    concatenates_S1x4096x2048_S1x4096x2048_S1x4096x2048_S4x4096x2048_S7x4096x2048_d0

theorem planes_apply (f₀ f₁ f₂ : S1x4096x2048.Idx → EReal) (g : S4x4096x2048.Idx → EReal) (t : Fin 4096) (c : Fin 2048) :
    planes f₀ f₁ f₂ g (ix3 0 t c) = f₀ (ix3 0 t c) ∧ planes f₀ f₁ f₂ g (ix3 1 t c) = f₁ (ix3 0 t c) ∧ planes f₀ f₁ f₂ g (ix3 2 t c) = f₂ (ix3 0 t c)
      ∧ ∀ p : Fin 4, planes f₀ f₁ f₂ g (ix3 ⟨3 + p, by omega⟩ t c) = g (ix3 p t c) := by
  refine ⟨?_, ?_, ?_, fun p => ?_⟩
  · exact concatenate_apply_piece (0 : Fin S7x4096x2048.rank) [⟨S1x4096x2048, f₀⟩, ⟨S1x4096x2048, f₁⟩, ⟨S1x4096x2048, f₂⟩, ⟨S4x4096x2048, g⟩] _ _ 0 (by show 0 < 4; omega)
      S1x4096x2048 f₀ rfl rfl 0 rfl (ix3 0 t c)
      (fun b hb => match b, hb with
        | ⟨0, _⟩, hb => absurd rfl hb
        | ⟨1, _⟩, _ => rfl
        | ⟨2, _⟩, _ => rfl) rfl
  · exact concatenate_apply_piece (0 : Fin S7x4096x2048.rank) [⟨S1x4096x2048, f₀⟩, ⟨S1x4096x2048, f₁⟩, ⟨S1x4096x2048, f₂⟩, ⟨S4x4096x2048, g⟩] _ _ 1 (by show 1 < 4; omega)
      S1x4096x2048 f₁ rfl rfl 1 rfl (ix3 0 t c)
      (fun b hb => match b, hb with
        | ⟨0, _⟩, hb => absurd rfl hb
        | ⟨1, _⟩, _ => rfl
        | ⟨2, _⟩, _ => rfl) rfl
  · exact concatenate_apply_piece (0 : Fin S7x4096x2048.rank) [⟨S1x4096x2048, f₀⟩, ⟨S1x4096x2048, f₁⟩, ⟨S1x4096x2048, f₂⟩, ⟨S4x4096x2048, g⟩] _ _ 2 (by show 2 < 4; omega)
      S1x4096x2048 f₂ rfl rfl 2 rfl (ix3 0 t c)
      (fun b hb => match b, hb with
        | ⟨0, _⟩, hb => absurd rfl hb
        | ⟨1, _⟩, _ => rfl
        | ⟨2, _⟩, _ => rfl) rfl
  · exact concatenate_apply_piece (0 : Fin S7x4096x2048.rank) [⟨S1x4096x2048, f₀⟩, ⟨S1x4096x2048, f₁⟩, ⟨S1x4096x2048, f₂⟩, ⟨S4x4096x2048, g⟩] _ _ 3 (by show 3 < 4; omega)
      S4x4096x2048 g rfl rfl 3 rfl (ix3 p t c)
      (fun b hb => match b, hb with
        | ⟨0, _⟩, hb => absurd rfl hb
        | ⟨1, _⟩, _ => rfl
        | ⟨2, _⟩, _ => rfl) rfl

/-- The first result is the planes joined. -/
theorem joined_planes : val_main_v246 (F := Ideal) x0 x1 x2 x3
    = planes (val_main_v242 (F := Ideal) x1 x2 x3) (val_main_v241 (F := Ideal) x1 x2 x3) (val_main_v240 (F := Ideal) x1 x2 x3) (val_main_v244 (F := Ideal) x0) := rfl

/-- The four planes that are handed on. -/
theorem rest (p : Fin 4) (c : Fin 2048) : val_main_v246 (F := Ideal) x0 x1 x2 x3 (ix3 ⟨3 + p, by omega⟩ t c) = x0 (ix3 ⟨3 + p, by omega⟩ t c) := by
  rw [joined_planes, (planes_apply _ _ _ _ t c).2.2.2 p, val_main_v244_apply, val_main_v243_apply, show idx_main_v243 (ix3 p t c) = ix3 ⟨3 + p, by omega⟩ t c by idx_ext]
  rfl

theorem query_result (ok : (hd x1 x2 x3 h).Ok) : val_main_v246 (F := Ideal) x0 x1 x2 x3 (ix3 0 t ⟨128 * h + d, by omega⟩) = (hd x1 x2 x3 h).dq t d := by
  rw [joined_planes, (planes_apply _ _ _ _ t _).1, query_plane x1 x2 x3 h d t ok]

theorem key_result (ok : (hd x1 x2 x3 h).Ok) : val_main_v246 (F := Ideal) x0 x1 x2 x3 (ix3 1 t ⟨128 * h + d, by omega⟩) = (hd x1 x2 x3 h).dk t d := by
  rw [joined_planes, (planes_apply _ _ _ _ t _).2.1, key_plane x1 x2 x3 h d t ok]

theorem value_result (ok : (hd x1 x2 x3 h).Ok) : val_main_v246 (F := Ideal) x0 x1 x2 x3 (ix3 2 t ⟨128 * h + d, by omega⟩) = (hd x1 x2 x3 h).dv t d := by
  rw [joined_planes, (planes_apply _ _ _ _ t _).2.2.1, value_plane x1 x2 x3 h d t ok]

end Cert.ReferenceIdeal.Attn

end
-- ==== Proof.Attn.Equal.lean ====
/-
  The two programs' results are the same: where the queries, the keys and the biases are finite every query's scores are as the
  gradients need them, and both programs end with the gradients of the heads.
-/
module

public import proofs.«01_k».proof.Defs
public import proofs.«01_k».proof.Proof.Attn.State
public import proofs.«01_k».proof.Proof.Attn.RefBias
public import proofs.«01_k».proof.Proof.Attn.RefGrad
public import proofs.«01_k».proof.Proof.Gen.Pre_finite
public import proofs.«01_k».proof.Proof.Gen.ReferenceIdeal.Run
public import Idealize.ShloMosaic.Lib.Quiescent

@[expose] public section

set_option maxRecDepth 16384

noncomputable section

namespace Cert.Band

open Idealize.ShloMosaic

/-- A value whose magnitude is below +∞ is a real. -/
theorem real_of_below {x : EReal} (h : max x (-x) < ⊤) : ∃ r : ℝ, x = r := by
  refine ⟨x.toReal, (EReal.coe_toReal ?_ ?_).symm⟩
  · rintro rfl; simp at h
  · rintro rfl; simp at h

theorem real_of_cmp {x y : EReal} (hy : y = ⊤) (h : Ideal.cmp .olt (max x (-x)) y = 1#1) : ∃ r : ℝ, x = r := by
  subst hy
  refine real_of_below ?_
  by_contra hn
  rw [Ideal.cmp, decide_eq_false hn] at h
  exact absurd h (by decide)

theorem at3_real {A B C : ℕ} {X : (⟨3, ![A, B, C]⟩ : Shape).Idx → EReal} {a : ℕ} (hX : ∀ (ha : a < A) b c, ∃ r : ℝ, X (ix3 ⟨a, ha⟩ b c) = r) (b c : ℕ) :
    ∃ r : ℝ, at3 X a b c = r := by
  unfold at3
  by_cases h : a < A ∧ b < B ∧ c < C
  · rw [dif_pos h]; exact hX h.1 _ _
  · rw [dif_neg h]; exact ⟨0, rfl⟩

/-- Where queries, keys, biases and scale are real, every query's scores are as the gradients need them. -/
theorem Head.ok_of_real (H : Head) (hq : ∀ t d, ∃ r : ℝ, H.q t d = r) (hk : ∀ t d, ∃ r : ℝ, H.k t d = r) (hb : ∀ r c, ∃ x : ℝ, H.b r c = x) (hσ : ∃ s : ℝ, H.σ = s) : H.Ok := by
  have real : ∀ t c, seen t c → ∃ r : ℝ, H.score t c = r := by
    intro t c hs
    obtain ⟨s, es⟩ := hσ
    obtain ⟨b, eb⟩ := hb (t % 512) c
    choose f hf using hq t
    choose g hg using hk (pos t c)
    refine ⟨(∑ d, f d * g d) * s + b, ?_⟩
    unfold Head.score
    rw [if_pos hs, es, eb, EReal.coe_add, EReal.coe_mul, ← sum_coe]
    refine congrArg (fun x : EReal => x * (s : EReal) + (b : EReal)) (Finset.sum_congr rfl fun d _ => ?_)
    rw [hf, hg, EReal.coe_mul]
  intro t ht
  constructor
  · intro c _
    by_cases hs : seen t c
    · obtain ⟨r, e⟩ := real t c hs
      rw [e]; exact EReal.coe_ne_top r
    · rw [Head.score_bot hs]; exact bot_ne_top
  · have hs : seen t (512 + t % 512) := by unfold seen; omega
    obtain ⟨r, e⟩ := real t _ hs
    exact ⟨512 + t % 512, by omega, by rw [e]; exact EReal.coe_ne_bot r⟩

end Cert.Band

namespace Cert.Attn

open Idealize.ShloMosaic Idealize.ShloMosaic.TcCoe Idealize.SL.Sem Cert.Band
open Cert.KernelIdeal.Attn (σ head dproj dbias Fine)
open Cert.ReferenceIdeal.Attn (hd scale_real)

/-- A plane that is finite has real entries. -/
theorem plane_real (x : FVec Ideal Cert.Pre_finite.S7x4096x2048 .bf16) (p : Fin 7) (hs : Cert.Pre_finite.S7x4096x2048.Slices ![p.val, 0, 0] Cert.Pre_finite.S1x4096x2048)
    (hc : Cert.Pre_finite.S1x4096x2048.ShapeCasts Cert.Pre_finite.S4096x2048) (hb : Cert.Pre_finite.S_.BroadcastsInDim Cert.Pre_finite.S4096x2048 ![])
    (h : cmpf .olt (Host.absf (shapeCast Cert.Pre_finite.S4096x2048 (extractStridedSlice Cert.Pre_finite.S1x4096x2048 ![p.val, 0, 0] x hs) hc : FVec Ideal Cert.Pre_finite.S4096x2048 .bf16))
      (broadcastInDim Cert.Pre_finite.S4096x2048 ![] hb (constant Cert.Pre_finite.S_ .bf16 0x7F80#16)) = fun _ => 1#1)
    (t : Fin 4096) (c : Fin 2048) : ∃ r : ℝ, x (ix3 p t c) = r := by
  have e : (shapeCast Cert.Pre_finite.S4096x2048 (extractStridedSlice Cert.Pre_finite.S1x4096x2048 ![p.val, 0, 0] x hs) hc : FVec Ideal Cert.Pre_finite.S4096x2048 .bf16) (ix2 t c) = x (ix3 p t c) :=
    (shapeCast_apply _ hc (ix2 t c) (ix3 0 t c) (by
      rewrite [Shape.rowMajor_val_three, Shape.rowMajor_val_two]
      show (0 * 4096 + t.val) * 2048 + c.val = t.val * 2048 + c.val
      omega)).trans
    (extractStridedSlice_apply _ x hs (ix3 0 t c) (ix3 p t c) fun a => match a with
      | ⟨0, _⟩ => rfl
      | ⟨1, _⟩ => (Nat.zero_add t.val).symm
      | ⟨2, _⟩ => (Nat.zero_add c.val).symm)
  have h' := congrFun h (ix2 t c)
  refine real_of_cmp (y := Ideal.ofBits .bf16 0x7F80#16) (by simp [Ideal.ofBits, Ideal.ieee]) ?_
  rw [← e]
  exact h'

section Memory

variable (m : (ℓ : Loc Cert.KernelIdeal.nD Cert.KernelIdeal.τ Cert.KernelIdeal.sig) → Buf (Elt Ideal) ℓ) (c : Dev Cert.KernelIdeal.nD)

/-- The precondition gives what the gradients need of every head. -/
theorem fine (h : Cert.Pre_KernelIdeal_finite (hPre_finite := Cert.Pre_finite.Gen.facts) m) : Fine m c := by
  obtain ⟨h0, h1, h2⟩ := h c
  have hq := plane_real _ 0 _ _ _ h0
  have hk := plane_real _ 1 _ _ _ h1
  have hb : ∀ (i : Fin 16) (r : Fin 512) (j : Fin 1024), ∃ x : ℝ, m ((c.tc : Thread Cert.KernelIdeal.nD Cert.KernelIdeal.τ).loc Cert.KernelIdeal.main_arg3) (ix3 i r j) = (x : EReal) :=
    fun i r j => real_of_cmp (y := Ideal.ofBits .f32 0x7F800000#32) (by simp [Ideal.ofBits, Ideal.ieee]) (congrFun h2 (ix3 i r j))
  intro i hi
  obtain ⟨s, -, es⟩ := scale_real
  exact Head.ok_of_real _ (fun t d => at3_real (fun _ t c => hq t c) _ _) (fun t d => at3_real (fun _ t c => hk t c) _ _) (fun r j => at3_real (fun hi r c => hb ⟨i, hi⟩ r c) _ _) ⟨s, es⟩

theorem ok_of_fine (h : Fine m c) (i : Fin 16) : (hd (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i.val).Ok :=
  h i.val i.isLt

theorem dproj_query (t : Fin 4096) (j : Fin 2048) : dproj m c (ix3 0 t j) = (head m c (j.val / 128)).dq t.val (Fin.ofNat 128 j.val) :=
  if_pos (show (0 : ℕ) / 3 = 0 from rfl)
theorem dproj_key (t : Fin 4096) (j : Fin 2048) : dproj m c (ix3 1 t j) = (head m c (j.val / 128)).dk t.val (Fin.ofNat 128 j.val) :=
  if_pos (show (1 : ℕ) / 3 = 0 from rfl)
theorem dproj_value (t : Fin 4096) (j : Fin 2048) : dproj m c (ix3 2 t j) = (head m c (j.val / 128)).dv t.val (Fin.ofNat 128 j.val) :=
  if_pos (show (2 : ℕ) / 3 = 0 from rfl)
theorem dproj_rest (p : Fin 7) (hp : 3 ≤ p.val) (t : Fin 4096) (j : Fin 2048) :
    dproj m c (ix3 p t j) = m ((c.tc : Thread Cert.KernelIdeal.nD Cert.KernelIdeal.τ).loc Cert.KernelIdeal.main_arg0) (ix3 p t j) :=
  if_neg (show ¬ p.val / 3 = 0 by omega)

/-- A column of a plane is a head and a column of the head. -/
theorem column (j : Fin 2048) (h : 128 * (⟨j.val / 128, by omega⟩ : Fin 16).val + (Fin.ofNat 128 j.val : Fin 128).val < 2048) :
    (⟨128 * (⟨j.val / 128, by omega⟩ : Fin 16).val + (Fin.ofNat 128 j.val : Fin 128).val, h⟩ : Fin 2048) = j :=
  Fin.ext (Nat.div_add_mod j.val 128)

theorem first (h : Fine m c) :
    Cert.ReferenceIdeal.Read.val_main_v246 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = dproj m c := by
  funext i
  obtain ⟨p, t, j, rfl⟩ : ∃ (p : Fin 7) (t : Fin 4096) (j : Fin 2048), i = ix3 p t j := ⟨i 0, i 1, i 2, by funext a; match a with | ⟨0, _⟩ => rfl | ⟨1, _⟩ => rfl | ⟨2, _⟩ => rfl⟩
  have ok := ok_of_fine m c h ⟨j.val / 128, by omega⟩
  have e := column j (by have := (Fin.ofNat 128 j.val : Fin 128).isLt; have := j.isLt; show 128 * (j.val / 128) + _ < 2048; omega)
  obtain ⟨p, hp⟩ := p
  by_cases h0 : p = 0
  · subst h0
    refine Eq.trans ?_ (dproj_query m c t j).symm
    have r := Cert.ReferenceIdeal.Attn.query_result _ _ _ ⟨j.val / 128, by omega⟩ (Fin.ofNat 128 j.val) t (m ((c.tc : Thread Cert.KernelIdeal.nD Cert.KernelIdeal.τ).loc Cert.KernelIdeal.main_arg0)) ok
    rw [e] at r
    exact r
  by_cases h1 : p = 1
  · subst h1
    refine Eq.trans ?_ (dproj_key m c t j).symm
    have r := Cert.ReferenceIdeal.Attn.key_result _ _ _ ⟨j.val / 128, by omega⟩ (Fin.ofNat 128 j.val) t (m ((c.tc : Thread Cert.KernelIdeal.nD Cert.KernelIdeal.τ).loc Cert.KernelIdeal.main_arg0)) ok
    rw [e] at r
    exact r
  by_cases h2 : p = 2
  · subst h2
    refine Eq.trans ?_ (dproj_value m c t j).symm
    have r := Cert.ReferenceIdeal.Attn.value_result _ _ _ ⟨j.val / 128, by omega⟩ (Fin.ofNat 128 j.val) t (m ((c.tc : Thread Cert.KernelIdeal.nD Cert.KernelIdeal.τ).loc Cert.KernelIdeal.main_arg0)) ok
    rw [e] at r
    exact r
  obtain ⟨n, rfl⟩ : ∃ n, p = 3 + n := ⟨p - 3, by omega⟩
  exact (Cert.ReferenceIdeal.Attn.rest _ _ _ t _ ⟨n, by omega⟩ j).trans (dproj_rest m c ⟨3 + n, hp⟩ (by show 3 ≤ 3 + n; omega) t j).symm

theorem second (h : Fine m c) :
    Cert.ReferenceIdeal.Read.val_main_v203 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = dbias m c := by
  funext i
  obtain ⟨p, t, j, rfl⟩ : ∃ (p : Fin 16) (t : Fin 512) (j : Fin 1024), i = ix3 p t j := ⟨i 0, i 1, i 2, by funext a; match a with | ⟨0, _⟩ => rfl | ⟨1, _⟩ => rfl | ⟨2, _⟩ => rfl⟩
  exact Cert.ReferenceIdeal.Attn.second_result p t j _ _ _ (ok_of_fine m c h p)

end Memory

/-- The reference leaves its arguments as they are, and it has no semaphores. -/
theorem reference_frame : Cert.quiescent_ReferenceIdeal (hReferenceIdeal := Cert.ReferenceIdeal.Gen.facts) :=
  fun m g _ => (θ_run Cert.ReferenceIdeal.defs _ _).mono (fun r h => ⟨fun c => (h c).2.2, sem_eq_zero_of_no_sems rfl r.2⟩) (Cert.ReferenceIdeal.Value.run m g)

/-- The two programs end with the same results where the queries, the keys and the biases are finite. -/
theorem equal : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hp ha
  have ok : ∀ c, Fine m c := fun c => fine m c hp
  refine ⟨dproj m, dbias m, (θ_run Cert.KernelIdeal.defs _ _).mono (fun r h c => ⟨(h.1 c).1, (h.1 c).2, h.2 c⟩) (θ_run_and (Cert.KernelIdeal.Attn.run m g ok) (Cert.KernelIdeal.Attn.unchanged m g)),
    (θ_run Cert.ReferenceIdeal.defs _ _).mono (fun r h c => ?_) (Cert.ReferenceIdeal.Value.run m' g')⟩
  obtain ⟨h0, h1, h2⟩ := h c
  obtain ⟨a0, a1, a2, a3⟩ := ha c
  refine ⟨h0.trans ?_, h1.trans ?_, h2⟩
  · exact ((Cert.ReferenceIdeal.Read.val_main_v246_eq _).trans (by rw [← first m c (ok c), ← a0, ← a1, ← a2, ← a3]))
  · exact ((Cert.ReferenceIdeal.Read.val_main_v203_eq _).trans (by rw [← second m c (ok c), ← a1, ← a2, ← a3]))

end Cert.Attn

end
-- ==== Proof.Mul.Tiles.lean ====
/-
  What the calls that multiply two matrices tile by tile have in common: an array read at places given as numbers, and a sum
  carried from tile to tile along the axis that is summed over.
-/
module

public import Idealize.ShloMosaic.Lib.Pointwise

@[expose] public section

noncomputable section

namespace Cert.Tiles

open Idealize.ShloMosaic

/-- The offsets of a store of a whole tile. -/
theorem zero2 : (![0, 0] : Fin 2 → Nat) = fun _ => 0 := by funext a; fin_cases a <;> rfl
theorem zero3 : (![0, 0, 0] : Fin 3 → Nat) = fun _ => 0 := by funext a; fin_cases a <;> rfl

/-- An array of two axes at two places, zero outside of it. -/
def at2 {A B : ℕ} (X : (⟨2, ![A, B]⟩ : Shape).Idx → EReal) (a b : ℕ) : EReal :=
  if h : a < A ∧ b < B then X (ix2 ⟨a, h.1⟩ ⟨b, h.2⟩) else 0

/-- An entry of the array is the array at the entry's places. -/
theorem at2_of {A B : ℕ} (X : (⟨2, ![A, B]⟩ : Shape).Idx → EReal) (i : (⟨2, ![A, B]⟩ : Shape).Idx) {a b : ℕ}
    (ha : (i 0 : ℕ) = a) (hb : (i 1 : ℕ) = b) : X i = at2 X a b := by
  subst ha; subst hb
  have h0 : (i 0 : ℕ) < A := (i 0).isLt
  have h1 : (i 1 : ℕ) < B := (i 1).isLt
  rw [at2, dif_pos ⟨h0, h1⟩]
  congr 1
  funext a
  fin_cases a <;> rfl

/-- An array of three axes at three places, zero outside of it. -/
def at3 {A B C : ℕ} (X : (⟨3, ![A, B, C]⟩ : Shape).Idx → EReal) (a b c : ℕ) : EReal :=
  if h : a < A ∧ b < B ∧ c < C then X (ix3 ⟨a, h.1⟩ ⟨b, h.2.1⟩ ⟨c, h.2.2⟩) else 0

/-- An entry of the array is the array at the entry's places. -/
theorem at3_of {A B C : ℕ} (X : (⟨3, ![A, B, C]⟩ : Shape).Idx → EReal) (i : (⟨3, ![A, B, C]⟩ : Shape).Idx) {a b c : ℕ}
    (ha : (i 0 : ℕ) = a) (hb : (i 1 : ℕ) = b) (hc : (i 2 : ℕ) = c) : X i = at3 X a b c := by
  subst ha; subst hb; subst hc
  have h0 : (i 0 : ℕ) < A := (i 0).isLt
  have h1 : (i 1 : ℕ) < B := (i 1).isLt
  have h2 : (i 2 : ℕ) < C := (i 2).isLt
  rw [at3, dif_pos ⟨h0, h1, h2⟩]
  congr 1
  funext a
  fin_cases a <;> rfl

/-- A sum carried over `k` tiles: where the first point of every run of `k` starts it with its own tile of `K` terms and
    every other point adds its own tile to what the point before it left, every point has the sum of the terms of its tile
    and of the tiles before it. -/
theorem carried {N : ℕ} {ι : Type} (k K : ℕ) (hk : 0 < k) (S : (n : ℕ) → n < N → ι → EReal) (f : ℕ → ι → ℕ → EReal)
    (hA : ∀ n h x, n % k = 0 → S n h x = ∑ l : Fin K, f (n / k) x (K * (n % k) + l))
    (hB : ∀ n h x, n % k ≠ 0 → S n h x = S (n - 1) (Nat.lt_of_le_of_lt (Nat.sub_le _ _) h) x + ∑ l : Fin K, f (n / k) x (K * (n % k) + l))
    (n : ℕ) (h : n < N) (x : ι) : S n h x = ∑ l ∈ Finset.range (K * (n % k + 1)), f (n / k) x l := by
  induction n with
  | zero =>
    rw [hA 0 h x (Nat.zero_mod k), Nat.zero_mod]
    simp only [Nat.mul_zero, Nat.zero_add, Nat.mul_one]
    rw [Finset.sum_range]
  | succ n ih =>
    by_cases h0 : (n + 1) % k = 0
    · rw [hA _ h x h0, h0]
      simp only [Nat.mul_zero, Nat.zero_add, Nat.mul_one]
      rw [Finset.sum_range]
    · have hm : (n + 1) % k = n % k + 1 := by
        rw [Nat.add_mod] at h0 ⊢
        rcases Nat.lt_or_ge 1 k with h1 | h1
        · rw [Nat.mod_eq_of_lt h1] at h0 ⊢
          have := Nat.mod_lt n hk
          rcases Nat.lt_or_ge (n % k + 1) k with h2 | h2
          · exact Nat.mod_eq_of_lt h2
          · exact absurd (by rw [show n % k + 1 = k by omega, Nat.mod_self]) h0
        · exact absurd (Nat.lt_one_iff.mp (lt_of_lt_of_le (Nat.mod_lt _ hk) h1)) h0
      have hd : (n + 1) / k = n / k := by
        have e1 := Nat.div_add_mod (n + 1) k
        have e2 := Nat.div_add_mod n k
        have : k * ((n + 1) / k) = k * (n / k) := by omega
        exact Nat.eq_of_mul_eq_mul_left hk this
      rw [hB _ h x h0]
      show S n _ x + _ = _
      rw [ih, hd, hm, Nat.mul_add K (n % k + 1) 1, Nat.mul_one, Finset.sum_range_add,
        Finset.sum_range (fun l => f (n / k) x (K * (n % k + 1) + l))]

end Cert.Tiles

end
-- ==== Proof.Mul.BwdX.lean ====
/-
  The gradient of a product's left factor, `dy wᵀ`: what the call leaves in its result.
-/
module

public import proofs.«01_k».proof.Proof.Mul.Tiles
public import proofs.«01_k».proof.Defs
public import proofs.«01_k».proof.Proof.Gen.Kernel2Ideal.Value
public import proofs.«01_k».proof.Proof.Gen.Reference2Ideal.Run
public import Idealize.ShloMosaic.Lib.Quiescent

@[expose] public section

set_option maxRecDepth 16384

noncomputable section

namespace Cert.Kernel2Ideal.Mul

open Cert.Kernel2Ideal Cert.Kernel2Ideal.Gen Idealize.ShloMosaic Idealize.ShloMosaic.TcCoe Cert.Tiles

section tile

variable (x0 x1 : Vec Ideal S1024x2048 .bf16) (s : Vec Ideal S1024x1024 .f32) (r e : Fin 1024)

/-- An entry of a tile's product. -/
theorem pay2_apply : k0_pay2 x0 x1 (ix2 r e) = ∑ l : Fin 2048, x0 (ix2 r l) * x1 (ix2 e l) := by
  pointwise [k0_pay2, k0_pay1]

/-- An entry of a tile's product on top of the sum so far. -/
theorem pay3_apply : k0_pay3 x0 x1 s (ix2 r e) = s (ix2 r e) + ∑ l : Fin 2048, x0 (ix2 r l) * x1 (ix2 e l) := by
  pointwise [k0_pay3, k0_pay1]

variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S1024x2048) zero2]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S1024x2048) zero2, View.ld_unit_zero (S := S1024x1024) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay3 x0 x1 s := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S1024x2048) zero2, View.ld_unit_zero (S := S1024x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 2 / 4 ∧ win0_0.index t (1 : Fin 2) = t.val % 2
    ∧ win0_1.index t (0 : Fin 2) = t.val / 2 % 4 ∧ win0_1.index t (1 : Fin 2) = t.val % 2 := by decide +kernel

variable (t : Fin cfg0.N) (r : Fin 1024) (l : Fin 2048)

/-- The block of the result's gradient that point `t` reads. -/
def left : Vec Ideal S1024x2048 .bf16 := iblk m c 0 t

/-- The block of the right factor that point `t` reads. -/
def right : Vec Ideal S1024x2048 .bf16 := iblk m c 1 t

theorem left_apply : left m c t (ix2 r l) = at2 (m ((c : Thread nD τ).loc main_arg2)) (1024 * (t.val / 2 / 4) + r) (2048 * (t.val % 2) + l) := by
  obtain ⟨e0, e1, -, -⟩ := maps t
  show V m c main_arg2 (((cfg0.win 0).blk t).view.emb (ix2 r l)) = _
  rw [V_main_arg2]
  refine at2_of _ _ ?_ ?_
  · show win0_0.index t (0 : Fin 2) * 1024 + 1 * r.val = _; rw [e0]; ring
  · show win0_0.index t (1 : Fin 2) * 2048 + 1 * l.val = _; rw [e1]; ring

theorem right_apply : right m c t (ix2 r l) = at2 (m ((c : Thread nD τ).loc main_arg1)) (1024 * (t.val / 2 % 4) + r) (2048 * (t.val % 2) + l) := by
  obtain ⟨-, -, e0, e1⟩ := maps t
  show V m c main_arg1 (((cfg0.win 1).blk t).view.emb (ix2 r l)) = _
  rw [V_main_arg1]
  refine at2_of _ _ ?_ ?_
  · show win0_1.index t (0 : Fin 2) * 1024 + 1 * r.val = _; rw [e0]; ring
  · show win0_1.index t (1 : Fin 2) * 2048 + 1 * l.val = _; rw [e1]; ring

/-- The term `k` of an entry of run `q`'s block. -/
def term (q : ℕ) (x : Fin 1024 × Fin 1024) (k : ℕ) : EReal :=
  at2 (m ((c : Thread nD τ).loc main_arg2)) (1024 * (q / 4) + x.1) k * at2 (m ((c : Thread nD τ).loc main_arg1)) (1024 * (q % 4) + x.2) k

/-- The tile that point `t` multiplies. -/
theorem tile_apply (e : Fin 1024) : ∑ l : Fin 2048, left m c t (ix2 r l) * right m c t (ix2 e l) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 1024) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) : (outsAt0 m c t.val t.isLt).1 = (outsAt0 m c t.val t.isLt).2 := by
  rw [outsAt0_B m c t (by omega) h0 h0, next, last]

/-- The entry of the product at two places. -/
def entry (a b : ℕ) : EReal :=
  ∑ k : Fin 4096, at2 (m ((c : Thread nD τ).loc main_arg2)) a k * at2 (m ((c : Thread nD τ).loc main_arg1)) b k

/-- All the tiles' terms are the entry's. -/
theorem whole (q : ℕ) (x : Fin 1024 × Fin 1024) : ∑ k ∈ Finset.range (2048 * (1 + 1)), term m c q x k = entry m c (1024 * (q / 4) + x.1) (1024 * (q % 4) + x.2) :=
  Finset.sum_range (n := 4096) (term m c q x)

/-- The result's entries. -/
theorem result (i : S4096x4096.Idx) : Value.G2 m c i = entry m c (i 0) (i 1) := by
  have h0 : (i 0).val < 4096 := (i 0).isLt
  have h1 : (i 1).val < 4096 := (i 1).isLt
  have hp : Value.pt2Of i < cfg0.N := by rw [show cfg0.N = 32 from N_0]; unfold Value.pt2Of Value.run2Of; omega
  have hm : Value.pt2Of i % 2 = 1 := by unfold Value.pt2Of; omega
  have hd : Value.pt2Of i / 2 = 4 * ((i 0).val / 1024) + (i 1).val / 1024 := by unfold Value.pt2Of Value.run2Of; omega
  rw [Value.G2, dif_pos hp, ← Value.outsAt0_sweep m c (Value.pt2Of i) hp, written m c ⟨Value.pt2Of i, hp⟩ hm]
  have e : Value.loc2Of i = ix2 ⟨(i 0).val % 1024, Nat.mod_lt _ (by decide)⟩ ⟨(i 1).val % 1024, Nat.mod_lt _ (by decide)⟩ := by
    funext a; fin_cases a <;> rfl
  rw [e]
  refine (scratch m c (Value.pt2Of i) hp (_, _)).trans ?_
  rw [hm, hd, whole, show (4 * ((i 0).val / 1024) + (i 1).val / 1024) / 4 = (i 0).val / 1024 by omega,
    show (4 * ((i 0).val / 1024) + (i 1).val / 1024) % 4 = (i 1).val / 1024 by omega]
  exact congrArg₂ (entry m c) (Nat.div_add_mod _ 1024) (Nat.div_add_mod _ 1024)

end run

end Cert.Kernel2Ideal.Mul

namespace Cert.Reference2Ideal.Mul

open Cert.Reference2Ideal Cert.Reference2Ideal.Gen Idealize.ShloMosaic Idealize.ShloMosaic.TcCoe Idealize.SL.Sem Cert.Tiles

/-- An entry of the reference's product. -/
theorem dot_apply (g w : FVec Ideal S4096x4096 .bf16) (i : S4096x4096.Idx) :
    Host.dotGeneral dot_S4096x4096_S4096x4096_S4096x4096_1_1_0_0_n_n none (extf .f32 g bitsLt_bf16_f32) (extf .f32 w bitsLt_bf16_f32) i = ∑ k : Fin 4096, at2 g (i 0) k * at2 w (i 1) k := by
  obtain ⟨r, e, rfl⟩ : ∃ r e : Fin 4096, i = ix2 r e := ⟨i 0, i 1, by funext a; fin_cases a <;> rfl⟩
  trans ∑ k : Fin 4096, g (ix2 r k) * w (ix2 e k)
  · pointwise []
  · exact Finset.sum_congr rfl fun k _ => congrArg₂ (· * ·) (at2_of g _ rfl rfl) (at2_of w _ rfl rfl)

/-- The reference leaves its arguments as they are, and it has no semaphores. -/
theorem frame : Cert.quiescent_Reference2Ideal (hReference2Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel2Ideal_Reference2Ideal (hKernel2Ideal := Cert.Kernel2Ideal.Gen.facts) (hReference2Ideal := Gen.facts) := by
  intro m g m' g' _ ha
  refine ⟨Cert.Kernel2Ideal.Value.G2 m, Cert.Kernel2Ideal.Value.run m g, (θ_run defs _ _).mono (fun r h c => ⟨(h c).1.trans ?_, (h c).2⟩) (Value.run m' g')⟩
  obtain ⟨a0, a1, a2⟩ := ha c
  funext i
  rw [a1, a2]
  exact (dot_apply _ _ i).trans (Cert.Kernel2Ideal.Mul.result m c i).symm

end Cert.Reference2Ideal.Mul

end
-- ==== Proof.Mul.BwdW.lean ====
/-
  The gradient of a product's right factor, `hᵀ dy`: what the call leaves in its result.
-/
module

public import proofs.«01_k».proof.Proof.Mul.Tiles
public import proofs.«01_k».proof.Defs
public import proofs.«01_k».proof.Proof.Gen.Kernel3Ideal.Value
public import proofs.«01_k».proof.Proof.Gen.Reference3Ideal.Run
public import Idealize.ShloMosaic.Lib.Quiescent

@[expose] public section

set_option maxRecDepth 16384

noncomputable section

namespace Cert.Kernel3Ideal.Mul

open Cert.Kernel3Ideal Cert.Kernel3Ideal.Gen Idealize.ShloMosaic Idealize.ShloMosaic.TcCoe Cert.Tiles

section tile

variable (x0 x1 : Vec Ideal S2048x1024 .bf16) (s : Vec Ideal S1024x1024 .f32) (r e : Fin 1024)

/-- An entry of a tile's product. -/
theorem pay2_apply : k0_pay2 x0 x1 (ix2 r e) = ∑ l : Fin 2048, x0 (ix2 l r) * x1 (ix2 l e) := by
  pointwise [k0_pay2, k0_pay1]

/-- An entry of a tile's product on top of the sum so far. -/
theorem pay3_apply : k0_pay3 x0 x1 s (ix2 r e) = s (ix2 r e) + ∑ l : Fin 2048, x0 (ix2 l r) * x1 (ix2 l e) := by
  pointwise [k0_pay3, k0_pay1]

/-- The result's type keeps the entries. -/
theorem pay4_apply : k0_pay4 s (ix2 r e) = s (ix2 r e) := by
  pointwise [k0_pay4]

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S2048x1024) zero2]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1024x1024) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay4 (k0_pay3 x0 x1 s) := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1024x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val % 2 ∧ win0_0.index t (1 : Fin 2) = t.val / 2 / 4
    ∧ win0_1.index t (0 : Fin 2) = t.val % 2 ∧ win0_1.index t (1 : Fin 2) = t.val / 2 % 4 := by decide +kernel

variable (t : Fin cfg0.N) (r : Fin 1024) (l : Fin 2048)

/-- The block of the left factor that point `t` reads. -/
def left : Vec Ideal S2048x1024 .bf16 := iblk m c 0 t

/-- The block of the result's gradient that point `t` reads. -/
def right : Vec Ideal S2048x1024 .bf16 := iblk m c 1 t

theorem left_apply : left m c t (ix2 l r) = at2 (m ((c : Thread nD τ).loc main_arg0)) (2048 * (t.val % 2) + l) (1024 * (t.val / 2 / 4) + r) := by
  obtain ⟨e0, e1, -, -⟩ := maps t
  show V m c main_arg0 (((cfg0.win 0).blk t).view.emb (ix2 l r)) = _
  rw [V_main_arg0]
  refine at2_of _ _ ?_ ?_
  · show win0_0.index t (0 : Fin 2) * 2048 + 1 * l.val = _; rw [e0]; ring
  · show win0_0.index t (1 : Fin 2) * 1024 + 1 * r.val = _; rw [e1]; ring

theorem right_apply : right m c t (ix2 l r) = at2 (m ((c : Thread nD τ).loc main_arg2)) (2048 * (t.val % 2) + l) (1024 * (t.val / 2 % 4) + r) := by
  obtain ⟨-, -, e0, e1⟩ := maps t
  show V m c main_arg2 (((cfg0.win 1).blk t).view.emb (ix2 l r)) = _
  rw [V_main_arg2]
  refine at2_of _ _ ?_ ?_
  · show win0_1.index t (0 : Fin 2) * 2048 + 1 * l.val = _; rw [e0]; ring
  · show win0_1.index t (1 : Fin 2) * 1024 + 1 * r.val = _; rw [e1]; ring

/-- The term `k` of an entry of run `q`'s block. -/
def term (q : ℕ) (x : Fin 1024 × Fin 1024) (k : ℕ) : EReal :=
  at2 (m ((c : Thread nD τ).loc main_arg0)) k (1024 * (q / 4) + x.1) * at2 (m ((c : Thread nD τ).loc main_arg2)) k (1024 * (q % 4) + x.2)

/-- The tile that point `t` multiplies. -/
theorem tile_apply (e : Fin 1024) : ∑ l : Fin 2048, left m c t (ix2 l r) * right m c t (ix2 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 1024) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) (e : Fin 1024) : (outsAt0 m c t.val t.isLt).1 (ix2 r e) = (outsAt0 m c t.val t.isLt).2 (ix2 r e) := by
  rw [outsAt0_B m c t (by omega) h0 h0, next, last]
  exact pay4_apply _ r e

/-- The entry of the product at two places. -/
def entry (a b : ℕ) : EReal :=
  ∑ k : Fin 4096, at2 (m ((c : Thread nD τ).loc main_arg0)) k a * at2 (m ((c : Thread nD τ).loc main_arg2)) k b

/-- All the tiles' terms are the entry's. -/
theorem whole (q : ℕ) (x : Fin 1024 × Fin 1024) : ∑ k ∈ Finset.range (2048 * (1 + 1)), term m c q x k = entry m c (1024 * (q / 4) + x.1) (1024 * (q % 4) + x.2) :=
  Finset.sum_range (n := 4096) (term m c q x)

/-- The result's entries. -/
theorem result (i : S4096x4096.Idx) : Value.G2 m c i = entry m c (i 0) (i 1) := by
  have h0 : (i 0).val < 4096 := (i 0).isLt
  have h1 : (i 1).val < 4096 := (i 1).isLt
  have hp : Value.pt2Of i < cfg0.N := by rw [show cfg0.N = 32 from N_0]; unfold Value.pt2Of Value.run2Of; omega
  have hm : Value.pt2Of i % 2 = 1 := by unfold Value.pt2Of; omega
  have hd : Value.pt2Of i / 2 = 4 * ((i 0).val / 1024) + (i 1).val / 1024 := by unfold Value.pt2Of Value.run2Of; omega
  rw [Value.G2, dif_pos hp, ← Value.outsAt0_sweep m c (Value.pt2Of i) hp]
  have e : Value.loc2Of i = ix2 ⟨(i 0).val % 1024, Nat.mod_lt _ (by decide)⟩ ⟨(i 1).val % 1024, Nat.mod_lt _ (by decide)⟩ := by
    funext a; fin_cases a <;> rfl
  rw [e]
  refine (written m c ⟨Value.pt2Of i, hp⟩ _ hm _).trans ?_
  refine (scratch m c (Value.pt2Of i) hp (_, _)).trans ?_
  rw [hm, hd, whole, show (4 * ((i 0).val / 1024) + (i 1).val / 1024) / 4 = (i 0).val / 1024 by omega,
    show (4 * ((i 0).val / 1024) + (i 1).val / 1024) % 4 = (i 1).val / 1024 by omega]
  exact congrArg₂ (entry m c) (Nat.div_add_mod _ 1024) (Nat.div_add_mod _ 1024)

end run

end Cert.Kernel3Ideal.Mul

namespace Cert.Reference3Ideal.Mul

open Cert.Reference3Ideal Cert.Reference3Ideal.Gen Idealize.ShloMosaic Idealize.ShloMosaic.TcCoe Idealize.SL.Sem Cert.Tiles

/-- An entry of the reference's product. -/
theorem dot_apply (h g : FVec Ideal S4096x4096 .bf16) (i : S4096x4096.Idx) :
    truncf .bf16 (transpose S4096x4096 [1, 0] (Host.dotGeneral dot_S4096x4096_S4096x4096_S4096x4096_0_0_1_1_n_n none (extf .f32 g bitsLt_bf16_f32) (extf .f32 h bitsLt_bf16_f32)) transposes_S4096x4096_S4096x4096_1_0) bitsLt_bf16_f32 i
      = ∑ k : Fin 4096, at2 h k (i 0) * at2 g k (i 1) := by
  obtain ⟨r, e, rfl⟩ : ∃ r e : Fin 4096, i = ix2 r e := ⟨i 0, i 1, by funext a; fin_cases a <;> rfl⟩
  trans ∑ k : Fin 4096, g (ix2 k e) * h (ix2 k r)
  · pointwise []
  · exact Finset.sum_congr rfl fun k _ => (mul_comm _ _).trans (congrArg₂ (· * ·) (at2_of h _ rfl rfl) (at2_of g _ rfl rfl))

/-- The reference leaves its arguments as they are, and it has no semaphores. -/
theorem frame : Cert.quiescent_Reference3Ideal (hReference3Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel3Ideal_Reference3Ideal (hKernel3Ideal := Cert.Kernel3Ideal.Gen.facts) (hReference3Ideal := Gen.facts) := by
  intro m g m' g' _ ha
  refine ⟨Cert.Kernel3Ideal.Value.G2 m, Cert.Kernel3Ideal.Value.run m g, (θ_run defs _ _).mono (fun r h c => ⟨(h c).1.trans ?_, (h c).2⟩) (Value.run m' g')⟩
  obtain ⟨a0, a1, a2⟩ := ha c
  funext i
  rw [a0, a2]
  exact (dot_apply _ _ i).trans (Cert.Kernel3Ideal.Mul.result m c i).symm

end Cert.Reference3Ideal.Mul

end
-- ==== Proof.Mul.OutFwd.lean ====
/-
  A product on top of what it is added to, `x + y w`: what the call leaves in its result.
-/
module

public import proofs.«01_k».proof.Proof.Mul.Tiles
public import proofs.«01_k».proof.Defs
public import proofs.«01_k».proof.Proof.Gen.Kernel6Ideal.Value
public import proofs.«01_k».proof.Proof.Gen.Reference6Ideal.Run
public import Idealize.ShloMosaic.Lib.Quiescent

@[expose] public section

set_option maxRecDepth 16384

noncomputable section

namespace Cert.Kernel6Ideal.Mul

open Cert.Kernel6Ideal Cert.Kernel6Ideal.Gen Idealize.ShloMosaic Idealize.ShloMosaic.TcCoe Cert.Tiles

section tile

variable (x0 : Vec Ideal S1024x2048 .bf16) (x1 : Vec Ideal S2048x1024 .bf16) (x2 s : Vec Ideal S1024x1024 .f32) (r e : Fin 1024)

/-- An entry of a tile's product. -/
theorem pay2_apply : k0_pay2 x0 x1 (ix2 r e) = ∑ l : Fin 2048, x0 (ix2 r l) * x1 (ix2 l e) := by
  pointwise [k0_pay2, k0_pay1]

/-- An entry of a tile's product on top of the sum so far. -/
theorem pay3_apply : k0_pay3 x0 x1 s (ix2 r e) = s (ix2 r e) + ∑ l : Fin 2048, x0 (ix2 r l) * x1 (ix2 l e) := by
  pointwise [k0_pay3, k0_pay1]

/-- The last sum adds what the product is added to. -/
theorem pay4_apply : k0_pay4 s x2 (ix2 r e) = s (ix2 r e) + x2 (ix2 r e) := by
  pointwise [k0_pay4]

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

/-- What the first point of a run leaves in the scratch. -/
theorem first (h0 : cond0_0 i) (h1 : ¬cond0_1 i) (h2 : ¬cond0_2 i) :
    sout0_A_0 c i arg3 harg3 arg4 harg4 arg5 harg5 arg6 harg6 arg7 harg7 h0 h1 h2 x0 x1 x2 = k0_pay2 x0 x1 := by
  unfold sout0_A_0
  rw [View.read_writes_eq_canon _ _ _ (scover0_A_0 c i arg3 harg3 arg4 harg4 arg5 harg5 arg6 harg6 arg7 harg7 h0 h1 h2 x0 x1 x2)]
  unfold kernelRun0_A; dsimp only; sl_unfold_words
  rw [View.canon_unit_zero zero2]
  simp only [View.readAt_eq_ld, harg3.read_unread, harg4.read_unread, View.ld_unit_zero (S := S1024x2048) zero2, View.ld_unit_zero (S := S2048x1024) zero2]

/-- What every other point leaves in the scratch. -/
theorem next (h0 : ¬cond0_0 i) (h1 : cond0_1 i) (h2 : cond0_2 i) :
    sout0_B_0 c i arg3 harg3 arg4 harg4 arg5 harg5 arg6 harg6 arg7 harg7 h0 h1 h2 x0 x1 x2 s = k0_pay3 x0 x1 s := by
  unfold sout0_B_0
  rw [View.read_writes_eq_canon _ _ _ (scover0_B_0 c i arg3 harg3 arg4 harg4 arg5 harg5 arg6 harg6 arg7 harg7 h0 h1 h2 x0 x1 x2 s)]
  unfold kernelRun0_B; dsimp only; sl_unfold_words
  rw [View.canon_unit_zero zero2]
  simp only [View.readAt_eq_ld, harg3.read_unread, harg4.read_unread, harg5.read_unread, harg7.read_unread, View.ld_unit_zero (S := S1024x2048) zero2, View.ld_unit_zero (S := S2048x1024) zero2, View.ld_unit_zero (S := S1024x1024) zero2]

/-- What the last point of a run leaves in the result's block. -/
theorem last (h0 : ¬cond0_0 i) (h1 : cond0_1 i) (h2 : cond0_2 i) :
    out0_B_3 c i arg3 harg3 arg4 harg4 arg5 harg5 arg6 harg6 arg7 harg7 h0 h1 h2 x0 x1 x2 s = k0_pay4 (k0_pay3 x0 x1 s) x2 := by
  unfold out0_B_3
  rw [View.read_writes_eq_canon _ _ _ (cover0_B_3 c i arg3 harg3 arg4 harg4 arg5 harg5 arg6 harg6 arg7 harg7 h0 h1 h2 x0 x1 x2 s)]
  unfold kernelRun0_B; dsimp only; sl_unfold_words
  rw [View.canon_unit_zero zero2]
  simp only [View.readAt_eq_ld, harg3.read_unread, harg4.read_unread, harg5.read_unread, harg7.read_unread, View.ld_unit_zero (S := S1024x2048) zero2, View.ld_unit_zero (S := S2048x1024) zero2, View.ld_unit_zero (S := S1024x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 2 / 4 ∧ win0_0.index t (1 : Fin 2) = t.val % 2
    ∧ win0_1.index t (0 : Fin 2) = t.val % 2 ∧ win0_1.index t (1 : Fin 2) = t.val / 2 % 4
    ∧ win0_2.index t (0 : Fin 2) = t.val / 2 / 4 ∧ win0_2.index t (1 : Fin 2) = t.val / 2 % 4 := by decide +kernel

variable (t : Fin cfg0.N) (r : Fin 1024) (l : Fin 2048)

/-- The block of the left factor that point `t` reads. -/
def left : Vec Ideal S1024x2048 .bf16 := iblk m c 0 t

/-- The block of the right factor that point `t` reads. -/
def right : Vec Ideal S2048x1024 .bf16 := iblk m c 1 t

/-- The block of what the product is added to. -/
def rest : Vec Ideal S1024x1024 .f32 := iblk m c 2 t

theorem left_apply : left m c t (ix2 r l) = at2 (m ((c : Thread nD τ).loc main_arg0)) (1024 * (t.val / 2 / 4) + r) (2048 * (t.val % 2) + l) := by
  obtain ⟨e0, e1, -⟩ := maps t
  show V m c main_arg0 (((cfg0.win 0).blk t).view.emb (ix2 r l)) = _
  rw [V_main_arg0]
  refine at2_of _ _ ?_ ?_
  · show win0_0.index t (0 : Fin 2) * 1024 + 1 * r.val = _; rw [e0]; ring
  · show win0_0.index t (1 : Fin 2) * 2048 + 1 * l.val = _; rw [e1]; ring

theorem right_apply : right m c t (ix2 l r) = at2 (m ((c : Thread nD τ).loc main_arg1)) (2048 * (t.val % 2) + l) (1024 * (t.val / 2 % 4) + r) := by
  obtain ⟨-, -, e0, e1, -⟩ := maps t
  show V m c main_arg1 (((cfg0.win 1).blk t).view.emb (ix2 l r)) = _
  rw [V_main_arg1]
  refine at2_of _ _ ?_ ?_
  · show win0_1.index t (0 : Fin 2) * 2048 + 1 * l.val = _; rw [e0]; ring
  · show win0_1.index t (1 : Fin 2) * 1024 + 1 * r.val = _; rw [e1]; ring

theorem rest_apply (e : Fin 1024) : rest m c t (ix2 r e) = at2 (m ((c : Thread nD τ).loc main_arg2)) (1024 * (t.val / 2 / 4) + r) (1024 * (t.val / 2 % 4) + e) := by
  obtain ⟨-, -, -, -, e0, e1⟩ := maps t
  show V m c main_arg2 (((cfg0.win 2).blk t).view.emb (ix2 r e)) = _
  rw [V_main_arg2]
  refine at2_of _ _ ?_ ?_
  · show win0_2.index t (0 : Fin 2) * 1024 + 1 * r.val = _; rw [e0]; ring
  · show win0_2.index t (1 : Fin 2) * 1024 + 1 * e.val = _; rw [e1]; ring

/-- The term `k` of an entry of run `q`'s block. -/
def term (q : ℕ) (x : Fin 1024 × Fin 1024) (k : ℕ) : EReal :=
  at2 (m ((c : Thread nD τ).loc main_arg0)) (1024 * (q / 4) + x.1) k * at2 (m ((c : Thread nD τ).loc main_arg1)) k (1024 * (q % 4) + x.2)

/-- The tile that point `t` multiplies. -/
theorem tile_apply (e : Fin 1024) : ∑ l : Fin 2048, left m c t (ix2 r l) * right m c t (ix2 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 1024) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back. -/
theorem written (h0 : t.val % 2 = 1) (e : Fin 1024) : (outsAt0 m c t.val t.isLt).1 (ix2 r e) = (outsAt0 m c t.val t.isLt).2 (ix2 r e) + rest m c t (ix2 r e) := by
  rw [outsAt0_B m c t (by omega) h0 h0, next, last]
  exact pay4_apply (rest m c t) _ r e

/-- The entry of the product at two places. -/
def entry (a b : ℕ) : EReal :=
  ∑ k : Fin 4096, at2 (m ((c : Thread nD τ).loc main_arg0)) a k * at2 (m ((c : Thread nD τ).loc main_arg1)) k b

/-- All the tiles' terms are the entry's. -/
theorem whole (q : ℕ) (x : Fin 1024 × Fin 1024) : ∑ k ∈ Finset.range (2048 * (1 + 1)), term m c q x k = entry m c (1024 * (q / 4) + x.1) (1024 * (q % 4) + x.2) :=
  Finset.sum_range (n := 4096) (term m c q x)

/-- The product and what it is added to, at two places. -/
def entries (a b : ℕ) : EReal := at2 (m ((c : Thread nD τ).loc main_arg2)) a b + entry m c a b

/-- The result's entries. -/
theorem result (i : S4096x4096.Idx) : Value.G3 m c i = entries m c (i 0) (i 1) := by
  have h0 : (i 0).val < 4096 := (i 0).isLt
  have h1 : (i 1).val < 4096 := (i 1).isLt
  have hp : Value.pt3Of i < cfg0.N := by rw [show cfg0.N = 32 from N_0]; unfold Value.pt3Of Value.run3Of; omega
  have hm : Value.pt3Of i % 2 = 1 := by unfold Value.pt3Of; omega
  have hd : Value.pt3Of i / 2 = 4 * ((i 0).val / 1024) + (i 1).val / 1024 := by unfold Value.pt3Of Value.run3Of; omega
  rw [Value.G3, dif_pos hp, ← Value.outsAt0_sweep m c (Value.pt3Of i) hp]
  have e : Value.loc3Of i = ix2 ⟨(i 0).val % 1024, Nat.mod_lt _ (by decide)⟩ ⟨(i 1).val % 1024, Nat.mod_lt _ (by decide)⟩ := by
    funext a; fin_cases a <;> rfl
  rw [e]
  refine (written m c ⟨Value.pt3Of i, hp⟩ _ hm _).trans ((add_comm _ _).trans (congrArg₂ (· + ·) ?_ ?_))
  · rw [rest_apply]
    show at2 _ (1024 * (Value.pt3Of i / 2 / 4) + _) (1024 * (Value.pt3Of i / 2 % 4) + _) = _
    rw [hd]
    exact congrArg₂ (at2 _) (by dsimp only; omega) (by dsimp only; omega)
  · refine (scratch m c (Value.pt3Of i) hp (_, _)).trans ?_
    rw [hm, hd, whole, show (4 * ((i 0).val / 1024) + (i 1).val / 1024) / 4 = (i 0).val / 1024 by omega,
      show (4 * ((i 0).val / 1024) + (i 1).val / 1024) % 4 = (i 1).val / 1024 by omega]
    exact congrArg₂ (entry m c) (Nat.div_add_mod _ 1024) (Nat.div_add_mod _ 1024)

end run

end Cert.Kernel6Ideal.Mul

namespace Cert.Reference6Ideal.Mul

open Cert.Reference6Ideal Cert.Reference6Ideal.Gen Idealize.ShloMosaic Idealize.ShloMosaic.TcCoe Idealize.SL.Sem Cert.Tiles

/-- An entry of the reference's product. -/
theorem dot_apply (y w : FVec Ideal S4096x4096 .bf16) (i : S4096x4096.Idx) :
    Host.dotGeneral dot_S4096x4096_S4096x4096_S4096x4096_1_0_0_1_n_n none (extf .f32 y bitsLt_bf16_f32) (extf .f32 w bitsLt_bf16_f32) i = ∑ k : Fin 4096, at2 y (i 0) k * at2 w k (i 1) := by
  obtain ⟨r, e, rfl⟩ : ∃ r e : Fin 4096, i = ix2 r e := ⟨i 0, i 1, by funext a; fin_cases a <;> rfl⟩
  trans ∑ k : Fin 4096, y (ix2 r k) * w (ix2 k e)
  · pointwise []
  · exact Finset.sum_congr rfl fun k _ => congrArg₂ (· * ·) (at2_of y _ rfl rfl) (at2_of w _ rfl rfl)

/-- The reference leaves its arguments as they are, and it has no semaphores. -/
theorem frame : Cert.quiescent_Reference6Ideal (hReference6Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel6Ideal_Reference6Ideal (hKernel6Ideal := Cert.Kernel6Ideal.Gen.facts) (hReference6Ideal := Gen.facts) := by
  intro m g m' g' _ ha
  refine ⟨Cert.Kernel6Ideal.Value.G3 m, Cert.Kernel6Ideal.Value.run m g, (θ_run defs _ _).mono (fun r h c => ⟨(h c).1.trans ?_, (h c).2⟩) (Value.run m' g')⟩
  obtain ⟨a0, a1, a2⟩ := ha c
  funext i
  rw [a0, a1, a2]
  exact (congrArg₂ (· + ·) (at2_of _ i rfl rfl) (dot_apply _ _ i)).trans (Cert.Kernel6Ideal.Mul.result m c i).symm

end Cert.Reference6Ideal.Mul

end
-- ==== Proof.Mul.ProjBwdX.lean ====
/-
  The gradient of the projection's input, `dproj w_inᵀ`, over the seven parts of the projection: what the call leaves in its result.
-/
module

public import proofs.«01_k».proof.Proof.Mul.Tiles
public import proofs.«01_k».proof.Defs
public import proofs.«01_k».proof.Proof.Gen.Kernel4Ideal.Value
public import proofs.«01_k».proof.Proof.Gen.Reference4Ideal.Run
public import Idealize.ShloMosaic.Lib.Quiescent

@[expose] public section

set_option maxRecDepth 16384

noncomputable section

namespace Cert.Kernel4Ideal.Mul

open Cert.Kernel4Ideal Cert.Kernel4Ideal.Gen Idealize.ShloMosaic Idealize.ShloMosaic.TcCoe Cert.Tiles

section tile

variable (x0 : Vec Ideal S1x1024x2048 .bf16) (x1 : Vec Ideal S1024x2048 .bf16) (s : Vec Ideal S1024x1024 .f32) (r e : Fin 1024)

/-- An entry of a tile's product. -/
theorem pay2_apply : k0_pay2 x0 x1 (ix2 r e) = ∑ l : Fin 2048, x0 (ix3 0 r l) * x1 (ix2 e l) := by
  pointwise [k0_pay2, k0_pay1]

/-- An entry of a tile's product on top of the sum so far. -/
theorem pay3_apply : k0_pay3 x0 x1 s (ix2 r e) = s (ix2 r e) + ∑ l : Fin 2048, x0 (ix3 0 r l) * x1 (ix2 e l) := by
  pointwise [k0_pay3, k0_pay1]

variable (c : Dev nD) (i : grid0.Coords) (arg3 : Memref sig .tc .vmem S1x1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S1x1024x2048) zero3, View.ld_unit_zero (S := S1024x2048) zero2]

/-- What every point between the first and the last leaves in the scratch. -/
theorem next (h0 : ¬cond0_0 i) (h1 : cond0_1 i) (h2 : ¬cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S1x1024x2048) zero3, View.ld_unit_zero (S := S1024x2048) zero2, View.ld_unit_zero (S := S1024x1024) zero2]

/-- What the last point of a run leaves in the scratch. -/
theorem end_ (h0 : ¬cond0_0 i) (h1 : cond0_1 i) (h2 : cond0_2 i) :
    sout0_C_0 c i arg3 harg3 arg4 harg4 arg5 harg5 arg6 harg6 h0 h1 h2 x0 x1 s = k0_pay3 x0 x1 s := by
  unfold sout0_C_0
  rw [View.read_writes_eq_canon _ _ _ (scover0_C_0 c i arg3 harg3 arg4 harg4 arg5 harg5 arg6 harg6 h0 h1 h2 x0 x1 s)]
  unfold kernelRun0_C; dsimp only; sl_unfold_words
  rw [View.canon_unit_zero zero2]
  simp only [View.readAt_eq_ld, harg3.read_unread, harg4.read_unread, harg6.read_unread, View.ld_unit_zero (S := S1x1024x2048) zero3, View.ld_unit_zero (S := S1024x2048) zero2, View.ld_unit_zero (S := S1024x1024) zero2]

/-- What the last point of a run leaves in the result's block. -/
theorem last (h0 : ¬cond0_0 i) (h1 : cond0_1 i) (h2 : cond0_2 i) :
    out0_C_2 c i arg3 harg3 arg4 harg4 arg5 harg5 arg6 harg6 h0 h1 h2 x0 x1 s = k0_pay3 x0 x1 s := by
  unfold out0_C_2
  rw [View.read_writes_eq_canon _ _ _ (cover0_C_2 c i arg3 harg3 arg4 harg4 arg5 harg5 arg6 harg6 h0 h1 h2 x0 x1 s)]
  unfold kernelRun0_C; dsimp only; sl_unfold_words
  rw [View.canon_unit_zero zero2]
  simp only [View.readAt_eq_ld, harg3.read_unread, harg4.read_unread, harg6.read_unread, View.ld_unit_zero (S := S1x1024x2048) zero3, View.ld_unit_zero (S := S1024x2048) zero2, View.ld_unit_zero (S := S1024x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 3) = t.val % 7 ∧ win0_0.index t (1 : Fin 3) = t.val / 7 / 4 ∧ win0_0.index t (2 : Fin 3) = 0
    ∧ win0_1.index t (0 : Fin 2) = t.val / 7 % 4 ∧ win0_1.index t (1 : Fin 2) = t.val % 7 := by decide +kernel

variable (t : Fin cfg0.N) (r : Fin 1024) (l : Fin 2048)

/-- The block of the projection's gradient that point `t` reads. -/
def left : Vec Ideal S1x1024x2048 .bf16 := iblk m c 0 t

/-- The block of the weights that point `t` reads. -/
def right : Vec Ideal S1024x2048 .bf16 := iblk m c 1 t

theorem left_apply : left m c t (ix3 0 r l) = at3 (m ((c : Thread nD τ).loc main_arg2)) (t.val % 7) (1024 * (t.val / 7 / 4) + r) l := by
  obtain ⟨e0, e1, e2, -⟩ := maps t
  show V m c main_arg2 (((cfg0.win 0).blk t).view.emb (ix3 0 r l)) = _
  rw [V_main_arg2]
  refine at3_of _ _ ?_ ?_ ?_
  · show win0_0.index t (0 : Fin 3) * 1 + 1 * 0 = _; rw [e0]; ring
  · show win0_0.index t (1 : Fin 3) * 1024 + 1 * r.val = _; rw [e1]; ring
  · show win0_0.index t (2 : Fin 3) * 2048 + 1 * l.val = _; rw [e2]; ring

theorem right_apply : right m c t (ix2 r l) = at2 (m ((c : Thread nD τ).loc main_arg1)) (1024 * (t.val / 7 % 4) + r) (2048 * (t.val % 7) + l) := by
  obtain ⟨-, -, -, e0, e1⟩ := maps t
  show V m c main_arg1 (((cfg0.win 1).blk t).view.emb (ix2 r l)) = _
  rw [V_main_arg1]
  refine at2_of _ _ ?_ ?_
  · show win0_1.index t (0 : Fin 2) * 1024 + 1 * r.val = _; rw [e0]; ring
  · show win0_1.index t (1 : Fin 2) * 2048 + 1 * l.val = _; rw [e1]; ring

/-- The term `k` of an entry of run `q`'s block. -/
def term (q : ℕ) (x : Fin 1024 × Fin 1024) (k : ℕ) : EReal :=
  at3 (m ((c : Thread nD τ).loc main_arg2)) (k / 2048) (1024 * (q / 4) + x.1) (k % 2048) * at2 (m ((c : Thread nD τ).loc main_arg1)) (1024 * (q % 4) + x.2) k

/-- The tile that point `t` multiplies. -/
theorem tile_apply (e : Fin 1024) : ∑ l : Fin 2048, left m c t (ix3 0 r l) * right m c t (ix2 e l) = ∑ l : Fin 2048, term m c (t.val / 7) (r, e) (2048 * (t.val % 7) + l) :=
  Finset.sum_congr rfl fun l _ => by
    rw [left_apply, right_apply, term, show (2048 * (t.val % 7) + l.val) / 2048 = t.val % 7 by omega, show (2048 * (t.val % 7) + l.val) % 2048 = l.val by omega]

/-- What the scratch holds after every point. -/
theorem scratch (n : ℕ) (h : n < cfg0.N) (x : Fin 1024 × Fin 1024) :
    (outsAt0 m c n h).2 (ix2 x.1 x.2) = ∑ k ∈ Finset.range (2048 * (n % 7 + 1)), term m c (n / 7) x k := by
  refine carried 7 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    by_cases h2 : n % 7 = 6
    · rw [outsAt0_C m c ⟨n, h⟩ h0 (by dsimp only; omega) h2, end_]
      refine (pay3_apply (left m c ⟨n, h⟩) (right m c ⟨n, h⟩) _ x.1 x.2).trans ?_
      exact congrArg _ (tile_apply m c ⟨n, h⟩ x.1 x.2)
    · rw [outsAt0_B m c ⟨n, h⟩ h0 (by dsimp only; omega) h2, next]
      refine (pay3_apply (left m c ⟨n, h⟩) (right m c ⟨n, h⟩) _ x.1 x.2).trans ?_
      exact congrArg _ (tile_apply m c ⟨n, h⟩ x.1 x.2)

/-- What the last point of a run writes back is what it leaves in the scratch. -/
theorem written (h0 : t.val % 7 = 6) : (outsAt0 m c t.val t.isLt).1 = (outsAt0 m c t.val t.isLt).2 := by
  rw [outsAt0_C m c t (by omega) (by omega) h0, end_, last]

/-- The entry of the product at two places. -/
def entry (a b : ℕ) : EReal :=
  ∑ k : Fin 14336, at3 (m ((c : Thread nD τ).loc main_arg2)) (k / 2048) a (k % 2048) * at2 (m ((c : Thread nD τ).loc main_arg1)) b k

/-- All the tiles' terms are the entry's. -/
theorem whole (q : ℕ) (x : Fin 1024 × Fin 1024) : ∑ k ∈ Finset.range (2048 * (6 + 1)), term m c q x k = entry m c (1024 * (q / 4) + x.1) (1024 * (q % 4) + x.2) :=
  Finset.sum_range (n := 14336) (term m c q x)

/-- The result's entries. -/
theorem result (i : S4096x4096.Idx) : Value.G2 m c i = entry m c (i 0) (i 1) := by
  have h0 : (i 0).val < 4096 := (i 0).isLt
  have h1 : (i 1).val < 4096 := (i 1).isLt
  have hp : Value.pt2Of i < cfg0.N := by rw [show cfg0.N = 112 from N_0]; unfold Value.pt2Of Value.run2Of; omega
  have hm : Value.pt2Of i % 7 = 6 := by unfold Value.pt2Of; omega
  have hd : Value.pt2Of i / 7 = 4 * ((i 0).val / 1024) + (i 1).val / 1024 := by unfold Value.pt2Of Value.run2Of; omega
  rw [Value.G2, dif_pos hp, ← Value.outsAt0_sweep m c (Value.pt2Of i) hp, written m c ⟨Value.pt2Of i, hp⟩ hm]
  have e : Value.loc2Of i = ix2 ⟨(i 0).val % 1024, Nat.mod_lt _ (by decide)⟩ ⟨(i 1).val % 1024, Nat.mod_lt _ (by decide)⟩ := by
    funext a; fin_cases a <;> rfl
  rw [e]
  refine (scratch m c (Value.pt2Of i) hp (_, _)).trans ?_
  rw [hm, hd, whole, show (4 * ((i 0).val / 1024) + (i 1).val / 1024) / 4 = (i 0).val / 1024 by omega,
    show (4 * ((i 0).val / 1024) + (i 1).val / 1024) % 4 = (i 1).val / 1024 by omega]
  exact congrArg₂ (entry m c) (Nat.div_add_mod _ 1024) (Nat.div_add_mod _ 1024)

end run

end Cert.Kernel4Ideal.Mul

namespace Cert.Reference4Ideal.Mul

open Cert.Reference4Ideal Cert.Reference4Ideal.Gen Idealize.ShloMosaic Idealize.ShloMosaic.TcCoe Idealize.SL.Sem Cert.Tiles

/-- An entry of the reference's product. -/
theorem dot_apply (g : FVec Ideal S7x4096x2048 .bf16) (w : FVec Ideal S4096x14336 .bf16) (i : S4096x4096.Idx) :
    Host.dotGeneral dot_S4096x14336_S4096x14336_S4096x4096_1_1_0_0_n_n none (shapeCast S4096x14336 (transpose S4096x7x2048 [1, 0, 2] (extf .f32 g bitsLt_bf16_f32) transposes_S7x4096x2048_S4096x7x2048_1_0_2) shapeCasts_S4096x7x2048_S4096x14336) (extf .f32 w bitsLt_bf16_f32) i
      = ∑ k : Fin 14336, at3 g (k / 2048) (i 0) (k % 2048) * at2 w (i 1) k := by
  obtain ⟨r, e, rfl⟩ : ∃ r e : Fin 4096, i = ix2 r e := ⟨i 0, i 1, by funext a; fin_cases a <;> rfl⟩
  trans ∑ k : Fin 14336, shapeCast S4096x14336 (transpose S4096x7x2048 [1, 0, 2] (extf .f32 g bitsLt_bf16_f32) transposes_S7x4096x2048_S4096x7x2048_1_0_2) shapeCasts_S4096x7x2048_S4096x14336 (ix2 r k) * w (ix2 e k)
  · pointwise []
  · refine Finset.sum_congr rfl fun k _ => congrArg₂ (· * ·) ?_ (at2_of w _ rfl rfl)
    trans g (ix3 ⟨k.val / 2048, by omega⟩ r ⟨k.val % 2048, by omega⟩)
    · pointwise []
    · exact at3_of g _ rfl rfl rfl

/-- The reference leaves its arguments as they are, and it has no semaphores. -/
theorem frame : Cert.quiescent_Reference4Ideal (hReference4Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel4Ideal_Reference4Ideal (hKernel4Ideal := Cert.Kernel4Ideal.Gen.facts) (hReference4Ideal := Gen.facts) := by
  intro m g m' g' _ ha
  refine ⟨Cert.Kernel4Ideal.Value.G2 m, Cert.Kernel4Ideal.Value.run m g, (θ_run defs _ _).mono (fun r h c => ⟨(h c).1.trans ?_, (h c).2⟩) (Value.run m' g')⟩
  obtain ⟨a0, a1, a2⟩ := ha c
  funext i
  rw [a1, a2]
  exact (dot_apply _ _ i).trans (Cert.Kernel4Ideal.Mul.result m c i).symm

end Cert.Reference4Ideal.Mul

end
-- ==== Proof.Mul.ProjBwdW.lean ====
/-
  The gradient of the projection's weights, `xnᵀ dproj`, over the seven parts of the projection: what the call leaves in its result.
-/
module

public import proofs.«01_k».proof.Proof.Mul.Tiles
public import proofs.«01_k».proof.Defs
public import proofs.«01_k».proof.Proof.Gen.Kernel5Ideal.Value
public import proofs.«01_k».proof.Proof.Gen.Reference5Ideal.Run
public import Idealize.ShloMosaic.Lib.Quiescent

@[expose] public section

set_option maxRecDepth 16384

noncomputable section

namespace Cert.Kernel5Ideal.Mul

open Cert.Kernel5Ideal Cert.Kernel5Ideal.Gen Idealize.ShloMosaic Idealize.ShloMosaic.TcCoe Cert.Tiles

section tile

variable (x0 : Vec Ideal S2048x1024 .bf16) (x1 : Vec Ideal S1x2048x2048 .bf16) (s : Vec Ideal S1024x2048 .f32) (r : Fin 1024) (e : Fin 2048)

/-- An entry of a tile's product. -/
theorem pay2_apply : k0_pay2 x0 x1 (ix2 r e) = ∑ l : Fin 2048, x0 (ix2 l r) * x1 (ix3 0 l e) := by
  pointwise [k0_pay2, k0_pay1]

/-- An entry of a tile's product on top of the sum so far. -/
theorem pay3_apply : k0_pay3 x0 x1 s (ix2 r e) = s (ix2 r e) + ∑ l : Fin 2048, x0 (ix2 l r) * x1 (ix3 0 l e) := by
  pointwise [k0_pay3, k0_pay1]

/-- The result's type keeps the entries. -/
theorem pay4_apply : k0_pay4 s (ix2 r e) = s (ix2 r e) := by
  pointwise [k0_pay4]

variable (c : Dev nD) (i : grid0.Coords) (arg3 : Memref sig .tc .vmem S2048x1024 .bf16) (harg3 : arg3.IsWhole) (arg4 : Memref sig .tc .vmem S1x2048x2048 .bf16) (harg4 : arg4.IsWhole) (arg5 : Memref sig .tc .vmem S1024x2048 .bf16) (harg5 : arg5.IsWhole) (arg6 : Memref sig .tc .vmem S1024x2048 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S2048x1024) zero2, View.ld_unit_zero (S := S1x2048x2048) zero3]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1x2048x2048) zero3, View.ld_unit_zero (S := S1024x2048) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay4 (k0_pay3 x0 x1 s) := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1x2048x2048) zero3, View.ld_unit_zero (S := S1024x2048) zero2, View.readCov_unit_zero (S := S1024x2048) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val % 2 ∧ win0_0.index t (1 : Fin 2) = t.val / 2 / 7
    ∧ win0_1.index t (0 : Fin 3) = t.val / 2 % 7 ∧ win0_1.index t (1 : Fin 3) = t.val % 2 ∧ win0_1.index t (2 : Fin 3) = 0 := by decide +kernel

variable (t : Fin cfg0.N) (r : Fin 1024) (l : Fin 2048)

/-- The block of the projection's input that point `t` reads. -/
def left : Vec Ideal S2048x1024 .bf16 := iblk m c 0 t

/-- The block of the projection's gradient that point `t` reads. -/
def right : Vec Ideal S1x2048x2048 .bf16 := iblk m c 1 t

theorem left_apply : left m c t (ix2 l r) = at2 (m ((c : Thread nD τ).loc main_arg0)) (2048 * (t.val % 2) + l) (1024 * (t.val / 2 / 7) + r) := by
  obtain ⟨e0, e1, -⟩ := maps t
  show V m c main_arg0 (((cfg0.win 0).blk t).view.emb (ix2 l r)) = _
  rw [V_main_arg0]
  refine at2_of _ _ ?_ ?_
  · show win0_0.index t (0 : Fin 2) * 2048 + 1 * l.val = _; rw [e0]; ring
  · show win0_0.index t (1 : Fin 2) * 1024 + 1 * r.val = _; rw [e1]; ring

theorem right_apply (e : Fin 2048) : right m c t (ix3 0 l e) = at3 (m ((c : Thread nD τ).loc main_arg2)) (t.val / 2 % 7) (2048 * (t.val % 2) + l) e := by
  obtain ⟨-, -, e0, e1, e2⟩ := maps t
  show V m c main_arg2 (((cfg0.win 1).blk t).view.emb (ix3 0 l e)) = _
  rw [V_main_arg2]
  refine at3_of _ _ ?_ ?_ ?_
  · show win0_1.index t (0 : Fin 3) * 1 + 1 * 0 = _; rw [e0]; ring
  · show win0_1.index t (1 : Fin 3) * 2048 + 1 * l.val = _; rw [e1]; ring
  · show win0_1.index t (2 : Fin 3) * 2048 + 1 * e.val = _; rw [e2]; ring

/-- The term `k` of an entry of run `q`'s block. -/
def term (q : ℕ) (x : Fin 1024 × Fin 2048) (k : ℕ) : EReal :=
  at2 (m ((c : Thread nD τ).loc main_arg0)) k (1024 * (q / 7) + x.1) * at3 (m ((c : Thread nD τ).loc main_arg2)) (q % 7) k x.2

/-- The tile that point `t` multiplies. -/
theorem tile_apply (e : Fin 2048) : ∑ l : Fin 2048, left m c t (ix2 l r) * right m c t (ix3 0 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 2048) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) (e : Fin 2048) : (outsAt0 m c t.val t.isLt).1 (ix2 r e) = (outsAt0 m c t.val t.isLt).2 (ix2 r e) := by
  rw [outsAt0_B m c t (by omega) h0 h0, next, last]
  exact pay4_apply _ r e

/-- The entry of the product at two places. -/
def entry (a b : ℕ) : EReal :=
  ∑ k : Fin 4096, at2 (m ((c : Thread nD τ).loc main_arg0)) k a * at3 (m ((c : Thread nD τ).loc main_arg2)) (b / 2048) k (b % 2048)

/-- All the tiles' terms are the entry's. -/
theorem whole (q : ℕ) (x : Fin 1024 × Fin 2048) : ∑ k ∈ Finset.range (2048 * (1 + 1)), term m c q x k = entry m c (1024 * (q / 7) + x.1) (2048 * (q % 7) + x.2) := by
  rw [entry, show (2048 * (q % 7) + x.2.val) / 2048 = q % 7 by omega, show (2048 * (q % 7) + x.2.val) % 2048 = x.2.val by omega]
  exact Finset.sum_range (n := 4096) (term m c q x)

/-- The result's entries. -/
theorem result (i : S4096x14336.Idx) : Value.G2 m c i = entry m c (i 0) (i 1) := by
  have h0 : (i 0).val < 4096 := (i 0).isLt
  have h1 : (i 1).val < 14336 := (i 1).isLt
  have hp : Value.pt2Of i < cfg0.N := by rw [show cfg0.N = 56 from N_0]; unfold Value.pt2Of Value.run2Of; omega
  have hm : Value.pt2Of i % 2 = 1 := by unfold Value.pt2Of; omega
  have hd : Value.pt2Of i / 2 = 7 * ((i 0).val / 1024) + (i 1).val / 2048 := by unfold Value.pt2Of Value.run2Of; omega
  rw [Value.G2, dif_pos hp, ← Value.outsAt0_sweep m c (Value.pt2Of i) hp]
  have e : Value.loc2Of i = ix2 ⟨(i 0).val % 1024, Nat.mod_lt _ (by decide)⟩ ⟨(i 1).val % 2048, Nat.mod_lt _ (by decide)⟩ := by
    funext a; fin_cases a <;> rfl
  rw [e]
  refine (written m c ⟨Value.pt2Of i, hp⟩ _ hm _).trans ?_
  refine (scratch m c (Value.pt2Of i) hp (_, _)).trans ?_
  rw [hm, hd, whole, show (7 * ((i 0).val / 1024) + (i 1).val / 2048) / 7 = (i 0).val / 1024 by omega,
    show (7 * ((i 0).val / 1024) + (i 1).val / 2048) % 7 = (i 1).val / 2048 by omega]
  exact congrArg₂ (entry m c) (Nat.div_add_mod _ 1024) (Nat.div_add_mod _ 2048)

end run

end Cert.Kernel5Ideal.Mul

namespace Cert.Reference5Ideal.Mul

open Cert.Reference5Ideal Cert.Reference5Ideal.Gen Idealize.ShloMosaic Idealize.ShloMosaic.TcCoe Idealize.SL.Sem Cert.Tiles

/-- An entry of the reference's product. -/
theorem dot_apply (x : FVec Ideal S4096x4096 .bf16) (g : FVec Ideal S7x4096x2048 .bf16) (i : S4096x14336.Idx) :
    truncf .bf16 (transpose S4096x14336 [1, 0] (Host.dotGeneral dot_S4096x14336_S4096x4096_S14336x4096_0_0_1_1_n_n none (shapeCast S4096x14336 (transpose S4096x7x2048 [1, 0, 2] (extf .f32 g bitsLt_bf16_f32) transposes_S7x4096x2048_S4096x7x2048_1_0_2) shapeCasts_S4096x7x2048_S4096x14336) (extf .f32 x bitsLt_bf16_f32)) transposes_S14336x4096_S4096x14336_1_0) bitsLt_bf16_f32 i
      = ∑ k : Fin 4096, at2 x k (i 0) * at3 g ((i 1 : ℕ) / 2048) k ((i 1 : ℕ) % 2048) := by
  obtain ⟨r, e, rfl⟩ : ∃ (r : Fin 4096) (e : Fin 14336), i = ix2 r e := ⟨i 0, i 1, by funext a; fin_cases a <;> rfl⟩
  trans ∑ k : Fin 4096, shapeCast S4096x14336 (transpose S4096x7x2048 [1, 0, 2] (extf .f32 g bitsLt_bf16_f32) transposes_S7x4096x2048_S4096x7x2048_1_0_2) shapeCasts_S4096x7x2048_S4096x14336 (ix2 k e) * x (ix2 k r)
  · pointwise []
  · refine Finset.sum_congr rfl fun k _ => (mul_comm _ _).trans (congrArg₂ (· * ·) (at2_of x _ rfl rfl) ?_)
    trans g (ix3 ⟨e.val / 2048, by omega⟩ k ⟨e.val % 2048, by omega⟩)
    · pointwise []
    · exact at3_of g _ rfl rfl rfl

/-- The reference leaves its arguments as they are, and it has no semaphores. -/
theorem frame : Cert.quiescent_Reference5Ideal (hReference5Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel5Ideal_Reference5Ideal (hKernel5Ideal := Cert.Kernel5Ideal.Gen.facts) (hReference5Ideal := Gen.facts) := by
  intro m g m' g' _ ha
  refine ⟨Cert.Kernel5Ideal.Value.G2 m, Cert.Kernel5Ideal.Value.run m g, (θ_run defs _ _).mono (fun r h c => ⟨(h c).1.trans ?_, (h c).2⟩) (Value.run m' g')⟩
  obtain ⟨a0, a1, a2⟩ := ha c
  funext i
  rw [a0, a2]
  exact (dot_apply _ _ i).trans (Cert.Kernel5Ideal.Mul.result m c i).symm

end Cert.Reference5Ideal.Mul

end
-- ==== Proof.Mul.ProjFwd.lean ====
/-
  The projection, `xn w_in`, as its seven parts one after another: what the call leaves in its result.
-/
module

public import proofs.«01_k».proof.Proof.Mul.Tiles
public import proofs.«01_k».proof.Defs
public import proofs.«01_k».proof.Proof.Gen.Kernel7Ideal.Value
public import proofs.«01_k».proof.Proof.Gen.Reference7Ideal.Run
public import Idealize.ShloMosaic.Lib.Quiescent

@[expose] public section

set_option maxRecDepth 16384

noncomputable section

namespace Cert.Kernel7Ideal.Mul

open Cert.Kernel7Ideal Cert.Kernel7Ideal.Gen Idealize.ShloMosaic Idealize.ShloMosaic.TcCoe Cert.Tiles

section tile

variable (x0 : Vec Ideal S1024x2048 .bf16) (x1 : Vec Ideal S2048x2048 .bf16) (s : Vec Ideal S1024x2048 .f32) (r : Fin 1024) (e : Fin 2048)

/-- An entry of a tile's product. -/
theorem pay2_apply : k0_pay2 x0 x1 (ix2 r e) = ∑ l : Fin 2048, x0 (ix2 r l) * x1 (ix2 l e) := by
  pointwise [k0_pay2, k0_pay1]

/-- An entry of a tile's product on top of the sum so far. -/
theorem pay3_apply : k0_pay3 x0 x1 s (ix2 r e) = s (ix2 r e) + ∑ l : Fin 2048, x0 (ix2 r l) * x1 (ix2 l e) := by
  pointwise [k0_pay3, k0_pay1]

/-- The result's type and its plane keep the entries. -/
theorem pay4_apply : k0_pay4 s (ix3 0 r e) = s (ix2 r e) := by
  pointwise [k0_pay4]

variable (c : Dev nD) (i : grid0.Coords) (arg3 : Memref sig .tc .vmem S1024x2048 .bf16) (harg3 : arg3.IsWhole) (arg4 : Memref sig .tc .vmem S2048x2048 .bf16) (harg4 : arg4.IsWhole) (arg5 : Memref sig .tc .vmem S1x1024x2048 .bf16) (harg5 : arg5.IsWhole) (arg6 : Memref sig .tc .vmem S1024x2048 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S1024x2048) zero2, View.ld_unit_zero (S := S2048x2048) zero2]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S1024x2048) zero2, View.ld_unit_zero (S := S2048x2048) zero2, View.ld_unit_zero (S := S1024x2048) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay4 (k0_pay3 x0 x1 s) := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero3]
  simp only [View.readAt_eq_ld, harg3.read_unread, harg4.read_unread, harg6.read_unread, View.ld_unit_zero (S := S1024x2048) zero2, View.ld_unit_zero (S := S2048x2048) zero2, View.readCov_unit_zero (S := S1024x2048) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 2 / 7 ∧ win0_0.index t (1 : Fin 2) = t.val % 2
    ∧ win0_1.index t (0 : Fin 2) = t.val % 2 ∧ win0_1.index t (1 : Fin 2) = t.val / 2 % 7 := by decide +kernel

variable (t : Fin cfg0.N) (r : Fin 1024) (l : Fin 2048)

/-- The block of the projection's input that point `t` reads. -/
def left : Vec Ideal S1024x2048 .bf16 := iblk m c 0 t

/-- The block of the weights that point `t` reads. -/
def right : Vec Ideal S2048x2048 .bf16 := iblk m c 1 t

theorem left_apply : left m c t (ix2 r l) = at2 (m ((c : Thread nD τ).loc main_arg0)) (1024 * (t.val / 2 / 7) + r) (2048 * (t.val % 2) + l) := by
  obtain ⟨e0, e1, -⟩ := maps t
  show V m c main_arg0 (((cfg0.win 0).blk t).view.emb (ix2 r l)) = _
  rw [V_main_arg0]
  refine at2_of _ _ ?_ ?_
  · show win0_0.index t (0 : Fin 2) * 1024 + 1 * r.val = _; rw [e0]; ring
  · show win0_0.index t (1 : Fin 2) * 2048 + 1 * l.val = _; rw [e1]; ring

theorem right_apply (e : Fin 2048) : right m c t (ix2 l e) = at2 (m ((c : Thread nD τ).loc main_arg1)) (2048 * (t.val % 2) + l) (2048 * (t.val / 2 % 7) + e) := by
  obtain ⟨-, -, e0, e1⟩ := maps t
  show V m c main_arg1 (((cfg0.win 1).blk t).view.emb (ix2 l e)) = _
  rw [V_main_arg1]
  refine at2_of _ _ ?_ ?_
  · show win0_1.index t (0 : Fin 2) * 2048 + 1 * l.val = _; rw [e0]; ring
  · show win0_1.index t (1 : Fin 2) * 2048 + 1 * e.val = _; rw [e1]; ring

/-- The term `k` of an entry of run `q`'s block. -/
def term (q : ℕ) (x : Fin 1024 × Fin 2048) (k : ℕ) : EReal :=
  at2 (m ((c : Thread nD τ).loc main_arg0)) (1024 * (q / 7) + x.1) k * at2 (m ((c : Thread nD τ).loc main_arg1)) k (2048 * (q % 7) + x.2)

/-- The tile that point `t` multiplies. -/
theorem tile_apply (e : Fin 2048) : ∑ l : Fin 2048, left m c t (ix2 r l) * right m c t (ix2 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 2048) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) (e : Fin 2048) : (outsAt0 m c t.val t.isLt).1 (ix3 0 r e) = (outsAt0 m c t.val t.isLt).2 (ix2 r e) := by
  rw [outsAt0_B m c t (by omega) h0 h0, next, last]
  exact pay4_apply _ r e

/-- The entry of the product at two places. -/
def entry (a b : ℕ) : EReal :=
  ∑ k : Fin 4096, at2 (m ((c : Thread nD τ).loc main_arg0)) a k * at2 (m ((c : Thread nD τ).loc main_arg1)) k b

/-- All the tiles' terms are the entry's. -/
theorem whole (q : ℕ) (x : Fin 1024 × Fin 2048) : ∑ k ∈ Finset.range (2048 * (1 + 1)), term m c q x k = entry m c (1024 * (q / 7) + x.1) (2048 * (q % 7) + x.2) :=
  Finset.sum_range (n := 4096) (term m c q x)

/-- The result's entries. -/
theorem result (i : S7x4096x2048.Idx) : Value.G2 m c i = entry m c (i 1) (2048 * (i 0 : ℕ) + (i 2 : ℕ)) := by
  have h0 : (i 0).val < 7 := (i 0).isLt
  have h1 : (i 1).val < 4096 := (i 1).isLt
  have h2 : (i 2).val < 2048 := (i 2).isLt
  have hp : Value.pt2Of i < cfg0.N := by rw [show cfg0.N = 56 from N_0]; unfold Value.pt2Of Value.run2Of; omega
  have hm : Value.pt2Of i % 2 = 1 := by unfold Value.pt2Of; omega
  have hd : Value.pt2Of i / 2 = 7 * ((i 1).val / 1024) + (i 0).val := by unfold Value.pt2Of Value.run2Of; omega
  rw [Value.G2, dif_pos hp, ← Value.outsAt0_sweep m c (Value.pt2Of i) hp]
  have e : Value.loc2Of i = ix3 0 ⟨(i 1).val % 1024, Nat.mod_lt _ (by decide)⟩ ⟨(i 2).val % 2048, Nat.mod_lt _ (by decide)⟩ := by
    funext a
    match a with
    | ⟨0, _⟩ => exact Fin.ext (Nat.mod_one _)
    | ⟨1, _⟩ => rfl
    | ⟨2, _⟩ => rfl
  rw [e]
  refine (written m c ⟨Value.pt2Of i, hp⟩ _ hm _).trans ?_
  refine (scratch m c (Value.pt2Of i) hp (_, _)).trans ?_
  rw [hm, hd, whole, show (7 * ((i 1).val / 1024) + (i 0).val) / 7 = (i 1).val / 1024 by omega,
    show (7 * ((i 1).val / 1024) + (i 0).val) % 7 = (i 0).val by omega]
  exact congrArg₂ (entry m c) (Nat.div_add_mod _ 1024) (congrArg (2048 * (i 0).val + ·) (Nat.mod_eq_of_lt h2))

end run

end Cert.Kernel7Ideal.Mul

namespace Cert.Reference7Ideal.Mul

open Cert.Reference7Ideal Cert.Reference7Ideal.Gen Idealize.ShloMosaic Idealize.ShloMosaic.TcCoe Idealize.SL.Sem Cert.Tiles

/-- An entry of the reference's product. -/
theorem dot_apply (x : FVec Ideal S4096x4096 .bf16) (w : FVec Ideal S4096x14336 .bf16) (i : S7x4096x2048.Idx) :
    truncf .bf16 (transpose S7x4096x2048 [1, 0, 2] (shapeCast S4096x7x2048 (Host.dotGeneral dot_S4096x4096_S4096x14336_S4096x14336_1_0_0_1_n_n none (extf .f32 x bitsLt_bf16_f32) (extf .f32 w bitsLt_bf16_f32)) shapeCasts_S4096x14336_S4096x7x2048) transposes_S4096x7x2048_S7x4096x2048_1_0_2) bitsLt_bf16_f32 i
      = ∑ k : Fin 4096, at2 x (i 1) k * at2 w k (2048 * (i 0 : ℕ) + (i 2 : ℕ)) := by
  obtain ⟨p, r, e, rfl⟩ : ∃ (p : Fin 7) (r : Fin 4096) (e : Fin 2048), i = ix3 p r e := ⟨i 0, i 1, i 2, by funext a; match a with | ⟨0, _⟩ => rfl | ⟨1, _⟩ => rfl | ⟨2, _⟩ => rfl⟩
  trans Host.dotGeneral dot_S4096x4096_S4096x14336_S4096x14336_1_0_0_1_n_n none (extf .f32 x bitsLt_bf16_f32) (extf .f32 w bitsLt_bf16_f32) (ix2 r ⟨p.val * 2048 + e.val, by omega⟩)
  · pointwise []
  trans ∑ k : Fin 4096, x (ix2 r k) * w (ix2 k ⟨p.val * 2048 + e.val, by omega⟩)
  · pointwise []
  · exact Finset.sum_congr rfl fun k _ => congrArg₂ (· * ·) (at2_of x _ rfl rfl) (at2_of w _ rfl (congrArg (· + e.val) (Nat.mul_comm p.val 2048)))

/-- The reference leaves its arguments as they are, and it has no semaphores. -/
theorem frame : Cert.quiescent_Reference7Ideal (hReference7Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel7Ideal_Reference7Ideal (hKernel7Ideal := Cert.Kernel7Ideal.Gen.facts) (hReference7Ideal := Gen.facts) := by
  intro m g m' g' _ ha
  refine ⟨Cert.Kernel7Ideal.Value.G2 m, Cert.Kernel7Ideal.Value.run m g, (θ_run defs _ _).mono (fun r h c => ⟨(h c).1.trans ?_, (h c).2⟩) (Value.run m' g')⟩
  obtain ⟨a0, a1⟩ := ha c
  funext i
  rw [a0, a1]
  exact (dot_apply _ _ i).trans (Cert.Kernel7Ideal.Mul.result m c i).symm

end Cert.Reference7Ideal.Mul

end
-- ==== Proof.Mul.PwBwdX.lean ====
/-
  The gradient of the pointwise projection's input, `dy wᵀ`: the summed dimension is one tile, so nothing is carried.
-/
module

public import proofs.«01_k».proof.Proof.Mul.Tiles
public import proofs.«01_k».proof.Defs
public import proofs.«01_k».proof.Proof.Gen.Kernel8Ideal.Value
public import proofs.«01_k».proof.Proof.Gen.Reference8Ideal.Run
public import Idealize.ShloMosaic.Lib.Quiescent

@[expose] public section

set_option maxRecDepth 16384

noncomputable section

namespace Cert.Kernel8Ideal.Mul

open Cert.Kernel8Ideal Cert.Kernel8Ideal.Gen Idealize.ShloMosaic Idealize.ShloMosaic.TcCoe Cert.Tiles

section tile

variable (x0 x1 : Vec Ideal S1024x2048 .bf16) (r e : Fin 1024)

/-- An entry of a tile's product. -/
theorem pay2_apply : k0_pay2 x0 x1 (ix2 r e) = ∑ l : Fin 2048, x0 (ix2 r l) * x1 (ix2 e l) := by
  pointwise [k0_pay2, k0_pay1]

variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)

/-- What a point leaves in the result's block: the tile's product, by way of the scratch. -/
theorem left_in (h0 : cond0_0 i) (h1 : ¬cond0_1 i) (h2 : cond0_2 i) :
    out0_A_2 c i arg3 harg3 arg4 harg4 arg5 harg5 arg6 harg6 h0 h1 h2 x0 x1 = k0_pay2 x0 x1 := by
  unfold out0_A_2
  rw [View.read_writes_eq_canon _ _ _ (cover0_A_2 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S1024x2048) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2
    ∧ win0_2.flush t = true := by decide +kernel

variable (t : Fin cfg0.N) (r : Fin 1024) (l : Fin 2048)

/-- The block of the result's gradient that point `t` reads. -/
def left : Vec Ideal S1024x2048 .bf16 := iblk m c 0 t

/-- The block of the weights that point `t` reads. -/
def right : Vec Ideal S1024x2048 .bf16 := iblk m c 1 t

theorem left_apply : left m c t (ix2 r l) = at2 (m ((c : Thread nD τ).loc main_arg2)) (1024 * (t.val / 2) + r) l := by
  obtain ⟨e0, e1, -⟩ := maps t
  show V m c main_arg2 (((cfg0.win 0).blk t).view.emb (ix2 r l)) = _
  rw [V_main_arg2]
  refine at2_of _ _ ?_ ?_
  · show win0_0.index t (0 : Fin 2) * 1024 + 1 * r.val = _; rw [e0]; ring
  · show win0_0.index t (1 : Fin 2) * 2048 + 1 * l.val = _; rw [e1]; ring

theorem right_apply : right m c t (ix2 r l) = at2 (m ((c : Thread nD τ).loc main_arg1)) (1024 * (t.val % 2) + r) l := by
  obtain ⟨-, -, e0, e1, -⟩ := maps t
  show V m c main_arg1 (((cfg0.win 1).blk t).view.emb (ix2 r l)) = _
  rw [V_main_arg1]
  refine at2_of _ _ ?_ ?_
  · show win0_1.index t (0 : Fin 2) * 1024 + 1 * r.val = _; rw [e0]; ring
  · show win0_1.index t (1 : Fin 2) * 2048 + 1 * l.val = _; rw [e1]; ring

/-- The entry of the product at two places. -/
def entry (a b : ℕ) : EReal :=
  ∑ k : Fin 2048, at2 (m ((c : Thread nD τ).loc main_arg2)) a k * at2 (m ((c : Thread nD τ).loc main_arg1)) b k

/-- What point `t` writes back. -/
theorem written (e : Fin 1024) : outsAt0 m c t (ix2 r e) = entry m c (1024 * (t.val / 2) + r) (1024 * (t.val % 2) + e) := by
  rw [outsAt0, left_in]
  refine (pay2_apply (left m c t) (right m c t) r e).trans ?_
  exact Finset.sum_congr rfl fun l _ => by rw [left_apply, right_apply]

/-- The result's entries. -/
theorem result (i : S4096x2048.Idx) : (dats m 0 c).arrAt 2 cfg0.N i = entry m c (i 0) (i 1) := by
  have h0 : (i 0).val < 4096 := (i 0).isLt
  have h1 : (i 1).val < 2048 := (i 1).isLt
  have hp : 2 * ((i 0).val / 1024) + (i 1).val / 1024 < cfg0.N := by rw [show cfg0.N = 8 from N_0]; omega
  obtain ⟨-, -, -, -, e0, e1, hf⟩ := maps ⟨_, hp⟩
  have hb := congrFun (Value.blocks2 m c ⟨_, hp⟩ hf) (ix2 ⟨(i 0).val % 1024, Nat.mod_lt _ (by decide)⟩ ⟨(i 1).val % 1024, Nat.mod_lt _ (by decide)⟩)
  rw [Value.flushed2] at hb
  have hi : ((cfg0.win 2).blk ⟨_, hp⟩).view.emb (ix2 ⟨(i 0).val % 1024, Nat.mod_lt _ (by decide)⟩ ⟨(i 1).val % 1024, Nat.mod_lt _ (by decide)⟩) = i := by
    funext a
    apply Fin.ext
    match a with
    | ⟨0, _⟩ => show win0_2.index ⟨_, hp⟩ (0 : Fin 2) * 1024 + 1 * ((i 0).val % 1024) = (i 0).val; rw [e0]; dsimp only; omega
    | ⟨1, _⟩ => show win0_2.index ⟨_, hp⟩ (1 : Fin 2) * 1024 + 1 * ((i 1).val % 1024) = (i 1).val; rw [e1]; dsimp only; omega
  refine (congrArg ((dats m 0 c).arrAt 2 cfg0.N) hi.symm).trans (hb.trans ?_)
  refine (written m c ⟨_, hp⟩ _ _).trans ?_
  exact congrArg₂ (entry m c) (by dsimp only; omega) (by dsimp only; omega)

end run

end Cert.Kernel8Ideal.Mul

namespace Cert.Reference8Ideal.Mul

open Cert.Reference8Ideal Cert.Reference8Ideal.Gen Idealize.ShloMosaic Idealize.ShloMosaic.TcCoe Idealize.SL.Sem Cert.Tiles

/-- An entry of the reference's product. -/
theorem dot_apply (g : FVec Ideal S4096x2048 .bf16) (w : FVec Ideal S2048x2048 .bf16) (i : S4096x2048.Idx) :
    Host.dotGeneral dot_S4096x2048_S2048x2048_S4096x2048_1_1_0_0_n_n none (extf .f32 g bitsLt_bf16_f32) (extf .f32 w bitsLt_bf16_f32) i = ∑ k : Fin 2048, at2 g (i 0) k * at2 w (i 1) k := by
  obtain ⟨r, e, rfl⟩ : ∃ (r : Fin 4096) (e : Fin 2048), i = ix2 r e := ⟨i 0, i 1, by funext a; fin_cases a <;> rfl⟩
  trans ∑ k : Fin 2048, g (ix2 r k) * w (ix2 e k)
  · pointwise []
  · exact Finset.sum_congr rfl fun k _ => congrArg₂ (· * ·) (at2_of g _ rfl rfl) (at2_of w _ rfl rfl)

/-- The reference leaves its arguments as they are, and it has no semaphores. -/
theorem frame : Cert.quiescent_Reference8Ideal (hReference8Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel8Ideal_Reference8Ideal (hKernel8Ideal := Cert.Kernel8Ideal.Gen.facts) (hReference8Ideal := Gen.facts) := by
  intro m g m' g' _ ha
  refine ⟨fun c => (Cert.Kernel8Ideal.Gen.dats m 0 c).arrAt 2 Cert.Kernel8Ideal.cfg0.N, Cert.Kernel8Ideal.Value.run_blocks m g, (θ_run defs _ _).mono (fun r h c => ⟨(h c).1.trans ?_, (h c).2⟩) (Value.run m' g')⟩
  obtain ⟨a0, a1, a2⟩ := ha c
  funext i
  rw [a1, a2]
  exact (dot_apply _ _ i).trans (Cert.Kernel8Ideal.Mul.result m c i).symm

end Cert.Reference8Ideal.Mul

end
-- ==== Proof.Mul.PwBwdW.lean ====
/-
  The gradient of the pointwise projection's weights, `uᵀ dy`: what the call leaves in its result.
-/
module

public import proofs.«01_k».proof.Proof.Mul.Tiles
public import proofs.«01_k».proof.Defs
public import proofs.«01_k».proof.Proof.Gen.Kernel9Ideal.Value
public import proofs.«01_k».proof.Proof.Gen.Reference9Ideal.Run
public import Idealize.ShloMosaic.Lib.Quiescent

@[expose] public section

set_option maxRecDepth 16384

noncomputable section

namespace Cert.Kernel9Ideal.Mul

open Cert.Kernel9Ideal Cert.Kernel9Ideal.Gen Idealize.ShloMosaic Idealize.ShloMosaic.TcCoe Cert.Tiles

section tile

variable (x0 x1 : Vec Ideal S2048x1024 .bf16) (s : Vec Ideal S1024x1024 .f32) (r e : Fin 1024)

/-- An entry of a tile's product. -/
theorem pay2_apply : k0_pay2 x0 x1 (ix2 r e) = ∑ l : Fin 2048, x0 (ix2 l r) * x1 (ix2 l e) := by
  pointwise [k0_pay2, k0_pay1]

/-- An entry of a tile's product on top of the sum so far. -/
theorem pay3_apply : k0_pay3 x0 x1 s (ix2 r e) = s (ix2 r e) + ∑ l : Fin 2048, x0 (ix2 l r) * x1 (ix2 l e) := by
  pointwise [k0_pay3, k0_pay1]

/-- The result's type keeps the entries. -/
theorem pay4_apply : k0_pay4 s (ix2 r e) = s (ix2 r e) := by
  pointwise [k0_pay4]

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S2048x1024) zero2]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1024x1024) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay4 (k0_pay3 x0 x1 s) := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x1024) zero2, View.ld_unit_zero (S := S1024x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val % 2 ∧ win0_0.index t (1 : Fin 2) = t.val / 2 / 2
    ∧ win0_1.index t (0 : Fin 2) = t.val % 2 ∧ win0_1.index t (1 : Fin 2) = t.val / 2 % 2 := by decide +kernel

variable (t : Fin cfg0.N) (r : Fin 1024) (l : Fin 2048)

/-- The block of the left factor that point `t` reads. -/
def left : Vec Ideal S2048x1024 .bf16 := iblk m c 0 t

/-- The block of the result's gradient that point `t` reads. -/
def right : Vec Ideal S2048x1024 .bf16 := iblk m c 1 t

theorem left_apply : left m c t (ix2 l r) = at2 (m ((c : Thread nD τ).loc main_arg0)) (2048 * (t.val % 2) + l) (1024 * (t.val / 2 / 2) + r) := by
  obtain ⟨e0, e1, -, -⟩ := maps t
  show V m c main_arg0 (((cfg0.win 0).blk t).view.emb (ix2 l r)) = _
  rw [V_main_arg0]
  refine at2_of _ _ ?_ ?_
  · show win0_0.index t (0 : Fin 2) * 2048 + 1 * l.val = _; rw [e0]; ring
  · show win0_0.index t (1 : Fin 2) * 1024 + 1 * r.val = _; rw [e1]; ring

theorem right_apply : right m c t (ix2 l r) = at2 (m ((c : Thread nD τ).loc main_arg2)) (2048 * (t.val % 2) + l) (1024 * (t.val / 2 % 2) + r) := by
  obtain ⟨-, -, e0, e1⟩ := maps t
  show V m c main_arg2 (((cfg0.win 1).blk t).view.emb (ix2 l r)) = _
  rw [V_main_arg2]
  refine at2_of _ _ ?_ ?_
  · show win0_1.index t (0 : Fin 2) * 2048 + 1 * l.val = _; rw [e0]; ring
  · show win0_1.index t (1 : Fin 2) * 1024 + 1 * r.val = _; rw [e1]; ring

/-- The term `k` of an entry of run `q`'s block. -/
def term (q : ℕ) (x : Fin 1024 × Fin 1024) (k : ℕ) : EReal :=
  at2 (m ((c : Thread nD τ).loc main_arg0)) k (1024 * (q / 2) + x.1) * at2 (m ((c : Thread nD τ).loc main_arg2)) k (1024 * (q % 2) + x.2)

/-- The tile that point `t` multiplies. -/
theorem tile_apply (e : Fin 1024) : ∑ l : Fin 2048, left m c t (ix2 l r) * right m c t (ix2 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 1024 × Fin 1024) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) (e : Fin 1024) : (outsAt0 m c t.val t.isLt).1 (ix2 r e) = (outsAt0 m c t.val t.isLt).2 (ix2 r e) := by
  rw [outsAt0_B m c t (by omega) h0 h0, next, last]
  exact pay4_apply _ r e

/-- The entry of the product at two places. -/
def entry (a b : ℕ) : EReal :=
  ∑ k : Fin 4096, at2 (m ((c : Thread nD τ).loc main_arg0)) k a * at2 (m ((c : Thread nD τ).loc main_arg2)) k b

/-- All the tiles' terms are the entry's. -/
theorem whole (q : ℕ) (x : Fin 1024 × Fin 1024) : ∑ k ∈ Finset.range (2048 * (1 + 1)), term m c q x k = entry m c (1024 * (q / 2) + x.1) (1024 * (q % 2) + x.2) :=
  Finset.sum_range (n := 4096) (term m c q x)

/-- The result's entries. -/
theorem result (i : S2048x2048.Idx) : Value.G2 m c i = entry m c (i 0) (i 1) := by
  have h0 : (i 0).val < 2048 := (i 0).isLt
  have h1 : (i 1).val < 2048 := (i 1).isLt
  have hp : Value.pt2Of i < cfg0.N := by rw [show cfg0.N = 8 from N_0]; unfold Value.pt2Of Value.run2Of; omega
  have hm : Value.pt2Of i % 2 = 1 := by unfold Value.pt2Of; omega
  have hd : Value.pt2Of i / 2 = 2 * ((i 0).val / 1024) + (i 1).val / 1024 := by unfold Value.pt2Of Value.run2Of; omega
  rw [Value.G2, dif_pos hp, ← Value.outsAt0_sweep m c (Value.pt2Of i) hp]
  have e : Value.loc2Of i = ix2 ⟨(i 0).val % 1024, Nat.mod_lt _ (by decide)⟩ ⟨(i 1).val % 1024, Nat.mod_lt _ (by decide)⟩ := by
    funext a; fin_cases a <;> rfl
  rw [e]
  refine (written m c ⟨Value.pt2Of i, hp⟩ _ hm _).trans ?_
  refine (scratch m c (Value.pt2Of i) hp (_, _)).trans ?_
  rw [hm, hd, whole, show (2 * ((i 0).val / 1024) + (i 1).val / 1024) / 2 = (i 0).val / 1024 by omega,
    show (2 * ((i 0).val / 1024) + (i 1).val / 1024) % 2 = (i 1).val / 1024 by omega]
  exact congrArg₂ (entry m c) (Nat.div_add_mod _ 1024) (Nat.div_add_mod _ 1024)

end run

end Cert.Kernel9Ideal.Mul

namespace Cert.Reference9Ideal.Mul

open Cert.Reference9Ideal Cert.Reference9Ideal.Gen Idealize.ShloMosaic Idealize.ShloMosaic.TcCoe Idealize.SL.Sem Cert.Tiles

/-- An entry of the reference's product. -/
theorem dot_apply (h g : FVec Ideal S4096x2048 .bf16) (i : S2048x2048.Idx) :
    truncf .bf16 (transpose S2048x2048 [1, 0] (Host.dotGeneral dot_S4096x2048_S4096x2048_S2048x2048_0_0_1_1_n_n none (extf .f32 g bitsLt_bf16_f32) (extf .f32 h bitsLt_bf16_f32)) transposes_S2048x2048_S2048x2048_1_0) bitsLt_bf16_f32 i
      = ∑ k : Fin 4096, at2 h k (i 0) * at2 g k (i 1) := by
  obtain ⟨r, e, rfl⟩ : ∃ r e : Fin 2048, i = ix2 r e := ⟨i 0, i 1, by funext a; fin_cases a <;> rfl⟩
  trans ∑ k : Fin 4096, g (ix2 k e) * h (ix2 k r)
  · pointwise []
  · exact Finset.sum_congr rfl fun k _ => (mul_comm _ _).trans (congrArg₂ (· * ·) (at2_of h _ rfl rfl) (at2_of g _ rfl rfl))

/-- The reference leaves its arguments as they are, and it has no semaphores. -/
theorem frame : Cert.quiescent_Reference9Ideal (hReference9Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel9Ideal_Reference9Ideal (hKernel9Ideal := Cert.Kernel9Ideal.Gen.facts) (hReference9Ideal := Gen.facts) := by
  intro m g m' g' _ ha
  refine ⟨Cert.Kernel9Ideal.Value.G2 m, Cert.Kernel9Ideal.Value.run m g, (θ_run defs _ _).mono (fun r h c => ⟨(h c).1.trans ?_, (h c).2⟩) (Value.run m' g')⟩
  obtain ⟨a0, a1, a2⟩ := ha c
  funext i
  rw [a0, a2]
  exact (dot_apply _ _ i).trans (Cert.Kernel9Ideal.Mul.result m c i).symm

end Cert.Reference9Ideal.Mul

end
-- ==== Proof.Mul.PwFwd.lean ====
/-
  The pointwise projection with its bias, `u w + b`: the summed dimension is one tile, so nothing is carried.
-/
module

public import proofs.«01_k».proof.Proof.Mul.Tiles
public import proofs.«01_k».proof.Defs
public import proofs.«01_k».proof.Proof.Gen.Kernel10Ideal.Value
public import proofs.«01_k».proof.Proof.Gen.Reference10Ideal.Run
public import Idealize.ShloMosaic.Lib.Quiescent

@[expose] public section

set_option maxRecDepth 16384

noncomputable section

namespace Cert.Kernel10Ideal.Mul

open Cert.Kernel10Ideal Cert.Kernel10Ideal.Gen Idealize.ShloMosaic Idealize.ShloMosaic.TcCoe Cert.Tiles

section tile

variable (x0 : Vec Ideal S1024x2048 .bf16) (x1 : Vec Ideal S2048x1024 .bf16) (x2 : Vec Ideal S1x1024 .f32) (s : Vec Ideal S1024x1024 .f32) (r e : Fin 1024)

/-- An entry of a tile's product. -/
theorem pay2_apply : k0_pay2 x0 x1 (ix2 r e) = ∑ l : Fin 2048, x0 (ix2 r l) * x1 (ix2 l e) := by
  pointwise [k0_pay2, k0_pay1]

/-- The bias of the column is added. -/
theorem pay4_apply : k0_pay4 s x2 (ix2 r e) = s (ix2 r e) + x2 (ix2 0 e) := by
  pointwise [k0_pay4]

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

/-- What a point leaves in the result's block: the tile's product, by way of the scratch, and the bias. -/
theorem left_in (h0 : cond0_0 i) (h1 : ¬cond0_1 i) (h2 : cond0_2 i) :
    out0_A_3 c i arg3 harg3 arg4 harg4 arg5 harg5 arg6 harg6 arg7 harg7 h0 h1 h2 x0 x1 x2 = k0_pay4 (k0_pay2 x0 x1) x2 := by
  unfold out0_A_3
  rw [View.read_writes_eq_canon _ _ _ (cover0_A_3 c i arg3 harg3 arg4 harg4 arg5 harg5 arg6 harg6 arg7 harg7 h0 h1 h2 x0 x1 x2)]
  unfold kernelRun0_A; dsimp only; sl_unfold_words
  rw [View.canon_unit_zero zero2]
  simp only [View.readAt_eq_ld, harg3.read_unread, harg4.read_unread, harg5.read_unread, View.ld_unit_zero (S := S1024x2048) zero2, View.ld_unit_zero (S := S2048x1024) zero2, View.ld_unit_zero (S := S1x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = 0 ∧ win0_2.index t (1 : Fin 2) = t.val % 2
    ∧ win0_3.index t (0 : Fin 2) = t.val / 2 ∧ win0_3.index t (1 : Fin 2) = t.val % 2
    ∧ win0_3.flush t = true := by decide +kernel

variable (t : Fin cfg0.N) (r : Fin 1024) (l : Fin 2048)

/-- The block of the input that point `t` reads. -/
def left : Vec Ideal S1024x2048 .bf16 := iblk m c 0 t

/-- The block of the weights that point `t` reads. -/
def right : Vec Ideal S2048x1024 .bf16 := iblk m c 1 t

/-- The block of the bias that point `t` reads. -/
def rest : Vec Ideal S1x1024 .f32 := iblk m c 2 t

theorem left_apply : left m c t (ix2 r l) = at2 (m ((c : Thread nD τ).loc main_arg0)) (1024 * (t.val / 2) + r) l := by
  obtain ⟨e0, e1, -⟩ := maps t
  show V m c main_arg0 (((cfg0.win 0).blk t).view.emb (ix2 r l)) = _
  rw [V_main_arg0]
  refine at2_of _ _ ?_ ?_
  · show win0_0.index t (0 : Fin 2) * 1024 + 1 * r.val = _; rw [e0]; ring
  · show win0_0.index t (1 : Fin 2) * 2048 + 1 * l.val = _; rw [e1]; ring

theorem right_apply : right m c t (ix2 l r) = at2 (m ((c : Thread nD τ).loc main_arg1)) l (1024 * (t.val % 2) + r) := by
  obtain ⟨-, -, e0, e1, -⟩ := maps t
  show V m c main_arg1 (((cfg0.win 1).blk t).view.emb (ix2 l r)) = _
  rw [V_main_arg1]
  refine at2_of _ _ ?_ ?_
  · show win0_1.index t (0 : Fin 2) * 2048 + 1 * l.val = _; rw [e0]; ring
  · show win0_1.index t (1 : Fin 2) * 1024 + 1 * r.val = _; rw [e1]; ring

theorem rest_apply : rest m c t (ix2 0 r) = at2 (m ((c : Thread nD τ).loc main_arg2)) 0 (1024 * (t.val % 2) + r) := by
  obtain ⟨-, -, -, -, e0, e1, -⟩ := maps t
  show V m c main_arg2 (((cfg0.win 2).blk t).view.emb (ix2 0 r)) = _
  rw [V_main_arg2]
  refine at2_of _ _ ?_ ?_
  · show win0_2.index t (0 : Fin 2) * 1 + 1 * 0 = _; rw [e0]
  · show win0_2.index t (1 : Fin 2) * 1024 + 1 * r.val = _; rw [e1]; ring

/-- The entry of the product and of the bias at two places. -/
def entry (a b : ℕ) : EReal :=
  (∑ k : Fin 2048, at2 (m ((c : Thread nD τ).loc main_arg0)) a k * at2 (m ((c : Thread nD τ).loc main_arg1)) k b) + at2 (m ((c : Thread nD τ).loc main_arg2)) 0 b

/-- What point `t` writes back. -/
theorem written (e : Fin 1024) : outsAt0 m c t (ix2 r e) = entry m c (1024 * (t.val / 2) + r) (1024 * (t.val % 2) + e) := by
  rw [outsAt0, left_in]
  refine (pay4_apply (rest m c t) _ r e).trans ?_
  rw [pay2_apply]
  refine congrArg₂ (· + ·) ?_ (rest_apply m c t e)
  show ∑ l : Fin 2048, left m c t (ix2 r l) * right m c t (ix2 l e) = _
  exact Finset.sum_congr rfl fun l _ => by rw [left_apply, right_apply]

/-- The result's entries. -/
theorem result (i : S4096x2048.Idx) : (dats m 0 c).arrAt 3 cfg0.N i = entry m c (i 0) (i 1) := by
  have h0 : (i 0).val < 4096 := (i 0).isLt
  have h1 : (i 1).val < 2048 := (i 1).isLt
  have hp : 2 * ((i 0).val / 1024) + (i 1).val / 1024 < cfg0.N := by rw [show cfg0.N = 8 from N_0]; omega
  obtain ⟨-, -, -, -, -, -, e0, e1, hf⟩ := maps ⟨_, hp⟩
  have hb := congrFun (Value.blocks3 m c ⟨_, hp⟩ hf) (ix2 ⟨(i 0).val % 1024, Nat.mod_lt _ (by decide)⟩ ⟨(i 1).val % 1024, Nat.mod_lt _ (by decide)⟩)
  rw [Value.flushed3] at hb
  have hi : ((cfg0.win 3).blk ⟨_, hp⟩).view.emb (ix2 ⟨(i 0).val % 1024, Nat.mod_lt _ (by decide)⟩ ⟨(i 1).val % 1024, Nat.mod_lt _ (by decide)⟩) = i := by
    funext a
    apply Fin.ext
    match a with
    | ⟨0, _⟩ => show win0_3.index ⟨_, hp⟩ (0 : Fin 2) * 1024 + 1 * ((i 0).val % 1024) = (i 0).val; rw [e0]; dsimp only; omega
    | ⟨1, _⟩ => show win0_3.index ⟨_, hp⟩ (1 : Fin 2) * 1024 + 1 * ((i 1).val % 1024) = (i 1).val; rw [e1]; dsimp only; omega
  refine (congrArg ((dats m 0 c).arrAt 3 cfg0.N) hi.symm).trans (hb.trans ?_)
  refine (written m c ⟨_, hp⟩ _ _).trans ?_
  exact congrArg₂ (entry m c) (by dsimp only; omega) (by dsimp only; omega)

end run

end Cert.Kernel10Ideal.Mul

namespace Cert.Reference10Ideal.Mul

open Cert.Reference10Ideal Cert.Reference10Ideal.Gen Idealize.ShloMosaic Idealize.ShloMosaic.TcCoe Idealize.SL.Sem Cert.Tiles

/-- An entry of the reference's product and bias. -/
theorem dot_apply (u : FVec Ideal S4096x2048 .bf16) (w : FVec Ideal S2048x2048 .bf16) (b : FVec Ideal S1x2048 .f32) (i : S4096x2048.Idx) :
    addf (Host.dotGeneral dot_S4096x2048_S2048x2048_S4096x2048_1_0_0_1_n_n none (extf .f32 u bitsLt_bf16_f32) (extf .f32 w bitsLt_bf16_f32)) (broadcastInDim S4096x2048 ![0, 1] bcast_S1x2048_S4096x2048_0_1 b) i
      = (∑ k : Fin 2048, at2 u (i 0) k * at2 w k (i 1)) + at2 b 0 (i 1) := by
  obtain ⟨r, e, rfl⟩ : ∃ (r : Fin 4096) (e : Fin 2048), i = ix2 r e := ⟨i 0, i 1, by funext a; fin_cases a <;> rfl⟩
  trans (∑ k : Fin 2048, u (ix2 r k) * w (ix2 k e)) + b (ix2 0 e)
  · pointwise []
  · exact congrArg₂ (· + ·) (Finset.sum_congr rfl fun k _ => congrArg₂ (· * ·) (at2_of u _ rfl rfl) (at2_of w _ rfl rfl)) (at2_of b _ rfl rfl)

/-- The reference leaves its arguments as they are, and it has no semaphores. -/
theorem frame : Cert.quiescent_Reference10Ideal (hReference10Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel10Ideal_Reference10Ideal (hKernel10Ideal := Cert.Kernel10Ideal.Gen.facts) (hReference10Ideal := Gen.facts) := by
  intro m g m' g' _ ha
  refine ⟨fun c => (Cert.Kernel10Ideal.Gen.dats m 0 c).arrAt 3 Cert.Kernel10Ideal.cfg0.N, Cert.Kernel10Ideal.Value.run_blocks m g, (θ_run defs _ _).mono (fun r h c => ⟨(h c).1.trans ?_, (h c).2⟩) (Value.run m' g')⟩
  obtain ⟨a0, a1, a2⟩ := ha c
  funext i
  rw [a0, a1, a2]
  exact (dot_apply _ _ _ i).trans (Cert.Kernel10Ideal.Mul.result m c i).symm

end Cert.Reference10Ideal.Mul

end
-- ==== Proof.Mul.PleBwdW.lean ====
/-
  The gradient of the embeddings' weights, `pᵀ dy`: what the call leaves in its result.
-/
module

public import proofs.«01_k».proof.Proof.Mul.Tiles
public import proofs.«01_k».proof.Defs
public import proofs.«01_k».proof.Proof.Gen.Kernel11Ideal.Value
public import proofs.«01_k».proof.Proof.Gen.Reference11Ideal.Run
public import Idealize.ShloMosaic.Lib.Quiescent

@[expose] public section

set_option maxRecDepth 16384

noncomputable section

namespace Cert.Kernel11Ideal.Mul

open Cert.Kernel11Ideal Cert.Kernel11Ideal.Gen Idealize.ShloMosaic Idealize.ShloMosaic.TcCoe Cert.Tiles

section tile

variable (x0 : Vec Ideal S2048x256 .f32) (x1 : Vec Ideal S2048x1024 .bf16) (s : Vec Ideal S256x1024 .f32) (r : Fin 256) (e : Fin 1024)

/-- An entry of a tile's product. -/
theorem pay2_apply : k0_pay2 x0 x1 (ix2 r e) = ∑ l : Fin 2048, x0 (ix2 l r) * x1 (ix2 l e) := by
  pointwise [k0_pay2, k0_pay1]

/-- An entry of a tile's product on top of the sum so far. -/
theorem pay3_apply : k0_pay3 x0 x1 s (ix2 r e) = s (ix2 r e) + ∑ l : Fin 2048, x0 (ix2 l r) * x1 (ix2 l e) := by
  pointwise [k0_pay3, k0_pay1]

/-- The result's type keeps the entries. -/
theorem pay4_apply : k0_pay4 s (ix2 r e) = s (ix2 r e) := by
  pointwise [k0_pay4]

variable (c : Dev nD) (i : grid0.Coords) (arg3 : Memref sig .tc .vmem S2048x256 .f32) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole)

/-- What the first point of a run leaves in the scratch. -/
theorem first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A; dsimp only; sl_unfold_words
  rw [View.canon_unit_zero zero2]
  simp only [View.readAt_eq_ld, harg3.read_unread, harg4.read_unread, View.ld_unit_zero (S := S2048x256) zero2, View.ld_unit_zero (S := S2048x1024) zero2]

/-- What every other point leaves in the scratch. -/
theorem next (h0 : ¬cond0_0 i) (h1 : cond0_1 i) (h2 : cond0_2 i) :
    sout0_B_0 c i arg3 harg3 arg4 harg4 arg5 harg5 arg6 harg6 h0 h1 h2 x0 x1 s = k0_pay3 x0 x1 s := by
  unfold sout0_B_0
  rw [View.read_writes_eq_canon _ _ _ (scover0_B_0 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x256) zero2, View.ld_unit_zero (S := S2048x1024) zero2, View.ld_unit_zero (S := S256x1024) zero2]

/-- What the last point of a run leaves in the result's block. -/
theorem last (h0 : ¬cond0_0 i) (h1 : cond0_1 i) (h2 : cond0_2 i) :
    out0_B_2 c i arg3 harg3 arg4 harg4 arg5 harg5 arg6 harg6 h0 h1 h2 x0 x1 s = k0_pay4 (k0_pay3 x0 x1 s) := by
  unfold out0_B_2
  rw [View.read_writes_eq_canon _ _ _ (cover0_B_2 c i arg3 harg3 arg4 harg4 arg5 harg5 arg6 harg6 h0 h1 h2 x0 x1 s)]
  unfold kernelRun0_B; dsimp only; sl_unfold_words
  rw [View.canon_unit_zero zero2]
  simp only [View.readAt_eq_ld, harg3.read_unread, harg4.read_unread, harg6.read_unread, View.ld_unit_zero (S := S2048x256) zero2, View.ld_unit_zero (S := S2048x1024) zero2, View.ld_unit_zero (S := S256x1024) zero2, View.readCov_unit_zero (S := S256x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val % 2 ∧ win0_0.index t (1 : Fin 2) = t.val / 2 / 4
    ∧ win0_1.index t (0 : Fin 2) = t.val % 2 ∧ win0_1.index t (1 : Fin 2) = t.val / 2 % 4 := by decide +kernel

variable (t : Fin cfg0.N) (r : Fin 256) (l : Fin 2048)

/-- The block of the embeddings that point `t` reads. -/
def left : Vec Ideal S2048x256 .f32 := iblk m c 0 t

/-- The block of the result's gradient that point `t` reads. -/
def right : Vec Ideal S2048x1024 .bf16 := iblk m c 1 t

theorem left_apply : left m c t (ix2 l r) = at2 (m ((c : Thread nD τ).loc main_arg0)) (2048 * (t.val % 2) + l) (256 * (t.val / 2 / 4) + r) := by
  obtain ⟨e0, e1, -, -⟩ := maps t
  show V m c main_arg0 (((cfg0.win 0).blk t).view.emb (ix2 l r)) = _
  rw [V_main_arg0]
  refine at2_of _ _ ?_ ?_
  · show win0_0.index t (0 : Fin 2) * 2048 + 1 * l.val = _; rw [e0]; ring
  · show win0_0.index t (1 : Fin 2) * 256 + 1 * r.val = _; rw [e1]; ring

theorem right_apply (e : Fin 1024) : right m c t (ix2 l e) = at2 (m ((c : Thread nD τ).loc main_arg2)) (2048 * (t.val % 2) + l) (1024 * (t.val / 2 % 4) + e) := by
  obtain ⟨-, -, e0, e1⟩ := maps t
  show V m c main_arg2 (((cfg0.win 1).blk t).view.emb (ix2 l e)) = _
  rw [V_main_arg2]
  refine at2_of _ _ ?_ ?_
  · show win0_1.index t (0 : Fin 2) * 2048 + 1 * l.val = _; rw [e0]; ring
  · show win0_1.index t (1 : Fin 2) * 1024 + 1 * e.val = _; rw [e1]; ring

/-- The term `k` of an entry of run `q`'s block. -/
def term (q : ℕ) (x : Fin 256 × Fin 1024) (k : ℕ) : EReal :=
  at2 (m ((c : Thread nD τ).loc main_arg0)) k (256 * (q / 4) + x.1) * at2 (m ((c : Thread nD τ).loc main_arg2)) k (1024 * (q % 4) + x.2)

/-- The tile that point `t` multiplies. -/
theorem tile_apply (e : Fin 1024) : ∑ l : Fin 2048, left m c t (ix2 l r) * right m c t (ix2 l e) = ∑ l : Fin 2048, term m c (t.val / 2) (r, e) (2048 * (t.val % 2) + l) :=
  Finset.sum_congr rfl fun l _ => by rw [left_apply, right_apply]; rfl

/-- What the scratch holds after every point. -/
theorem scratch (n : ℕ) (h : n < cfg0.N) (x : Fin 256 × Fin 1024) :
    (outsAt0 m c n h).2 (ix2 x.1 x.2) = ∑ k ∈ Finset.range (2048 * (n % 2 + 1)), term m c (n / 2) x k := by
  refine carried 2 2048 (by decide) (fun n h x => (outsAt0 m c n h).2 (ix2 x.1 x.2)) (term m c) ?_ ?_ n h x
  · intro n h x h0
    show (outsAt0 m c n h).2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2 (ix2 x.1 x.2) = _
    rw [outsAt0_B m c ⟨n, h⟩ h0 (by dsimp only; omega) (by dsimp only; omega), next]
    refine (pay3_apply (left m c ⟨n, h⟩) (right m c ⟨n, h⟩) _ x.1 x.2).trans ?_
    exact congrArg _ (tile_apply m c ⟨n, h⟩ x.1 x.2)

/-- What the last point of a run writes back is what it leaves in the scratch. -/
theorem written (h0 : t.val % 2 = 1) (e : Fin 1024) : (outsAt0 m c t.val t.isLt).1 (ix2 r e) = (outsAt0 m c t.val t.isLt).2 (ix2 r e) := by
  rw [outsAt0_B m c t (by omega) h0 h0, next, last]
  exact pay4_apply _ r e

/-- The entry of the product at two places. -/
def entry (a b : ℕ) : EReal :=
  ∑ k : Fin 4096, at2 (m ((c : Thread nD τ).loc main_arg0)) k a * at2 (m ((c : Thread nD τ).loc main_arg2)) k b

/-- All the tiles' terms are the entry's. -/
theorem whole (q : ℕ) (x : Fin 256 × Fin 1024) : ∑ k ∈ Finset.range (2048 * (1 + 1)), term m c q x k = entry m c (256 * (q / 4) + x.1) (1024 * (q % 4) + x.2) :=
  Finset.sum_range (n := 4096) (term m c q x)

/-- The result's entries. -/
theorem result (i : S256x4096.Idx) : Value.G2 m c i = entry m c (i 0) (i 1) := by
  have h0 : (i 0).val < 256 := (i 0).isLt
  have h1 : (i 1).val < 4096 := (i 1).isLt
  have hp : Value.pt2Of i < cfg0.N := by rw [show cfg0.N = 8 from N_0]; unfold Value.pt2Of Value.run2Of; omega
  have hm : Value.pt2Of i % 2 = 1 := by unfold Value.pt2Of; omega
  have hd : Value.pt2Of i / 2 = 4 * ((i 0).val / 256) + (i 1).val / 1024 := by unfold Value.pt2Of Value.run2Of; omega
  rw [Value.G2, dif_pos hp, ← Value.outsAt0_sweep m c (Value.pt2Of i) hp]
  have e : Value.loc2Of i = ix2 ⟨(i 0).val % 256, Nat.mod_lt _ (by decide)⟩ ⟨(i 1).val % 1024, Nat.mod_lt _ (by decide)⟩ := by
    funext a; fin_cases a <;> rfl
  rw [e]
  refine (written m c ⟨Value.pt2Of i, hp⟩ _ hm _).trans ?_
  refine (scratch m c (Value.pt2Of i) hp (_, _)).trans ?_
  rw [hm, hd, whole, show (4 * ((i 0).val / 256) + (i 1).val / 1024) / 4 = (i 0).val / 256 by omega,
    show (4 * ((i 0).val / 256) + (i 1).val / 1024) % 4 = (i 1).val / 1024 by omega]
  exact congrArg₂ (entry m c) (Nat.div_add_mod _ 256) (Nat.div_add_mod _ 1024)

end run

end Cert.Kernel11Ideal.Mul

namespace Cert.Reference11Ideal.Mul

open Cert.Reference11Ideal Cert.Reference11Ideal.Gen Idealize.ShloMosaic Idealize.ShloMosaic.TcCoe Idealize.SL.Sem Cert.Tiles

/-- An entry of the reference's product. -/
theorem dot_apply (h : FVec Ideal S4096x256 .f32) (g : FVec Ideal S4096x4096 .bf16) (i : S256x4096.Idx) :
    truncf .bf16 (transpose S256x4096 [1, 0] (Host.dotGeneral dot_S4096x4096_S4096x256_S4096x256_0_0_1_1_n_n none (extf .f32 g bitsLt_bf16_f32) h) transposes_S4096x256_S256x4096_1_0) bitsLt_bf16_f32 i
      = ∑ k : Fin 4096, at2 h k (i 0) * at2 g k (i 1) := by
  obtain ⟨r, e, rfl⟩ : ∃ (r : Fin 256) (e : Fin 4096), i = ix2 r e := ⟨i 0, i 1, by funext a; fin_cases a <;> rfl⟩
  trans ∑ k : Fin 4096, g (ix2 k e) * h (ix2 k r)
  · pointwise []
  · exact Finset.sum_congr rfl fun k _ => (mul_comm _ _).trans (congrArg₂ (· * ·) (at2_of h _ rfl rfl) (at2_of g _ rfl rfl))

/-- The reference leaves its arguments as they are, and it has no semaphores. -/
theorem frame : Cert.quiescent_Reference11Ideal (hReference11Ideal := Gen.facts) :=
  fun m g _ => (θ_run defs _ _).mono (fun r h => ⟨fun c => (h c).2, sem_eq_zero_of_no_sems rfl r.2⟩) (Value.run m g)

/-- The two programs end with the same result. -/
theorem equal : Cert.algebraic_Kernel11Ideal_Reference11Ideal (hKernel11Ideal := Cert.Kernel11Ideal.Gen.facts) (hReference11Ideal := Gen.facts) := by
  intro m g m' g' _ ha
  refine ⟨Cert.Kernel11Ideal.Value.G2 m, Cert.Kernel11Ideal.Value.run m g, (θ_run defs _ _).mono (fun r h c => ⟨(h c).1.trans ?_, (h c).2⟩) (Value.run m' g')⟩
  obtain ⟨a0, a1, a2⟩ := ha c
  funext i
  rw [a0, a2]
  exact (dot_apply _ _ i).trans (Cert.Kernel11Ideal.Mul.result m c i).symm

end Cert.Reference11Ideal.Mul

end
-- ==== Proof.Mul.GateFwd.lean ====
/-
  The gate and what it lets in: a product with its bias through the sigmoid, times the embeddings' product, on top of the stream.
  What the call leaves in its three results.
-/
module

public import proofs.«01_k».proof.Proof.Mul.Tiles
public import proofs.«01_k».proof.Defs
public import proofs.«01_k».proof.Proof.Gen.Kernel12Ideal.Value
public import proofs.«01_k».proof.Proof.Gen.Reference12Ideal.Run
public import Idealize.ShloMosaic.Lib.Quiescent

@[expose] public section

set_option maxRecDepth 16384

noncomputable section

namespace Cert.Tiles

open Idealize.ShloMosaic

/-- The sigmoid. -/
def sigmoid (x : EReal) : EReal := Ideal.div 1 (1 + Ideal.exp (-x))

end Cert.Tiles

namespace Cert.Kernel12Ideal.Mul

open Cert.Kernel12Ideal Cert.Kernel12Ideal.Gen Idealize.ShloMosaic Idealize.ShloMosaic.TcCoe Cert.Tiles

section tile

variable (x0 x1 : Vec Ideal S1024x1024 .bf16) (x2 : Vec Ideal S1x1024 .f32) (x3 : Vec Ideal S1024x1024 .f32) (x4 : Vec Ideal S1024x256 .f32) (x5 : Vec Ideal S256x1024 .bf16)
  (s : Vec Ideal S1024x1024 .f32) (r e : Fin 1024)

/-- An entry of a tile's product. -/
theorem pay2_apply : k0_pay2 x0 x1 (ix2 r e) = ∑ l : Fin 1024, x0 (ix2 r l) * x1 (ix2 l e) := by
  pointwise [k0_pay2, k0_pay1]

/-- An entry of a tile's product on top of the sum so far. -/
theorem pay3_apply : k0_pay3 x0 x1 s (ix2 r e) = s (ix2 r e) + ∑ l : Fin 1024, x0 (ix2 r l) * x1 (ix2 l e) := by
  pointwise [k0_pay3, k0_pay1]

/-- The gate of a sum. -/
theorem pay4_apply : k0_pay4 s x2 (ix2 r e) = sigmoid (s (ix2 r e) + x2 (ix2 0 e)) := by
  trans Ideal.div (1) (1 + Ideal.exp (0 - (s (ix2 r e) + x2 (ix2 0 e))))
  · pointwise [k0_pay4]
  · rw [zero_sub, sigmoid]

/-- An entry of the embeddings' product. -/
theorem pay5_apply : k0_pay5 x4 x5 (ix2 r e) = ∑ l : Fin 256, x4 (ix2 r l) * x5 (ix2 l e) := by
  pointwise [k0_pay5]

/-- The result's type keeps the entries of the gate. -/
theorem pay7_apply : k0_pay7 s x2 (ix2 r e) = k0_pay4 s x2 (ix2 r e) := by
  pointwise [k0_pay7]

/-- The result's type keeps the entries of the embeddings' product. -/
theorem pay8_apply : k0_pay8 x4 x5 (ix2 r e) = k0_pay5 x4 x5 (ix2 r e) := by
  pointwise [k0_pay8]

/-- What the gate lets in, on top of the stream. -/
theorem pay6_apply : k0_pay6 s x2 x4 x5 x3 (ix2 r e) = x3 (ix2 r e) + k0_pay4 s x2 (ix2 r e) * k0_pay5 x4 x5 (ix2 r e) := by
  pointwise [k0_pay6]

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x256 .f32) (harg7 : arg7.IsWhole) (arg8 : Memref sig .tc .vmem S256x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .f32) (harg12 : arg12.IsWhole)

/-- What the first point of a run leaves in the scratch. -/
theorem first (h0 : cond0_0 i) (h1 : ¬cond0_1 i) (h2 : ¬cond0_2 i) :
    sout0_A_0 c i arg3 harg3 arg4 harg4 arg5 harg5 arg6 harg6 arg7 harg7 arg8 harg8 arg9 harg9 arg10 harg10 arg11 harg11 arg12 harg12 h0 h1 h2 x0 x1 x2 x3 x4 x5 = k0_pay2 x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 h0 h1 h2 x0 x1 x2 x3 x4 x5)]
  unfold kernelRun0_A; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

/-- What every point between the first and the last leaves in the scratch. -/
theorem next (h0 : ¬cond0_0 i) (h1 : cond0_1 i) (h2 : ¬cond0_2 i) :
    sout0_B_0 c i arg3 harg3 arg4 harg4 arg5 harg5 arg6 harg6 arg7 harg7 arg8 harg8 arg9 harg9 arg10 harg10 arg11 harg11 arg12 harg12 h0 h1 h2 x0 x1 x2 x3 x4 x5 s = k0_pay3 x0 x1 s := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 h0 h1 h2 x0 x1 x2 x3 x4 x5 s)]
  unfold kernelRun0_B; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

/-- What the last point of a run leaves in the scratch. -/
theorem end_ (h0 : ¬cond0_0 i) (h1 : cond0_1 i) (h2 : cond0_2 i) :
    sout0_C_0 c i arg3 harg3 arg4 harg4 arg5 harg5 arg6 harg6 arg7 harg7 arg8 harg8 arg9 harg9 arg10 harg10 arg11 harg11 arg12 harg12 h0 h1 h2 x0 x1 x2 x3 x4 x5 s = k0_pay3 x0 x1 s := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 h0 h1 h2 x0 x1 x2 x3 x4 x5 s)]
  unfold kernelRun0_C; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

/-- What the last point of a run leaves in the stream's block. -/
theorem last6 (h0 : ¬cond0_0 i) (h1 : cond0_1 i) (h2 : cond0_2 i) :
    out0_C_6 c i arg3 harg3 arg4 harg4 arg5 harg5 arg6 harg6 arg7 harg7 arg8 harg8 arg9 harg9 arg10 harg10 arg11 harg11 arg12 harg12 h0 h1 h2 x0 x1 x2 x3 x4 x5 s = k0_pay6 (k0_pay3 x0 x1 s) x2 x4 x5 x3 := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 h0 h1 h2 x0 x1 x2 x3 x4 x5 s)]
  unfold kernelRun0_C; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

/-- What the last point of a run leaves in the gate's block. -/
theorem last7 (h0 : ¬cond0_0 i) (h1 : cond0_1 i) (h2 : cond0_2 i) :
    out0_C_7 c i arg3 harg3 arg4 harg4 arg5 harg5 arg6 harg6 arg7 harg7 arg8 harg8 arg9 harg9 arg10 harg10 arg11 harg11 arg12 harg12 h0 h1 h2 x0 x1 x2 x3 x4 x5 s = k0_pay7 (k0_pay3 x0 x1 s) x2 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 h0 h1 h2 x0 x1 x2 x3 x4 x5 s)]
  unfold kernelRun0_C; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

/-- What the last point of a run leaves in the embeddings' block. -/
theorem last8 (h0 : ¬cond0_0 i) (h1 : cond0_1 i) (h2 : cond0_2 i) :
    out0_C_8 c i arg3 harg3 arg4 harg4 arg5 harg5 arg6 harg6 arg7 harg7 arg8 harg8 arg9 harg9 arg10 harg10 arg11 harg11 arg12 harg12 h0 h1 h2 x0 x1 x2 x3 x4 x5 s = k0_pay8 x4 x5 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 h0 h1 h2 x0 x1 x2 x3 x4 x5 s)]
  unfold kernelRun0_C; dsimp only; sl_unfold_words
  rw [View.canon_unit_zero zero2]
  simp only [View.readAt_eq_ld, harg3.read_unread, harg4.read_unread, harg5.read_unread, harg6.read_unread, harg7.read_unread, harg8.read_unread, harg12.read_unread, View.ld_unit_zero (S := S1024x1024) zero2, View.ld_unit_zero (S := S1x1024) zero2, View.ld_unit_zero (S := S1024x256) zero2, View.ld_unit_zero (S := S256x1024) zero2, View.readCov_unit_zero (S := S1024x1024) _ zero2]

end tile

section run

variable (m : (ℓ : Loc nD τ sig) → Buf (Elt Ideal) ℓ) (c : Dev nD)

/-- The places of the blocks that are read, at point `t`. -/
theorem maps : ∀ t : Fin grid0.N,
    win0_0.index t (0 : Fin 2) = t.val / 4 / 4 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 4 / 4 ∧ win0_3.index t (1 : Fin 2) = t.val / 4 % 4
    ∧ win0_4.index t (0 : Fin 2) = t.val / 4 / 4 ∧ win0_4.index t (1 : Fin 2) = 0
    ∧ win0_5.index t (0 : Fin 2) = 0 ∧ win0_5.index t (1 : Fin 2) = t.val / 4 % 4 := by decide +kernel

variable (t : Fin cfg0.N) (r e : Fin 1024) (l : Fin 1024) (k : Fin 256)

/-- The blocks that point `t` reads: of the normed stream, of the gate's weights and bias, of the stream, of the embeddings and of
    their weights. -/
def left : Vec Ideal S1024x1024 .bf16 := iblk m c 0 t
def right : Vec Ideal S1024x1024 .bf16 := iblk m c 1 t
def bias : Vec Ideal S1x1024 .f32 := iblk m c 2 t
def rest : Vec Ideal S1024x1024 .f32 := iblk m c 3 t
def emb : Vec Ideal S1024x256 .f32 := iblk m c 4 t
def wemb : Vec Ideal S256x1024 .bf16 := iblk m c 5 t

theorem left_apply : left m c t (ix2 r l) = at2 (m ((c : Thread nD τ).loc main_arg0)) (1024 * (t.val / 4 / 4) + r) (1024 * (t.val % 4) + l) := by
  obtain ⟨e0, e1, -⟩ := maps t
  show V m c main_arg0 (((cfg0.win 0).blk t).view.emb (ix2 r l)) = _
  rw [V_main_arg0]
  refine at2_of _ _ ?_ ?_
  · show win0_0.index t (0 : Fin 2) * 1024 + 1 * r.val = _; rw [e0]; ring
  · show win0_0.index t (1 : Fin 2) * 1024 + 1 * l.val = _; rw [e1]; ring

theorem right_apply : right m c t (ix2 l e) = at2 (m ((c : Thread nD τ).loc main_arg1)) (1024 * (t.val % 4) + l) (1024 * (t.val / 4 % 4) + e) := by
  obtain ⟨-, -, e0, e1, -⟩ := maps t
  show V m c main_arg1 (((cfg0.win 1).blk t).view.emb (ix2 l e)) = _
  rw [V_main_arg1]
  refine at2_of _ _ ?_ ?_
  · show win0_1.index t (0 : Fin 2) * 1024 + 1 * l.val = _; rw [e0]; ring
  · show win0_1.index t (1 : Fin 2) * 1024 + 1 * e.val = _; rw [e1]; ring

theorem bias_apply : bias m c t (ix2 0 e) = at2 (m ((c : Thread nD τ).loc main_arg2)) (0) (1024 * (t.val / 4 % 4) + e) := by
  obtain ⟨-, -, -, -, e0, e1, -⟩ := maps t
  show V m c main_arg2 (((cfg0.win 2).blk t).view.emb (ix2 0 e)) = _
  rw [V_main_arg2]
  refine at2_of _ _ ?_ ?_
  · show win0_2.index t (0 : Fin 2) * 1 + 1 * 0 = _; rw [e0]
  · show win0_2.index t (1 : Fin 2) * 1024 + 1 * e.val = _; rw [e1]; ring

theorem rest_apply : rest m c t (ix2 r e) = at2 (m ((c : Thread nD τ).loc main_arg3)) (1024 * (t.val / 4 / 4) + r) (1024 * (t.val / 4 % 4) + e) := by
  obtain ⟨-, -, -, -, -, -, e0, e1, -⟩ := maps t
  show V m c main_arg3 (((cfg0.win 3).blk t).view.emb (ix2 r e)) = _
  rw [V_main_arg3]
  refine at2_of _ _ ?_ ?_
  · show win0_3.index t (0 : Fin 2) * 1024 + 1 * r.val = _; rw [e0]; ring
  · show win0_3.index t (1 : Fin 2) * 1024 + 1 * e.val = _; rw [e1]; ring

theorem emb_apply : emb m c t (ix2 r k) = at2 (m ((c : Thread nD τ).loc main_arg4)) (1024 * (t.val / 4 / 4) + r) (k) := by
  obtain ⟨-, -, -, -, -, -, -, -, e0, e1, -⟩ := maps t
  show V m c main_arg4 (((cfg0.win 4).blk t).view.emb (ix2 r k)) = _
  rw [V_main_arg4]
  refine at2_of _ _ ?_ ?_
  · show win0_4.index t (0 : Fin 2) * 1024 + 1 * r.val = _; rw [e0]; ring
  · show win0_4.index t (1 : Fin 2) * 256 + 1 * k.val = _; rw [e1]; ring

theorem wemb_apply : wemb m c t (ix2 k e) = at2 (m ((c : Thread nD τ).loc main_arg5)) (k) (1024 * (t.val / 4 % 4) + e) := by
  obtain ⟨-, -, -, -, -, -, -, -, -, -, e0, e1⟩ := maps t
  show V m c main_arg5 (((cfg0.win 5).blk t).view.emb (ix2 k e)) = _
  rw [V_main_arg5]
  refine at2_of _ _ ?_ ?_
  · show win0_5.index t (0 : Fin 2) * 256 + 1 * k.val = _; rw [e0]; ring
  · show win0_5.index t (1 : Fin 2) * 1024 + 1 * e.val = _; rw [e1]; ring

/-- The term `k` of an entry of run `q`'s block. -/
def term (q : ℕ) (x : Fin 1024 × Fin 1024) (k : ℕ) : EReal :=
  at2 (m ((c : Thread nD τ).loc main_arg0)) (1024 * (q / 4) + x.1) k * at2 (m ((c : Thread nD τ).loc main_arg1)) k (1024 * (q % 4) + x.2)

/-- The tile that point `t` multiplies. -/
theorem tile_apply : ∑ l : Fin 1024, left m c t (ix2 r l) * right m c t (ix2 l e) = ∑ l : Fin 1024, term m c (t.val / 4) (r, e) (1024 * (t.val % 4) + l) :=
  Finset.sum_congr rfl fun l _ => by rw [left_apply, right_apply]; rfl

/-- What the scratch holds after every point. -/
theorem scratch (n : ℕ) (h : n < cfg0.N) (x : Fin 1024 × Fin 1024) :
    (outsAt0 m c n h).2.2.2 (ix2 x.1 x.2) = ∑ k ∈ Finset.range (1024 * (n % 4 + 1)), term m c (n / 4) x k := by
  refine carried 4 1024 (by decide) (fun n h x => (outsAt0 m c n h).2.2.2 (ix2 x.1 x.2)) (term m c) ?_ ?_ n h x
  · intro n h x h0
    show (outsAt0 m c n h).2.2.2 (ix2 x.1 x.2) = _
    rw [outsAt0_A m c ⟨n, h⟩ h0 (by dsimp only; omega) (by dsimp only; omega), first]
    refine (pay2_apply (left m c ⟨n, h⟩) (right m c ⟨n, h⟩) x.1 x.2).trans ?_
    exact tile_apply m c ⟨n, h⟩ x.1 x.2
  · intro n h x h0
    show (outsAt0 m c n h).2.2.2 (ix2 x.1 x.2) = _
    by_cases h2 : n % 4 = 3
    · rw [outsAt0_C m c ⟨n, h⟩ h0 (by dsimp only; omega) h2, end_]
      refine (pay3_apply (left m c ⟨n, h⟩) (right m c ⟨n, h⟩) _ x.1 x.2).trans ?_
      exact congrArg _ (tile_apply m c ⟨n, h⟩ x.1 x.2)
    · rw [outsAt0_B m c ⟨n, h⟩ h0 (by dsimp only; omega) h2, next]
      refine (pay3_apply (left m c ⟨n, h⟩) (right m c ⟨n, h⟩) _ x.1 x.2).trans ?_
      exact congrArg _ (tile_apply m c ⟨n, h⟩ x.1 x.2)

/-- The gate, and the embeddings' product, at two places. -/
def gate (a b : ℕ) : EReal :=
  sigmoid ((∑ k : Fin 4096, at2 (m ((c : Thread nD τ).loc main_arg0)) a k * at2 (m ((c : Thread nD τ).loc main_arg1)) k b) + at2 (m ((c : Thread nD τ).loc main_arg2)) 0 b)
def part (a b : ℕ) : EReal := ∑ k : Fin 256, at2 (m ((c : Thread nD τ).loc main_arg4)) a k * at2 (m ((c : Thread nD τ).loc main_arg5)) k b

/-- The stream at two places, with what the gate lets in. -/
def stream (a b : ℕ) : EReal := at2 (m ((c : Thread nD τ).loc main_arg3)) a b + gate m c a b * part m c a b

/-- All the tiles' terms are the entry's. -/
theorem whole (q : ℕ) (x : Fin 1024 × Fin 1024) : ∑ k ∈ Finset.range (1024 * (3 + 1)), term m c q x k
    = ∑ k : Fin 4096, at2 (m ((c : Thread nD τ).loc main_arg0)) (1024 * (q / 4) + x.1) k * at2 (m ((c : Thread nD τ).loc main_arg1)) k (1024 * (q % 4) + x.2) :=
  Finset.sum_range (n := 4096) (term m c q x)

/-- The gate's and the embeddings' blocks at the last point of a run. -/
theorem gate_apply (h0 : t.val % 4 = 3) : k0_pay4 (outsAt0 m c t.val t.isLt).2.2.2 (bias m c t) (ix2 r e) = gate m c (1024 * (t.val / 4 / 4) + r) (1024 * (t.val / 4 % 4) + e) := by
  rw [pay4_apply, bias_apply]
  refine congrArg (fun s => sigmoid (s + _)) ?_
  refine (scratch m c t.val t.isLt (r, e)).trans ?_
  rw [h0, whole]

theorem part_apply : k0_pay5 (emb m c t) (wemb m c t) (ix2 r e) = part m c (1024 * (t.val / 4 / 4) + r) (1024 * (t.val / 4 % 4) + e) := by
  rw [pay5_apply]
  exact Finset.sum_congr rfl fun k _ => by rw [emb_apply, wemb_apply]

/-- What the last point of a run writes back. -/
theorem written (h0 : t.val % 4 = 3) :
    (outsAt0 m c t.val t.isLt).1 (ix2 r e) = stream m c (1024 * (t.val / 4 / 4) + r) (1024 * (t.val / 4 % 4) + e)
    ∧ (outsAt0 m c t.val t.isLt).2.1 (ix2 r e) = gate m c (1024 * (t.val / 4 / 4) + r) (1024 * (t.val / 4 % 4) + e)
    ∧ (outsAt0 m c t.val t.isLt).2.2.1 (ix2 r e) = part m c (1024 * (t.val / 4 / 4) + r) (1024 * (t.val / 4 % 4) + e) := by
  have hg := gate_apply m c t r e h0
  rw [outsAt0_C m c t (by omega) (by omega) h0, end_] at hg
  rw [outsAt0_C m c t (by omega) (by omega) h0, last6, last7, last8]
  refine ⟨?_, ?_, ?_⟩
  · refine (pay6_apply (bias m c t) (rest m c t) (emb m c t) (wemb m c t) _ r e).trans ?_
    exact congrArg₂ (· + ·) (rest_apply m c t r e) (congrArg₂ (· * ·) hg (part_apply m c t r e))
  · exact (pay7_apply (bias m c t) _ r e).trans hg
  · exact (pay8_apply (emb m c t) (wemb m c t) r e).trans (part_apply m c t r e)

/-- The point that writes an entry of a result back, and the entry's place in its block. -/
theorem point (i : S4096x4096.Idx) : Value.pt6Of i < cfg0.N ∧ Value.pt6Of i % 4 = 3
    ∧ 1024 * (Value.pt6Of i / 4 / 4) + (i 0).val % 1024 = (i 0).val ∧ 1024 * (Value.pt6Of i / 4 % 4) + (i 1).val % 1024 = (i 1).val
    ∧ Value.loc6Of i = ix2 ⟨(i 0).val % 1024, Nat.mod_lt _ (by decide)⟩ ⟨(i 1).val % 1024, Nat.mod_lt _ (by decide)⟩ := by
  have h0 : (i 0).val < 4096 := (i 0).isLt
  have h1 : (i 1).val < 4096 := (i 1).isLt
  have hd : Value.pt6Of i / 4 = 4 * ((i 0).val / 1024) + (i 1).val / 1024 := by unfold Value.pt6Of Value.run6Of; omega
  refine ⟨by rw [show cfg0.N = 64 from N_0]; unfold Value.pt6Of Value.run6Of; omega, by unfold Value.pt6Of; omega, by rw [hd]; omega, by rw [hd]; omega, ?_⟩
  funext a; fin_cases a <;> rfl

/-- The entries of the result with the stream. -/
theorem result6 (i : S4096x4096.Idx) : Value.G6 m c i = stream m c (i 0) (i 1) := by
  obtain ⟨hp, hm, e0, e1, e⟩ := point i
  rw [Value.G6, dif_pos hp, ← Value.outsAt0_sweep m c (Value.pt6Of i) hp]
  refine (congrArg _ e).trans ?_
  refine (written m c ⟨Value.pt6Of i, hp⟩ _ _ hm).1.trans ?_
  exact congrArg₂ (stream m c) e0 e1

/-- The entries of the result with the gate. -/
theorem result7 (i : S4096x4096.Idx) : Value.G7 m c i = gate m c (i 0) (i 1) := by
  obtain ⟨hp, hm, e0, e1, e⟩ := point i
  rw [Value.G7, dif_pos hp, ← Value.outsAt0_sweep m c (Value.pt6Of i) hp]
  refine (congrArg _ e).trans ?_
  refine (written m c ⟨Value.pt6Of i, hp⟩ _ _ hm).2.1.trans ?_
  exact congrArg₂ (gate m c) e0 e1

/-- The entries of the result with the embeddings' product. -/
theorem result8 (i : S4096x4096.Idx) : Value.G8 m c i = part m c (i 0) (i 1) := by
  obtain ⟨hp, hm, e0, e1, e⟩ := point i
  rw [Value.G8, dif_pos hp, ← Value.outsAt0_sweep m c (Value.pt6Of i) hp]
  refine (congrArg _ e).trans ?_
  refine (written m c ⟨Value.pt6Of i, hp⟩ _ _ hm).2.2.trans ?_
  exact congrArg₂ (part m c) e0 e1

end run

end Cert.Kernel12Ideal.Mul

namespace Cert.Reference12Ideal.Mul

open Cert.Reference12Ideal Cert.Reference12Ideal.Gen Idealize.ShloMosaic Idealize.ShloMosaic.TcCoe Idealize.SL.Sem Cert.Tiles

variable (hn w : FVec Ideal S4096x4096 .bf16) (b : FVec Ideal S1x4096 .f32) (h : FVec Ideal S4096x4096 .f32) (p : FVec Ideal S4096x256 .f32) (v : FVec Ideal S256x4096 .bf16) (i : S4096x4096.Idx)

/-- The reference's gate, and its product of the embeddings. -/
def gate : FVec Ideal S4096x4096 .f32 :=
  Host.divf (broadcastInDim S4096x4096 ![] bcast_S_S4096x4096 (constant S_ .f32 0x3F800000#32)) (addf (broadcastInDim S4096x4096 ![] bcast_S_S4096x4096 (constant S_ .f32 0x3F800000#32)) (Host.exp (Host.negf (addf (Host.dotGeneral dot_S4096x4096_S4096x4096_S4096x4096_1_0_0_1_n_n none (extf .f32 hn bitsLt_bf16_f32) (extf .f32 w bitsLt_bf16_f32)) (broadcastInDim S4096x4096 ![0, 1] bcast_S1x4096_S4096x4096_0_1 b)))))
def part : FVec Ideal S4096x4096 .f32 := Host.dotGeneral dot_S4096x256_S256x4096_S4096x4096_1_0_0_1_n_n none p (extf .f32 v bitsLt_bf16_f32)

/-- An entry of the reference's gate. -/
theorem gate_apply : gate hn w b i = sigmoid ((∑ k : Fin 4096, at2 hn (i 0) k * at2 w k (i 1)) + at2 b 0 (i 1)) := by
  obtain ⟨r, e, rfl⟩ : ∃ r e : Fin 4096, i = ix2 r e := ⟨i 0, i 1, by funext a; fin_cases a <;> rfl⟩
  trans Ideal.div (1) (1 + Ideal.exp (-((∑ k : Fin 4096, hn (ix2 r k) * w (ix2 k e)) + b (ix2 0 e))))
  · pointwise [gate]
  · rw [sigmoid]
    refine congrArg (fun s => Ideal.div 1 (1 + Ideal.exp (-s))) ?_
    exact congrArg₂ (· + ·) (Finset.sum_congr rfl fun k _ => congrArg₂ (· * ·) (at2_of hn _ rfl rfl) (at2_of w _ rfl rfl)) (at2_of b _ rfl rfl)

/-- An entry of the reference's product of the embeddings. -/
theorem part_apply : part p v i = ∑ k : Fin 256, at2 p (i 0) k * at2 v k (i 1) := by
  obtain ⟨r, e, rfl⟩ : ∃ r e : Fin 4096, i = ix2 r e := ⟨i 0, i 1, by funext a; fin_cases a <;> rfl⟩
  trans ∑ k : Fin 256, p (ix2 r k) * v (ix2 k e)
  · pointwise [part]
  · exact Finset.sum_congr rfl fun k _ => congrArg₂ (· * ·) (at2_of p _ rfl rfl) (at2_of v _ rfl rfl)

/-- The reference leaves its arguments as they are, and it has no semaphores. -/
theorem frame : Cert.quiescent_Reference12Ideal (hReference12Ideal := Gen.facts) :=
  fun m g _ => (θ_run defs _ _).mono (fun r h => ⟨fun c => (h c).2.2.2, sem_eq_zero_of_no_sems rfl r.2⟩) (Value.run m g)

/-- The two programs end with the same results. -/
theorem equal : Cert.algebraic_Kernel12Ideal_Reference12Ideal (hKernel12Ideal := Cert.Kernel12Ideal.Gen.facts) (hReference12Ideal := Gen.facts) := by
  intro m g m' g' _ ha
  refine ⟨Cert.Kernel12Ideal.Value.G6 m, Cert.Kernel12Ideal.Value.G7 m, Cert.Kernel12Ideal.Value.G8 m, Cert.Kernel12Ideal.Value.run m g,
    (θ_run defs _ _).mono (fun r h c => ⟨(h c).1.trans ?_, (h c).2.1.trans ?_, (h c).2.2.1.trans ?_, (h c).2.2.2⟩) (Value.run m' g')⟩
  all_goals obtain ⟨a0, a1, a2, a3, a4, a5⟩ := ha c
  all_goals funext i
  · rw [a0, a1, a2, a3, a4, a5]
    exact (congrArg₂ (· + ·) (at2_of _ i rfl rfl) (congrArg₂ (· * ·) (gate_apply _ _ _ i) (part_apply _ _ i))).trans (Cert.Kernel12Ideal.Mul.result6 m c i).symm
  · rw [a0, a1, a2]
    exact (gate_apply _ _ _ i).trans (Cert.Kernel12Ideal.Mul.result7 m c i).symm
  · rw [a4, a5]
    exact (part_apply _ _ i).trans (Cert.Kernel12Ideal.Mul.result8 m c i).symm

end Cert.Reference12Ideal.Mul

end
-- ==== Proof.Mul.Adam.lean ====
/-
  The optimiser's step at one entry, as numbers: the new moments and the change of the weight.
-/
module

public import Idealize.ShloMosaic.Lib.Pointwise

@[expose] public section

noncomputable section

namespace Cert.Adam

open Idealize.ShloMosaic

/-- The number that a 32-bit constant stands for. -/
def lit (b : BitVec 32) : EReal := Scalar.ofBits (F := Ideal) .f32 b

/-- The new first moment from the old one and the gradient. -/
def newM (m g : EReal) : EReal := lit 0x3F666666#32 * m + lit 0x3DCCCCCD#32 * g

/-- The new second moment from the old one and the gradient. -/
def newV (v g : EReal) : EReal := lit 0x3F7FBE77#32 * v + lit 0x3A83126F#32 * (g * g)

/-- The change of the weight from the new moments and the weight. -/
def change (w m v : EReal) : EReal :=
  lit 0xBA83126F#32 * (Ideal.div (Ideal.div m (lit 0x3F26BD02#32)) (Ideal.sqrt (Ideal.div v (lit 0x3C231ACC#32)) + lit 0x322BCC77#32) + lit 0x3C23D70A#32 * w)

end Cert.Adam

end
-- ==== Proof.Mul.Packed.lean ====
/-
  Arrays laid end to end in one: which part of the long array an array is, through the operations that lay the arrays out, pad
  them, give them another shape and cut them out again.
-/
module

public import Idealize.ShloMosaic.Lib.Pointwise
public import Idealize.ShloMosaic.Lib.Pipeline.Value
public import Idealize.ShloMosaic.Lib.KernelVsHost

@[expose] public section

noncomputable section

namespace Cert.Packed

open Idealize.ShloMosaic

/-- The long array `P` holds the array `x` from the place `o` on, both read row by row. -/
def Holds {S s : Shape} (P : S.Idx → EReal) (o : ℕ) (x : s.Idx → EReal) : Prop :=
  ∀ (i : S.Idx) (j : s.Idx), (S.rowMajor i).val = o + (s.rowMajor j).val → P i = x j

variable {S T s t : Shape} {P : S.Idx → EReal} {o : ℕ} {x : s.Idx → EReal}

/-- An array holds itself from the first place on. -/
theorem Holds.self (x : s.Idx → EReal) : Holds x 0 x := fun i j h => by
  rw [Nat.zero_add] at h
  exact congrArg x (s.rowMajor.injective (Fin.ext h))

/-- An array that holds another of its own shape from the first place on is that other one. -/
theorem Holds.eq {y : s.Idx → EReal} (h : Holds y 0 x) : y = x := funext fun i => h i i (Nat.zero_add _).symm

/-- Another shape of the long array holds the same. -/
theorem Holds.long (h : Holds P o x) (hc : S.ShapeCasts T) : Holds (shapeCast T P hc) o x := fun i j e => by
  refine (shapeCast_apply P hc i (S.rowMajor.symm ((T.rowMajor i).cast hc)) ?_).trans (h _ j ?_)
  · rw [Equiv.apply_symm_apply]; rfl
  · rw [Equiv.apply_symm_apply]; exact e

/-- Another shape of the array that is held. -/
theorem Holds.short {hc : s.ShapeCasts t} (h : Holds P o (shapeCast t x hc)) : Holds P o x := fun i j e => by
  refine (h i (t.rowMajor.symm ((s.rowMajor j).cast hc.symm)) ?_).trans ?_
  · rw [Equiv.apply_symm_apply]; exact e
  · refine shapeCast_apply x hc _ j ?_
    rw [Equiv.apply_symm_apply]; rfl

/-- The entries of long arrays put through one function. -/
theorem Holds.map (f : EReal → EReal) (h : Holds P o x) : Holds (fun i => f (P i)) o (fun j => f (x j)) :=
  fun i j e => congrArg f (h i j e)

variable {Q R U : S.Idx → EReal} {y z w : s.Idx → EReal}

theorem Holds.map2 (f : EReal → EReal → EReal) (h : Holds P o x) (h' : Holds Q o y) : Holds (fun i => f (P i) (Q i)) o (fun j => f (x j) (y j)) :=
  fun i j e => congrArg₂ f (h i j e) (h' i j e)

theorem Holds.map4 (f : EReal → EReal → EReal → EReal → EReal) (hp : Holds P o x) (hq : Holds Q o y) (hr : Holds R o z) (hu : Holds U o w) :
    Holds (fun i => f (P i) (Q i) (R i) (U i)) o (fun j => f (x j) (y j) (z j) (w j)) :=
  fun i j e => by show f _ _ _ _ = f _ _ _ _; rw [hp i j e, hq i j e, hr i j e, hu i j e]

section line

variable {A B n : ℕ} {X : (⟨1, ![A]⟩ : Shape).Idx → EReal}

/-- The long array with entries added at its end. -/
theorem Holds.pad {u : Shape} (h : Holds X o x) (hi : ℕ) (v : u.Idx → EReal) (hp : (⟨1, ![A]⟩ : Shape).Pads ![0] ![hi] ![0] ⟨1, ![B]⟩) (hu : 0 < u.numel)
    (hn : o + s.numel ≤ A) : Holds (pad ⟨1, ![B]⟩ ![0] ![hi] ![0] X v hp hu) o x := fun i j e => by
  rw [Shape.rowMajor_val_one] at e
  have hj : (s.rowMajor j).val < s.numel := (s.rowMajor j).isLt
  refine (pad_apply_of_inside _ _ _ X v hp hu i (ix1 ⟨o + (s.rowMajor j).val, by omega⟩) ?_).trans (h _ j ?_)
  · intro a
    obtain rfl : a = 0 := Subsingleton.elim _ _
    show (i 0).val = 0 + (o + (s.rowMajor j).val) * (0 + 1)
    omega
  · rw [Shape.rowMajor_val_one]; rfl

/-- The part cut out of the long array at the place of the array that is held. -/
theorem Holds.slice (h : Holds X o x) (hs : (⟨1, ![A]⟩ : Shape).Slices ![o] ⟨1, ![n]⟩) : Holds (extractStridedSlice ⟨1, ![n]⟩ ![o] X hs) 0 x := fun i j e => by
  rw [Shape.rowMajor_val_one, Nat.zero_add] at e
  have hb : o + (i 0).val < A := lt_of_lt_of_le (Nat.add_lt_add_left (i 0).isLt o) (hs.2 0)
  refine (extractStridedSlice_apply _ X hs i (ix1 ⟨o + (i 0).val, hb⟩) ?_).trans (h _ j ?_)
  · intro a
    obtain rfl : a = 0 := Subsingleton.elim _ _
    rfl
  · rw [Shape.rowMajor_val_one]; exact congrArg (o + ·) e

/-- Arrays laid end to end hold each of them, from the place on where the arrays before it end. -/
theorem Holds.laid (xs : List ((s : Shape) × (s.Idx → EReal))) (hc : Shape.Concatenates (xs.map (·.1)) ⟨1, ![A]⟩ 0) (k : ℕ) (hk : k < xs.length)
    (y : (⟨1, ![n]⟩ : Shape).Idx → EReal) (hy : xs[k] = ⟨⟨1, ![n]⟩, y⟩)
    (ss : List Shape) (hs : xs.map (·.1) = ss) (ho : ((ss.take k).map fun s => if h : s.rank = 1 then s.size ((0 : Fin 1).cast h.symm) else 0).sum = o) :
    Holds (concatenate ⟨1, ![A]⟩ 0 xs hc) o y := fun i j e => by
  subst hs
  rw [← List.map_take] at ho
  rw [Shape.rowMajor_val_one, Shape.rowMajor_val_one] at e
  refine concatenate_apply_piece 0 xs hc i k hk _ y hy rfl o ho j (fun b hb => absurd (Subsingleton.elim _ _) hb) ?_
  exact e.symm

end line

end Cert.Packed

end
-- ==== Proof.Mul.AdamPart.lean ====
/-
  The optimiser's step of the small weights, which lie packed in one array: what the call leaves in its results, cut out of the
  packed ones again.
-/
module

public import proofs.«01_k».proof.Proof.Mul.Adam
public import proofs.«01_k».proof.Proof.Mul.Packed
public import proofs.«01_k».proof.Proof.Mul.Tiles
public import proofs.«01_k».proof.Defs
public import proofs.«01_k».proof.Proof.Gen.Kernel13Ideal.Frame
public import Idealize.ShloMosaic.Lib.Pipeline.Value

@[expose] public section

set_option maxRecDepth 16384

noncomputable section

namespace Cert.Kernel13Ideal.Mul

open Cert.Kernel13Ideal Cert.Kernel13Ideal.Gen Idealize.ShloMosaic Idealize.ShloMosaic.TcCoe Cert.Adam Cert.Packed Cert.Tiles

section tile

variable (a b d e : Vec Ideal S792x128 .f32) (j : S792x128.Idx)

/-- An entry of what the body computes: the new moments and the change. -/
theorem pay2_apply : k0_pay2 a b j = newM (b j) (a j) := by
  show newM (shapeCast S792x128 b _ j) (shapeCast S792x128 a _ j) = _
  rw [shapeCast_apply b _ j j rfl, shapeCast_apply a _ j j rfl]
theorem pay3_apply : k0_pay3 a b j = newV (b j) (a j) := by
  show newV (shapeCast S792x128 b _ j) (shapeCast S792x128 a _ j) = _
  rw [shapeCast_apply b _ j j rfl, shapeCast_apply a _ j j rfl]
theorem pay4_apply : k0_pay4 a b d e j = change (a j) (newM (d j) (b j)) (newV (e j) (b j)) := by
  show change (shapeCast S792x128 a _ j) (k0_pay2 b d j) (k0_pay3 b e j) = _
  rw [shapeCast_apply a _ j j rfl, pay2_apply, pay3_apply]

end tile

section run

variable (m : (ℓ : Loc nD τ sig) → Buf (Elt Ideal) ℓ) (c : Dev nD)

/-- The packed arrays that the call reads: the gradients, the weights and the two moments. -/
def pg : Vec Ideal S792x128 .f32 := V m c main_v13
def pw : Vec Ideal S792x128 .f32 := V m c main_v27
def pm : Vec Ideal S792x128 .f32 := V m c main_v41
def pv : Vec Ideal S792x128 .f32 := V m c main_v55

/-- The packed arrays that it leaves: the changes and the new moments. -/
def packed4 : Vec Ideal S792x128 .f32 := fun i => change (pw m c i) (newM (pm m c i) (pg m c i)) (newV (pv m c i) (pg m c i))
def packed5 : Vec Ideal S792x128 .f32 := fun i => newM (pm m c i) (pg m c i)
def packed6 : Vec Ideal S792x128 .f32 := fun i => newV (pv m c i) (pg m c i)

/-- Every window's only block is its whole array. -/
theorem maps : ∀ t : Fin grid0.N,
    (win0_0.index t = fun _ => 0) ∧ (win0_1.index t = fun _ => 0) ∧ (win0_2.index t = fun _ => 0) ∧ (win0_3.index t = fun _ => 0)
    ∧ (win0_4.index t = fun _ => 0) ∧ (win0_5.index t = fun _ => 0) ∧ (win0_6.index t = fun _ => 0) := by decide +kernel
theorem at0 (t : Fin cfg0.N) (j : S792x128.Idx) : ((cfg0.win 0).blk t).view.emb j = j := by
  obtain ⟨e, -⟩ := maps t
  funext a; apply Fin.ext
  show win0_0.index t a * S792x128.size a + 1 * (j a).val = (j a).val
  rw [e]; show 0 * S792x128.size a + 1 * (j a).val = (j a).val; omega
theorem at1 (t : Fin cfg0.N) (j : S792x128.Idx) : ((cfg0.win 1).blk t).view.emb j = j := by
  obtain ⟨-, e, -⟩ := maps t
  funext a; apply Fin.ext
  show win0_1.index t a * S792x128.size a + 1 * (j a).val = (j a).val
  rw [e]; show 0 * S792x128.size a + 1 * (j a).val = (j a).val; omega
theorem at2 (t : Fin cfg0.N) (j : S792x128.Idx) : ((cfg0.win 2).blk t).view.emb j = j := by
  obtain ⟨-, -, e, -⟩ := maps t
  funext a; apply Fin.ext
  show win0_2.index t a * S792x128.size a + 1 * (j a).val = (j a).val
  rw [e]; show 0 * S792x128.size a + 1 * (j a).val = (j a).val; omega
theorem at3 (t : Fin cfg0.N) (j : S792x128.Idx) : ((cfg0.win 3).blk t).view.emb j = j := by
  obtain ⟨-, -, -, e, -⟩ := maps t
  funext a; apply Fin.ext
  show win0_3.index t a * S792x128.size a + 1 * (j a).val = (j a).val
  rw [e]; show 0 * S792x128.size a + 1 * (j a).val = (j a).val; omega
theorem at4 (t : Fin cfg0.N) (j : S792x128.Idx) : ((cfg0.win 4).blk t).view.emb j = j := by
  obtain ⟨-, -, -, -, e, -⟩ := maps t
  funext a; apply Fin.ext
  show win0_4.index t a * S792x128.size a + 1 * (j a).val = (j a).val
  rw [e]; show 0 * S792x128.size a + 1 * (j a).val = (j a).val; omega
theorem at5 (t : Fin cfg0.N) (j : S792x128.Idx) : ((cfg0.win 5).blk t).view.emb j = j := by
  obtain ⟨-, -, -, -, -, e, -⟩ := maps t
  funext a; apply Fin.ext
  show win0_5.index t a * S792x128.size a + 1 * (j a).val = (j a).val
  rw [e]; show 0 * S792x128.size a + 1 * (j a).val = (j a).val; omega
theorem at6 (t : Fin cfg0.N) (j : S792x128.Idx) : ((cfg0.win 6).blk t).view.emb j = j := by
  obtain ⟨-, -, -, -, -, -, e⟩ := maps t
  funext a; apply Fin.ext
  show win0_6.index t a * S792x128.size a + 1 * (j a).val = (j a).val
  rw [e]; show 0 * S792x128.size a + 1 * (j a).val = (j a).val; omega

/-- The grid's only point. -/
def t0 : Fin cfg0.N := ⟨0, by decide⟩

variable (t : Fin cfg0.N)

/-- What the point reads is the four packed arrays. -/
theorem reads0 : iblk m c 0 t = pg m c := by
  funext j
  show V m c main_v13 (((cfg0.win 0).blk t).view.emb j) = V m c main_v13 j
  rw [at0]
theorem reads1 : iblk m c 1 t = pw m c := by
  funext j
  show V m c main_v27 (((cfg0.win 1).blk t).view.emb j) = V m c main_v27 j
  rw [at1]
theorem reads2 : iblk m c 2 t = pm m c := by
  funext j
  show V m c main_v41 (((cfg0.win 2).blk t).view.emb j) = V m c main_v41 j
  rw [at2]
theorem reads3 : iblk m c 3 t = pv m c := by
  funext j
  show V m c main_v55 (((cfg0.win 3).blk t).view.emb j) = V m c main_v55 j
  rw [at3]

/-- What the only point writes back, and so the array at the end. -/
theorem left4 : (dats m 0 c).flushed 4 t = ((cfg0.win 4).blk t).view.read (Elt Ideal) (packed4 m c) := by
  show (cfg0.win 4).cut (grid0.coords t) ((dats m 0 c).after 4 t) = _
  rw [after0_4]
  unfold out0_4
  rw [View.canon_unit_zero zero2]
  simp only [View.ld_unit_zero (S := S792x128) zero2]
  funext j
  show k0_pay4 (iblk m c 1 t) (iblk m c 0 t) (iblk m c 2 t) (iblk m c 3 t) j = packed4 m c (((cfg0.win 4).blk t).view.emb j)
  rw [pay4_apply, at4, reads0, reads1, reads2, reads3]
  rfl

theorem mem4 (i : S792x128.Idx) : i ∈ ((cfg0.win 4).blk t).view.set := by
  show i ∈ ((View.whole main_v56_0).slice (win0_4.rect t)).set
  rw [View.set_slice_whole, Rect.mem_set_unit]
  obtain ⟨-, -, -, -, e, -⟩ := maps t
  intro a
  have ha : (i a).val < S792x128.size a := (i a).isLt
  show win0_4.index t a * S792x128.size a ≤ (i a).val ∧ (i a).val < win0_4.index t a * S792x128.size a + S792x128.size a
  rw [e]
  show 0 * S792x128.size a ≤ (i a).val ∧ (i a).val < 0 * S792x128.size a + S792x128.size a
  omega

theorem final4 : (dats m 0 c).arrAt 4 cfg0.N = packed4 m c :=
  (dats m 0 c).arrAt_eq_of_cover 4 _ (fun t _ => left4 m c t) fun i =>
    ⟨t0, flush0_4 t0, mem4 t0 i⟩
/-- What the only point writes back, and so the array at the end. -/
theorem left5 : (dats m 0 c).flushed 5 t = ((cfg0.win 5).blk t).view.read (Elt Ideal) (packed5 m c) := by
  show (cfg0.win 5).cut (grid0.coords t) ((dats m 0 c).after 5 t) = _
  rw [after0_5]
  unfold out0_5
  rw [View.canon_unit_zero zero2]
  simp only [View.ld_unit_zero (S := S792x128) zero2]
  funext j
  show k0_pay2 (iblk m c 0 t) (iblk m c 2 t) j = packed5 m c (((cfg0.win 5).blk t).view.emb j)
  rw [pay2_apply, at5, reads0, reads2]
  rfl

theorem mem5 (i : S792x128.Idx) : i ∈ ((cfg0.win 5).blk t).view.set := by
  show i ∈ ((View.whole main_v56_1).slice (win0_5.rect t)).set
  rw [View.set_slice_whole, Rect.mem_set_unit]
  obtain ⟨-, -, -, -, -, e, -⟩ := maps t
  intro a
  have ha : (i a).val < S792x128.size a := (i a).isLt
  show win0_5.index t a * S792x128.size a ≤ (i a).val ∧ (i a).val < win0_5.index t a * S792x128.size a + S792x128.size a
  rw [e]
  show 0 * S792x128.size a ≤ (i a).val ∧ (i a).val < 0 * S792x128.size a + S792x128.size a
  omega

theorem final5 : (dats m 0 c).arrAt 5 cfg0.N = packed5 m c :=
  (dats m 0 c).arrAt_eq_of_cover 5 _ (fun t _ => left5 m c t) fun i =>
    ⟨t0, flush0_5 t0, mem5 t0 i⟩
/-- What the only point writes back, and so the array at the end. -/
theorem left6 : (dats m 0 c).flushed 6 t = ((cfg0.win 6).blk t).view.read (Elt Ideal) (packed6 m c) := by
  show (cfg0.win 6).cut (grid0.coords t) ((dats m 0 c).after 6 t) = _
  rw [after0_6]
  unfold out0_6
  rw [View.canon_unit_zero zero2]
  simp only [View.ld_unit_zero (S := S792x128) zero2]
  funext j
  show k0_pay3 (iblk m c 0 t) (iblk m c 3 t) j = packed6 m c (((cfg0.win 6).blk t).view.emb j)
  rw [pay3_apply, at6, reads0, reads3]
  rfl

theorem mem6 (i : S792x128.Idx) : i ∈ ((cfg0.win 6).blk t).view.set := by
  show i ∈ ((View.whole main_v56_2).slice (win0_6.rect t)).set
  rw [View.set_slice_whole, Rect.mem_set_unit]
  obtain ⟨-, -, -, -, -, -, e⟩ := maps t
  intro a
  have ha : (i a).val < S792x128.size a := (i a).isLt
  show win0_6.index t a * S792x128.size a ≤ (i a).val ∧ (i a).val < win0_6.index t a * S792x128.size a + S792x128.size a
  rw [e]
  show 0 * S792x128.size a ≤ (i a).val ∧ (i a).val < 0 * S792x128.size a + S792x128.size a
  omega

theorem final6 : (dats m 0 c).arrAt 6 cfg0.N = packed6 m c :=
  (dats m 0 c).arrAt_eq_of_cover 6 _ (fun t _ => left6 m c t) fun i =>
    ⟨t0, flush0_6 t0, mem6 t0 i⟩

end run

end Cert.Kernel13Ideal.Mul

end
-- ==== Proof.Mul.AdamPack.lean ====
/-
  How the arrays of the small weights lie packed in one array, and how they are cut out of it again.
-/
module

public import proofs.«01_k».proof.Proof.Mul.Adam
public import proofs.«01_k».proof.Proof.Mul.Packed
public import proofs.«01_k».proof.Proof.Mul.Tiles
public import proofs.«01_k».proof.Defs
public import proofs.«01_k».proof.Proof.Gen.Kernel13Ideal.Frame
public import Idealize.ShloMosaic.Lib.Pipeline.Value

@[expose] public section

set_option maxRecDepth 16384

noncomputable section

namespace Cert.Kernel13Ideal.Mul

open Cert.Kernel13Ideal Cert.Kernel13Ideal.Gen Idealize.ShloMosaic Idealize.ShloMosaic.TcCoe Cert.Adam Cert.Packed Cert.Tiles

/-- The packed array `P` holds the twelve arrays, each at its place. -/
abbrev Lies (P : Vec Ideal S792x128 .f32) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32) : Prop :=
  Holds P 0 x0
  ∧ Holds P 4096 x1
  ∧ Holds P 12304 x2
  ∧ Holds P 14352 x3
  ∧ Holds P 16400 x4
  ∧ Holds P 18448 x5
  ∧ Holds P 20496 x6
  ∧ Holds P 22544 x7
  ∧ Holds P 24592 x8
  ∧ Holds P 28688 x9
  ∧ Holds P 32784 x10
  ∧ Holds P 36880 x11

/-- The arrays of the small weights, laid out flat one after the other. -/
abbrev pieces (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32) : List ((s : Shape) × (s.Idx → EReal)) :=
  [⟨S4096, shapeCast S4096 x0 shapeCasts_S1x4096_S4096⟩, ⟨S8208, shapeCast S8208 x1 shapeCasts_S1x16x513_S8208⟩, ⟨S2048, shapeCast S2048 x2 shapeCasts_S1x2048_S2048⟩, ⟨S2048, shapeCast S2048 x3 shapeCasts_S1x2048_S2048⟩, ⟨S2048, shapeCast S2048 x4 shapeCasts_S1x2048_S2048⟩, ⟨S2048, shapeCast S2048 x5 shapeCasts_S1x2048_S2048⟩, ⟨S2048, shapeCast S2048 x6 shapeCasts_S1x2048_S2048⟩, ⟨S2048, shapeCast S2048 x7 shapeCasts_S1x2048_S2048⟩, ⟨S4096, shapeCast S4096 x8 shapeCasts_S1x4096_S4096⟩, ⟨S4096, shapeCast S4096 x9 shapeCasts_S1x4096_S4096⟩, ⟨S4096, x10⟩, ⟨S7936, shapeCast S7936 x11 shapeCasts_S1x31x256_S7936⟩]

/-- All of them in one array, filled up, in the packed shape. -/
def pack (f : S_.Idx → EReal) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32) : Vec Ideal S792x128 .f32 :=
  shapeCast S792x128 (pad S101376 ![0] ![56560] ![0] (concatenate S44816 0 (pieces x0 x1 x2 x3 x4 x5 x6 x7 x8 x9 x10 x11) concatenates_S4096_S8208_S2048_S2048_S2048_S2048_S2048_S2048_S4096_S4096_S4096_S7936_S44816_d0) f pads_S44816_S101376_0565600 h_S_) shapeCasts_S101376_S792x128

section pack

variable (f : S_.Idx → EReal) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32)

/-- A piece lies in the packed array from the place on where those before it end. -/
theorem pack_piece {n o : ℕ} (k : ℕ) (hk : k < 12) (y : (⟨1, ![n]⟩ : Shape).Idx → EReal) (hy : (pieces x0 x1 x2 x3 x4 x5 x6 x7 x8 x9 x10 x11)[k] = ⟨⟨1, ![n]⟩, y⟩)
    (ho : (([S4096, S8208, S2048, S2048, S2048, S2048, S2048, S2048, S4096, S4096, S4096, S7936].take k).map fun s : Shape => if h : s.rank = 1 then s.size ((0 : Fin 1).cast h.symm) else 0).sum = o)
    (hn : o + (⟨1, ![n]⟩ : Shape).numel ≤ 44816) : Holds (pack f x0 x1 x2 x3 x4 x5 x6 x7 x8 x9 x10 x11) o y :=
  ((Holds.laid (pieces x0 x1 x2 x3 x4 x5 x6 x7 x8 x9 x10 x11) concatenates_S4096_S8208_S2048_S2048_S2048_S2048_S2048_S2048_S4096_S4096_S4096_S7936_S44816_d0 k hk y hy [S4096, S8208, S2048, S2048, S2048, S2048, S2048, S2048, S4096, S4096, S4096, S7936] rfl ho).pad 56560 f pads_S44816_S101376_0565600 h_S_ hn).long shapeCasts_S101376_S792x128

theorem pack_holds :
    Lies (pack f x0 x1 x2 x3 x4 x5 x6 x7 x8 x9 x10 x11) x0 x1 x2 x3 x4 x5 x6 x7 x8 x9 x10 x11 :=
  ⟨(pack_piece f x0 x1 x2 x3 x4 x5 x6 x7 x8 x9 x10 x11 0 (by decide) _ rfl (by decide +kernel) (by decide +kernel)).short,
    (pack_piece f x0 x1 x2 x3 x4 x5 x6 x7 x8 x9 x10 x11 1 (by decide) _ rfl (by decide +kernel) (by decide +kernel)).short,
    (pack_piece f x0 x1 x2 x3 x4 x5 x6 x7 x8 x9 x10 x11 2 (by decide) _ rfl (by decide +kernel) (by decide +kernel)).short,
    (pack_piece f x0 x1 x2 x3 x4 x5 x6 x7 x8 x9 x10 x11 3 (by decide) _ rfl (by decide +kernel) (by decide +kernel)).short,
    (pack_piece f x0 x1 x2 x3 x4 x5 x6 x7 x8 x9 x10 x11 4 (by decide) _ rfl (by decide +kernel) (by decide +kernel)).short,
    (pack_piece f x0 x1 x2 x3 x4 x5 x6 x7 x8 x9 x10 x11 5 (by decide) _ rfl (by decide +kernel) (by decide +kernel)).short,
    (pack_piece f x0 x1 x2 x3 x4 x5 x6 x7 x8 x9 x10 x11 6 (by decide) _ rfl (by decide +kernel) (by decide +kernel)).short,
    (pack_piece f x0 x1 x2 x3 x4 x5 x6 x7 x8 x9 x10 x11 7 (by decide) _ rfl (by decide +kernel) (by decide +kernel)).short,
    (pack_piece f x0 x1 x2 x3 x4 x5 x6 x7 x8 x9 x10 x11 8 (by decide) _ rfl (by decide +kernel) (by decide +kernel)).short,
    (pack_piece f x0 x1 x2 x3 x4 x5 x6 x7 x8 x9 x10 x11 9 (by decide) _ rfl (by decide +kernel) (by decide +kernel)).short,
    pack_piece f x0 x1 x2 x3 x4 x5 x6 x7 x8 x9 x10 x11 10 (by decide) _ rfl (by decide +kernel) (by decide +kernel),
    (pack_piece f x0 x1 x2 x3 x4 x5 x6 x7 x8 x9 x10 x11 11 (by decide) _ rfl (by decide +kernel) (by decide +kernel)).short⟩

end pack

/-- What the operations after the call cut out of its first result. -/
theorem cut4 (W : Valuation τ sig (Elt Ideal)) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32)
    (h : Lies (W (Proc.devRef .tc main_v56_0)) x0 x1 x2 x3 x4 x5 x6 x7 x8 x9 x10 x11) :
    StableHlo.after (List.flatten [(hostOps1 : List (HloOp τ sig (Elt Ideal)))]) W (Proc.devRef .tc main_v59) = x0
    ∧ StableHlo.after (List.flatten [(hostOps1 : List (HloOp τ sig (Elt Ideal)))]) W (Proc.devRef .tc main_v61) = x1
    ∧ StableHlo.after (List.flatten [(hostOps1 : List (HloOp τ sig (Elt Ideal)))]) W (Proc.devRef .tc main_v63) = x2
    ∧ StableHlo.after (List.flatten [(hostOps1 : List (HloOp τ sig (Elt Ideal)))]) W (Proc.devRef .tc main_v65) = x3
    ∧ StableHlo.after (List.flatten [(hostOps1 : List (HloOp τ sig (Elt Ideal)))]) W (Proc.devRef .tc main_v67) = x4
    ∧ StableHlo.after (List.flatten [(hostOps1 : List (HloOp τ sig (Elt Ideal)))]) W (Proc.devRef .tc main_v69) = x5
    ∧ StableHlo.after (List.flatten [(hostOps1 : List (HloOp τ sig (Elt Ideal)))]) W (Proc.devRef .tc main_v71) = x6
    ∧ StableHlo.after (List.flatten [(hostOps1 : List (HloOp τ sig (Elt Ideal)))]) W (Proc.devRef .tc main_v73) = x7
    ∧ StableHlo.after (List.flatten [(hostOps1 : List (HloOp τ sig (Elt Ideal)))]) W (Proc.devRef .tc main_v75) = x8
    ∧ StableHlo.after (List.flatten [(hostOps1 : List (HloOp τ sig (Elt Ideal)))]) W (Proc.devRef .tc main_v77) = x9
    ∧ StableHlo.after (List.flatten [(hostOps1 : List (HloOp τ sig (Elt Ideal)))]) W (Proc.devRef .tc main_v78) = x10
    ∧ StableHlo.after (List.flatten [(hostOps1 : List (HloOp τ sig (Elt Ideal)))]) W (Proc.devRef .tc main_v80) = x11 := by
  obtain ⟨h0, h1, h2, h3, h4, h5, h6, h7, h8, h9, h10, h11⟩ := h
  refine ⟨?_, ?_, ?_, ?_, ?_, ?_, ?_, ?_, ?_, ?_, ?_, ?_⟩ <;> simp only [hostOps1, List.flatten_cons, List.flatten_nil, List.append_nil] <;> after_results_simp
  all_goals refine Holds.eq ?_
  · exact ((h0.long _).slice _).long _
  · exact ((h1.long _).slice _).long _
  · exact ((h2.long _).slice _).long _
  · exact ((h3.long _).slice _).long _
  · exact ((h4.long _).slice _).long _
  · exact ((h5.long _).slice _).long _
  · exact ((h6.long _).slice _).long _
  · exact ((h7.long _).slice _).long _
  · exact ((h8.long _).slice _).long _
  · exact ((h9.long _).slice _).long _
  · exact ((h10.long _).slice _)
  · exact ((h11.long _).slice _).long _

/-- What the operations after the call cut out of its second result. -/
theorem cut5 (W : Valuation τ sig (Elt Ideal)) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32)
    (h : Lies (W (Proc.devRef .tc main_v56_1)) x0 x1 x2 x3 x4 x5 x6 x7 x8 x9 x10 x11) :
    StableHlo.after (List.flatten [(hostOps1 : List (HloOp τ sig (Elt Ideal)))]) W (Proc.devRef .tc main_v83) = x0
    ∧ StableHlo.after (List.flatten [(hostOps1 : List (HloOp τ sig (Elt Ideal)))]) W (Proc.devRef .tc main_v85) = x1
    ∧ StableHlo.after (List.flatten [(hostOps1 : List (HloOp τ sig (Elt Ideal)))]) W (Proc.devRef .tc main_v87) = x2
    ∧ StableHlo.after (List.flatten [(hostOps1 : List (HloOp τ sig (Elt Ideal)))]) W (Proc.devRef .tc main_v89) = x3
    ∧ StableHlo.after (List.flatten [(hostOps1 : List (HloOp τ sig (Elt Ideal)))]) W (Proc.devRef .tc main_v91) = x4
    ∧ StableHlo.after (List.flatten [(hostOps1 : List (HloOp τ sig (Elt Ideal)))]) W (Proc.devRef .tc main_v93) = x5
    ∧ StableHlo.after (List.flatten [(hostOps1 : List (HloOp τ sig (Elt Ideal)))]) W (Proc.devRef .tc main_v95) = x6
    ∧ StableHlo.after (List.flatten [(hostOps1 : List (HloOp τ sig (Elt Ideal)))]) W (Proc.devRef .tc main_v97) = x7
    ∧ StableHlo.after (List.flatten [(hostOps1 : List (HloOp τ sig (Elt Ideal)))]) W (Proc.devRef .tc main_v99) = x8
    ∧ StableHlo.after (List.flatten [(hostOps1 : List (HloOp τ sig (Elt Ideal)))]) W (Proc.devRef .tc main_v101) = x9
    ∧ StableHlo.after (List.flatten [(hostOps1 : List (HloOp τ sig (Elt Ideal)))]) W (Proc.devRef .tc main_v102) = x10
    ∧ StableHlo.after (List.flatten [(hostOps1 : List (HloOp τ sig (Elt Ideal)))]) W (Proc.devRef .tc main_v104) = x11 := by
  obtain ⟨h0, h1, h2, h3, h4, h5, h6, h7, h8, h9, h10, h11⟩ := h
  refine ⟨?_, ?_, ?_, ?_, ?_, ?_, ?_, ?_, ?_, ?_, ?_, ?_⟩ <;> simp only [hostOps1, List.flatten_cons, List.flatten_nil, List.append_nil] <;> after_results_simp
  all_goals refine Holds.eq ?_
  · exact ((h0.long _).slice _).long _
  · exact ((h1.long _).slice _).long _
  · exact ((h2.long _).slice _).long _
  · exact ((h3.long _).slice _).long _
  · exact ((h4.long _).slice _).long _
  · exact ((h5.long _).slice _).long _
  · exact ((h6.long _).slice _).long _
  · exact ((h7.long _).slice _).long _
  · exact ((h8.long _).slice _).long _
  · exact ((h9.long _).slice _).long _
  · exact ((h10.long _).slice _)
  · exact ((h11.long _).slice _).long _

/-- What the operations after the call cut out of its third result. -/
theorem cut6 (W : Valuation τ sig (Elt Ideal)) (x0 : Vec Ideal S1x4096 .f32) (x1 : Vec Ideal S1x16x513 .f32) (x2 x3 x4 x5 x6 x7 : Vec Ideal S1x2048 .f32) (x8 x9 : Vec Ideal S1x4096 .f32) (x10 : Vec Ideal S4096 .f32) (x11 : Vec Ideal S1x31x256 .f32)
    (h : Lies (W (Proc.devRef .tc main_v56_2)) x0 x1 x2 x3 x4 x5 x6 x7 x8 x9 x10 x11) :
    StableHlo.after (List.flatten [(hostOps1 : List (HloOp τ sig (Elt Ideal)))]) W (Proc.devRef .tc main_v107) = x0
    ∧ StableHlo.after (List.flatten [(hostOps1 : List (HloOp τ sig (Elt Ideal)))]) W (Proc.devRef .tc main_v109) = x1
    ∧ StableHlo.after (List.flatten [(hostOps1 : List (HloOp τ sig (Elt Ideal)))]) W (Proc.devRef .tc main_v111) = x2
    ∧ StableHlo.after (List.flatten [(hostOps1 : List (HloOp τ sig (Elt Ideal)))]) W (Proc.devRef .tc main_v113) = x3
    ∧ StableHlo.after (List.flatten [(hostOps1 : List (HloOp τ sig (Elt Ideal)))]) W (Proc.devRef .tc main_v115) = x4
    ∧ StableHlo.after (List.flatten [(hostOps1 : List (HloOp τ sig (Elt Ideal)))]) W (Proc.devRef .tc main_v117) = x5
    ∧ StableHlo.after (List.flatten [(hostOps1 : List (HloOp τ sig (Elt Ideal)))]) W (Proc.devRef .tc main_v119) = x6
    ∧ StableHlo.after (List.flatten [(hostOps1 : List (HloOp τ sig (Elt Ideal)))]) W (Proc.devRef .tc main_v121) = x7
    ∧ StableHlo.after (List.flatten [(hostOps1 : List (HloOp τ sig (Elt Ideal)))]) W (Proc.devRef .tc main_v123) = x8
    ∧ StableHlo.after (List.flatten [(hostOps1 : List (HloOp τ sig (Elt Ideal)))]) W (Proc.devRef .tc main_v125) = x9
    ∧ StableHlo.after (List.flatten [(hostOps1 : List (HloOp τ sig (Elt Ideal)))]) W (Proc.devRef .tc main_v126) = x10
    ∧ StableHlo.after (List.flatten [(hostOps1 : List (HloOp τ sig (Elt Ideal)))]) W (Proc.devRef .tc main_v128) = x11 := by
  obtain ⟨h0, h1, h2, h3, h4, h5, h6, h7, h8, h9, h10, h11⟩ := h
  refine ⟨?_, ?_, ?_, ?_, ?_, ?_, ?_, ?_, ?_, ?_, ?_, ?_⟩ <;> simp only [hostOps1, List.flatten_cons, List.flatten_nil, List.append_nil] <;> after_results_simp
  all_goals refine Holds.eq ?_
  · exact ((h0.long _).slice _).long _
  · exact ((h1.long _).slice _).long _
  · exact ((h2.long _).slice _).long _
  · exact ((h3.long _).slice _).long _
  · exact ((h4.long _).slice _).long _
  · exact ((h5.long _).slice _).long _
  · exact ((h6.long _).slice _).long _
  · exact ((h7.long _).slice _).long _
  · exact ((h8.long _).slice _).long _
  · exact ((h9.long _).slice _).long _
  · exact ((h10.long _).slice _)
  · exact ((h11.long _).slice _).long _

end Cert.Kernel13Ideal.Mul

end
-- ==== Proof.Mul.AdamIn.lean ====
/-
  What the call of the small weights' optimiser reads: the arguments, packed.
-/
module

public import proofs.«01_k».proof.Proof.Mul.Adam
public import proofs.«01_k».proof.Proof.Mul.AdamPack
public import proofs.«01_k».proof.Proof.Mul.Tiles
public import proofs.«01_k».proof.Defs
public import proofs.«01_k».proof.Proof.Gen.Kernel13Ideal.Frame
public import Idealize.ShloMosaic.Lib.Pipeline.Value

@[expose] public section

set_option maxRecDepth 16384

noncomputable section

namespace Cert.Kernel13Ideal.Mul

open Cert.Kernel13Ideal Cert.Kernel13Ideal.Gen Idealize.ShloMosaic Idealize.ShloMosaic.TcCoe Cert.Adam Cert.Packed Cert.Tiles

variable (m : (ℓ : Loc nD τ sig) → Buf (Elt Ideal) ℓ) (c : Dev nD)

theorem in_g : V m c main_v13 = pack (sitofp (F := Ideal) .f32 (constantI S_ 32 0#32)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem in_w : V m c main_v27 = pack (sitofp (F := Ideal) .f32 (constantI S_ 32 0#32)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem in_m : V m c main_v41 = pack (sitofp (F := Ideal) .f32 (constantI S_ 32 0#32)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem in_v : V m c main_v55 = pack (sitofp (F := Ideal) .f32 (constantI S_ 32 0#32)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.Kernel13Ideal.Mul

end
-- ==== Proof.Mul.AdamSmall.lean ====
/-
  The optimiser's step of the small weights: the call with the packing of its arguments and the cutting out of its results.
-/
module

public import proofs.«01_k».proof.Proof.Mul.Adam
public import proofs.«01_k».proof.Proof.Mul.AdamPart
public import proofs.«01_k».proof.Proof.Mul.AdamIn
public import proofs.«01_k».proof.Proof.Mul.Tiles
public import proofs.«01_k».proof.Defs
public import proofs.«01_k».proof.Proof.Gen.Kernel13Ideal.Frame
public import proofs.«01_k».proof.Proof.Gen.Reference13Ideal.Run
public import Idealize.ShloMosaic.Lib.Quiescent
public import Idealize.ShloMosaic.Lib.Pipeline.Value

@[expose] public section

set_option maxRecDepth 16384

noncomputable section

namespace Cert.Adam

open Idealize.ShloMosaic

/-- The three results of the step, of a whole array: the new moments of the old ones and the gradient, and the change. -/
def mean {s : Shape} (m g : s.Idx → EReal) : s.Idx → EReal := fun i => newM (m i) (g i)
def square {s : Shape} (v g : s.Idx → EReal) : s.Idx → EReal := fun i => newV (v i) (g i)
def moved {s : Shape} (g w m v : s.Idx → EReal) : s.Idx → EReal := fun i => change (w i) (newM (m i) (g i)) (newV (v i) (g i))

end Cert.Adam

namespace Cert.Kernel13Ideal.Mul

open Cert.Kernel13Ideal Cert.Kernel13Ideal.Gen Idealize.ShloMosaic Idealize.ShloMosaic.TcCoe Cert.Adam Cert.Packed Cert.Tiles Idealize.SL.Sem

variable (m : (ℓ : Loc nD τ sig) → Buf (Elt Ideal) ℓ) (c : Dev nD)

/-- Where the arguments lie in the packed arrays that the call reads. -/
theorem lies_g : Lies (pg m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [show pg m c = pack _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) from in_g m c]
  exact pack_holds _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem lies_w : Lies (pw m c) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  rw [show pw m c = pack _ (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) from in_w m c]
  exact pack_holds _ (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))

theorem lies_m : Lies (pm m c) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) := by
  rw [show pm m c = pack _ (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) from in_m m c]
  exact pack_holds _ (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))

theorem lies_v : Lies (pv m c) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)) := by
  rw [show pv m c = pack _ (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)) from in_v m c]
  exact pack_holds _ (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47))

/-- The arrays when the call is over. -/
def done : Valuation τ sig (Elt Ideal) := Pipeline.withArrays spec0 c (V0 m c) fun w => (dats m 0 c).arrAt w cfg0.N

theorem done4 : done m c (Proc.devRef .tc main_v56_0) = packed4 m c :=
  (Pipeline.withArrays_arr spec0 (by decide) c _ _ 4).trans (final4 m c)
theorem done5 : done m c (Proc.devRef .tc main_v56_1) = packed5 m c :=
  (Pipeline.withArrays_arr spec0 (by decide) c _ _ 5).trans (final5 m c)
theorem done6 : done m c (Proc.devRef .tc main_v56_2) = packed6 m c :=
  (Pipeline.withArrays_arr spec0 (by decide) c _ _ 6).trans (final6 m c)

/-- Where the results lie in the packed arrays that it leaves. -/
theorem lies4 : Lies (done m c (Proc.devRef .tc main_v56_0)) (moved (m ((c.tc : Thread nD τ).loc main_arg0)) (m ((c.tc : Thread nD τ).loc main_arg12)) (m ((c.tc : Thread nD τ).loc main_arg24)) (m ((c.tc : Thread nD τ).loc main_arg36))) (moved (m ((c.tc : Thread nD τ).loc main_arg1)) (m ((c.tc : Thread nD τ).loc main_arg13)) (m ((c.tc : Thread nD τ).loc main_arg25)) (m ((c.tc : Thread nD τ).loc main_arg37))) (moved (m ((c.tc : Thread nD τ).loc main_arg2)) (m ((c.tc : Thread nD τ).loc main_arg14)) (m ((c.tc : Thread nD τ).loc main_arg26)) (m ((c.tc : Thread nD τ).loc main_arg38))) (moved (m ((c.tc : Thread nD τ).loc main_arg3)) (m ((c.tc : Thread nD τ).loc main_arg15)) (m ((c.tc : Thread nD τ).loc main_arg27)) (m ((c.tc : Thread nD τ).loc main_arg39))) (moved (m ((c.tc : Thread nD τ).loc main_arg4)) (m ((c.tc : Thread nD τ).loc main_arg16)) (m ((c.tc : Thread nD τ).loc main_arg28)) (m ((c.tc : Thread nD τ).loc main_arg40))) (moved (m ((c.tc : Thread nD τ).loc main_arg5)) (m ((c.tc : Thread nD τ).loc main_arg17)) (m ((c.tc : Thread nD τ).loc main_arg29)) (m ((c.tc : Thread nD τ).loc main_arg41))) (moved (m ((c.tc : Thread nD τ).loc main_arg6)) (m ((c.tc : Thread nD τ).loc main_arg18)) (m ((c.tc : Thread nD τ).loc main_arg30)) (m ((c.tc : Thread nD τ).loc main_arg42))) (moved (m ((c.tc : Thread nD τ).loc main_arg7)) (m ((c.tc : Thread nD τ).loc main_arg19)) (m ((c.tc : Thread nD τ).loc main_arg31)) (m ((c.tc : Thread nD τ).loc main_arg43))) (moved (m ((c.tc : Thread nD τ).loc main_arg8)) (m ((c.tc : Thread nD τ).loc main_arg20)) (m ((c.tc : Thread nD τ).loc main_arg32)) (m ((c.tc : Thread nD τ).loc main_arg44))) (moved (m ((c.tc : Thread nD τ).loc main_arg9)) (m ((c.tc : Thread nD τ).loc main_arg21)) (m ((c.tc : Thread nD τ).loc main_arg33)) (m ((c.tc : Thread nD τ).loc main_arg45))) (moved (m ((c.tc : Thread nD τ).loc main_arg10)) (m ((c.tc : Thread nD τ).loc main_arg22)) (m ((c.tc : Thread nD τ).loc main_arg34)) (m ((c.tc : Thread nD τ).loc main_arg46))) (moved (m ((c.tc : Thread nD τ).loc main_arg11)) (m ((c.tc : Thread nD τ).loc main_arg23)) (m ((c.tc : Thread nD τ).loc main_arg35)) (m ((c.tc : Thread nD τ).loc main_arg47))) := by
  rw [done4]
  obtain ⟨g0, g1, g2, g3, g4, g5, g6, g7, g8, g9, g10, g11⟩ := lies_g m c
  obtain ⟨w0, w1, w2, w3, w4, w5, w6, w7, w8, w9, w10, w11⟩ := lies_w m c
  obtain ⟨m0, m1, m2, m3, m4, m5, m6, m7, m8, m9, m10, m11⟩ := lies_m m c
  obtain ⟨v0, v1, v2, v3, v4, v5, v6, v7, v8, v9, v10, v11⟩ := lies_v m c
  exact ⟨Holds.map4 (fun g w m v => change w (newM m g) (newV v g)) g0 w0 m0 v0, Holds.map4 (fun g w m v => change w (newM m g) (newV v g)) g1 w1 m1 v1, Holds.map4 (fun g w m v => change w (newM m g) (newV v g)) g2 w2 m2 v2, Holds.map4 (fun g w m v => change w (newM m g) (newV v g)) g3 w3 m3 v3, Holds.map4 (fun g w m v => change w (newM m g) (newV v g)) g4 w4 m4 v4, Holds.map4 (fun g w m v => change w (newM m g) (newV v g)) g5 w5 m5 v5, Holds.map4 (fun g w m v => change w (newM m g) (newV v g)) g6 w6 m6 v6, Holds.map4 (fun g w m v => change w (newM m g) (newV v g)) g7 w7 m7 v7, Holds.map4 (fun g w m v => change w (newM m g) (newV v g)) g8 w8 m8 v8, Holds.map4 (fun g w m v => change w (newM m g) (newV v g)) g9 w9 m9 v9, Holds.map4 (fun g w m v => change w (newM m g) (newV v g)) g10 w10 m10 v10, Holds.map4 (fun g w m v => change w (newM m g) (newV v g)) g11 w11 m11 v11⟩

theorem lies5 : Lies (done m c (Proc.devRef .tc main_v56_1)) (mean (m ((c.tc : Thread nD τ).loc main_arg24)) (m ((c.tc : Thread nD τ).loc main_arg0))) (mean (m ((c.tc : Thread nD τ).loc main_arg25)) (m ((c.tc : Thread nD τ).loc main_arg1))) (mean (m ((c.tc : Thread nD τ).loc main_arg26)) (m ((c.tc : Thread nD τ).loc main_arg2))) (mean (m ((c.tc : Thread nD τ).loc main_arg27)) (m ((c.tc : Thread nD τ).loc main_arg3))) (mean (m ((c.tc : Thread nD τ).loc main_arg28)) (m ((c.tc : Thread nD τ).loc main_arg4))) (mean (m ((c.tc : Thread nD τ).loc main_arg29)) (m ((c.tc : Thread nD τ).loc main_arg5))) (mean (m ((c.tc : Thread nD τ).loc main_arg30)) (m ((c.tc : Thread nD τ).loc main_arg6))) (mean (m ((c.tc : Thread nD τ).loc main_arg31)) (m ((c.tc : Thread nD τ).loc main_arg7))) (mean (m ((c.tc : Thread nD τ).loc main_arg32)) (m ((c.tc : Thread nD τ).loc main_arg8))) (mean (m ((c.tc : Thread nD τ).loc main_arg33)) (m ((c.tc : Thread nD τ).loc main_arg9))) (mean (m ((c.tc : Thread nD τ).loc main_arg34)) (m ((c.tc : Thread nD τ).loc main_arg10))) (mean (m ((c.tc : Thread nD τ).loc main_arg35)) (m ((c.tc : Thread nD τ).loc main_arg11))) := by
  rw [done5]
  obtain ⟨m0, m1, m2, m3, m4, m5, m6, m7, m8, m9, m10, m11⟩ := lies_m m c
  obtain ⟨g0, g1, g2, g3, g4, g5, g6, g7, g8, g9, g10, g11⟩ := lies_g m c
  exact ⟨Holds.map2 (fun m g => newM m g) m0 g0, Holds.map2 (fun m g => newM m g) m1 g1, Holds.map2 (fun m g => newM m g) m2 g2, Holds.map2 (fun m g => newM m g) m3 g3, Holds.map2 (fun m g => newM m g) m4 g4, Holds.map2 (fun m g => newM m g) m5 g5, Holds.map2 (fun m g => newM m g) m6 g6, Holds.map2 (fun m g => newM m g) m7 g7, Holds.map2 (fun m g => newM m g) m8 g8, Holds.map2 (fun m g => newM m g) m9 g9, Holds.map2 (fun m g => newM m g) m10 g10, Holds.map2 (fun m g => newM m g) m11 g11⟩

theorem lies6 : Lies (done m c (Proc.devRef .tc main_v56_2)) (square (m ((c.tc : Thread nD τ).loc main_arg36)) (m ((c.tc : Thread nD τ).loc main_arg0))) (square (m ((c.tc : Thread nD τ).loc main_arg37)) (m ((c.tc : Thread nD τ).loc main_arg1))) (square (m ((c.tc : Thread nD τ).loc main_arg38)) (m ((c.tc : Thread nD τ).loc main_arg2))) (square (m ((c.tc : Thread nD τ).loc main_arg39)) (m ((c.tc : Thread nD τ).loc main_arg3))) (square (m ((c.tc : Thread nD τ).loc main_arg40)) (m ((c.tc : Thread nD τ).loc main_arg4))) (square (m ((c.tc : Thread nD τ).loc main_arg41)) (m ((c.tc : Thread nD τ).loc main_arg5))) (square (m ((c.tc : Thread nD τ).loc main_arg42)) (m ((c.tc : Thread nD τ).loc main_arg6))) (square (m ((c.tc : Thread nD τ).loc main_arg43)) (m ((c.tc : Thread nD τ).loc main_arg7))) (square (m ((c.tc : Thread nD τ).loc main_arg44)) (m ((c.tc : Thread nD τ).loc main_arg8))) (square (m ((c.tc : Thread nD τ).loc main_arg45)) (m ((c.tc : Thread nD τ).loc main_arg9))) (square (m ((c.tc : Thread nD τ).loc main_arg46)) (m ((c.tc : Thread nD τ).loc main_arg10))) (square (m ((c.tc : Thread nD τ).loc main_arg47)) (m ((c.tc : Thread nD τ).loc main_arg11))) := by
  rw [done6]
  obtain ⟨v0, v1, v2, v3, v4, v5, v6, v7, v8, v9, v10, v11⟩ := lies_v m c
  obtain ⟨g0, g1, g2, g3, g4, g5, g6, g7, g8, g9, g10, g11⟩ := lies_g m c
  exact ⟨Holds.map2 (fun v g => newV v g) v0 g0, Holds.map2 (fun v g => newV v g) v1 g1, Holds.map2 (fun v g => newV v g) v2 g2, Holds.map2 (fun v g => newV v g) v3 g3, Holds.map2 (fun v g => newV v g) v4 g4, Holds.map2 (fun v g => newV v g) v5 g5, Holds.map2 (fun v g => newV v g) v6 g6, Holds.map2 (fun v g => newV v g) v7 g7, Holds.map2 (fun v g => newV v g) v8 g8, Holds.map2 (fun v g => newV v g) v9 g9, Holds.map2 (fun v g => newV v g) v10 g10, Holds.map2 (fun v g => newV v g) v11 g11⟩

/-- Equal arguments, equal results. -/
theorem mean_congr {s : Shape} {m m' g g' : s.Idx → EReal} (h : m' = m) (k : g' = g) : mean m' g' = mean m g := by rw [h, k]
theorem square_congr {s : Shape} {v v' g g' : s.Idx → EReal} (h : v' = v) (k : g' = g) : square v' g' = square v g := by rw [h, k]
theorem moved_congr {s : Shape} {g g' w w' m m' v v' : s.Idx → EReal} (a : g' = g) (b : w' = w) (d : m' = m) (e : v' = v) :
    moved g' w' m' v' = moved g w m v := by rw [a, b, d, e]

/-- The reference leaves its arguments as they are, and it has no semaphores. -/
theorem reference_frame : Cert.quiescent_Reference13Ideal (hReference13Ideal := Cert.Reference13Ideal.Gen.facts) :=
  fun m g _ => (θ_run Cert.Reference13Ideal.defs _ _).mono (fun r h => ⟨fun c => (h c).2.2.2.2.2.2.2.2.2.2.2.2.2.2.2.2.2.2.2.2.2.2.2.2.2.2.2.2.2.2.2.2.2.2.2.2, sem_eq_zero_of_no_sems rfl r.2⟩) (Cert.Reference13Ideal.Value.run m g)

/-- The two programs end with the same results. -/
theorem equal : Cert.algebraic_Kernel13Ideal_Reference13Ideal (hKernel13Ideal := Cert.Kernel13Ideal.Gen.facts) (hReference13Ideal := Cert.Reference13Ideal.Gen.facts) := by
  intro m g m' g' _ ha
  refine ⟨fun c => moved (m ((c.tc : Thread nD τ).loc main_arg0)) (m ((c.tc : Thread nD τ).loc main_arg12)) (m ((c.tc : Thread nD τ).loc main_arg24)) (m ((c.tc : Thread nD τ).loc main_arg36)),
    fun c => moved (m ((c.tc : Thread nD τ).loc main_arg1)) (m ((c.tc : Thread nD τ).loc main_arg13)) (m ((c.tc : Thread nD τ).loc main_arg25)) (m ((c.tc : Thread nD τ).loc main_arg37)),
    fun c => moved (m ((c.tc : Thread nD τ).loc main_arg2)) (m ((c.tc : Thread nD τ).loc main_arg14)) (m ((c.tc : Thread nD τ).loc main_arg26)) (m ((c.tc : Thread nD τ).loc main_arg38)),
    fun c => moved (m ((c.tc : Thread nD τ).loc main_arg3)) (m ((c.tc : Thread nD τ).loc main_arg15)) (m ((c.tc : Thread nD τ).loc main_arg27)) (m ((c.tc : Thread nD τ).loc main_arg39)),
    fun c => moved (m ((c.tc : Thread nD τ).loc main_arg4)) (m ((c.tc : Thread nD τ).loc main_arg16)) (m ((c.tc : Thread nD τ).loc main_arg28)) (m ((c.tc : Thread nD τ).loc main_arg40)),
    fun c => moved (m ((c.tc : Thread nD τ).loc main_arg5)) (m ((c.tc : Thread nD τ).loc main_arg17)) (m ((c.tc : Thread nD τ).loc main_arg29)) (m ((c.tc : Thread nD τ).loc main_arg41)),
    fun c => moved (m ((c.tc : Thread nD τ).loc main_arg6)) (m ((c.tc : Thread nD τ).loc main_arg18)) (m ((c.tc : Thread nD τ).loc main_arg30)) (m ((c.tc : Thread nD τ).loc main_arg42)),
    fun c => moved (m ((c.tc : Thread nD τ).loc main_arg7)) (m ((c.tc : Thread nD τ).loc main_arg19)) (m ((c.tc : Thread nD τ).loc main_arg31)) (m ((c.tc : Thread nD τ).loc main_arg43)),
    fun c => moved (m ((c.tc : Thread nD τ).loc main_arg8)) (m ((c.tc : Thread nD τ).loc main_arg20)) (m ((c.tc : Thread nD τ).loc main_arg32)) (m ((c.tc : Thread nD τ).loc main_arg44)),
    fun c => moved (m ((c.tc : Thread nD τ).loc main_arg9)) (m ((c.tc : Thread nD τ).loc main_arg21)) (m ((c.tc : Thread nD τ).loc main_arg33)) (m ((c.tc : Thread nD τ).loc main_arg45)),
    fun c => moved (m ((c.tc : Thread nD τ).loc main_arg10)) (m ((c.tc : Thread nD τ).loc main_arg22)) (m ((c.tc : Thread nD τ).loc main_arg34)) (m ((c.tc : Thread nD τ).loc main_arg46)),
    fun c => moved (m ((c.tc : Thread nD τ).loc main_arg11)) (m ((c.tc : Thread nD τ).loc main_arg23)) (m ((c.tc : Thread nD τ).loc main_arg35)) (m ((c.tc : Thread nD τ).loc main_arg47)),
    fun c => mean (m ((c.tc : Thread nD τ).loc main_arg24)) (m ((c.tc : Thread nD τ).loc main_arg0)),
    fun c => mean (m ((c.tc : Thread nD τ).loc main_arg25)) (m ((c.tc : Thread nD τ).loc main_arg1)),
    fun c => mean (m ((c.tc : Thread nD τ).loc main_arg26)) (m ((c.tc : Thread nD τ).loc main_arg2)),
    fun c => mean (m ((c.tc : Thread nD τ).loc main_arg27)) (m ((c.tc : Thread nD τ).loc main_arg3)),
    fun c => mean (m ((c.tc : Thread nD τ).loc main_arg28)) (m ((c.tc : Thread nD τ).loc main_arg4)),
    fun c => mean (m ((c.tc : Thread nD τ).loc main_arg29)) (m ((c.tc : Thread nD τ).loc main_arg5)),
    fun c => mean (m ((c.tc : Thread nD τ).loc main_arg30)) (m ((c.tc : Thread nD τ).loc main_arg6)),
    fun c => mean (m ((c.tc : Thread nD τ).loc main_arg31)) (m ((c.tc : Thread nD τ).loc main_arg7)),
    fun c => mean (m ((c.tc : Thread nD τ).loc main_arg32)) (m ((c.tc : Thread nD τ).loc main_arg8)),
    fun c => mean (m ((c.tc : Thread nD τ).loc main_arg33)) (m ((c.tc : Thread nD τ).loc main_arg9)),
    fun c => mean (m ((c.tc : Thread nD τ).loc main_arg34)) (m ((c.tc : Thread nD τ).loc main_arg10)),
    fun c => mean (m ((c.tc : Thread nD τ).loc main_arg35)) (m ((c.tc : Thread nD τ).loc main_arg11)),
    fun c => square (m ((c.tc : Thread nD τ).loc main_arg36)) (m ((c.tc : Thread nD τ).loc main_arg0)),
    fun c => square (m ((c.tc : Thread nD τ).loc main_arg37)) (m ((c.tc : Thread nD τ).loc main_arg1)),
    fun c => square (m ((c.tc : Thread nD τ).loc main_arg38)) (m ((c.tc : Thread nD τ).loc main_arg2)),
    fun c => square (m ((c.tc : Thread nD τ).loc main_arg39)) (m ((c.tc : Thread nD τ).loc main_arg3)),
    fun c => square (m ((c.tc : Thread nD τ).loc main_arg40)) (m ((c.tc : Thread nD τ).loc main_arg4)),
    fun c => square (m ((c.tc : Thread nD τ).loc main_arg41)) (m ((c.tc : Thread nD τ).loc main_arg5)),
    fun c => square (m ((c.tc : Thread nD τ).loc main_arg42)) (m ((c.tc : Thread nD τ).loc main_arg6)),
    fun c => square (m ((c.tc : Thread nD τ).loc main_arg43)) (m ((c.tc : Thread nD τ).loc main_arg7)),
    fun c => square (m ((c.tc : Thread nD τ).loc main_arg44)) (m ((c.tc : Thread nD τ).loc main_arg8)),
    fun c => square (m ((c.tc : Thread nD τ).loc main_arg45)) (m ((c.tc : Thread nD τ).loc main_arg9)),
    fun c => square (m ((c.tc : Thread nD τ).loc main_arg46)) (m ((c.tc : Thread nD τ).loc main_arg10)),
    fun c => square (m ((c.tc : Thread nD τ).loc main_arg47)) (m ((c.tc : Thread nD τ).loc main_arg11)),
    (θ_run _ _ _).mono (fun r h c => ?_) (θ_run_and (unchanged m g) (run_main m g)),
    (θ_run _ _ _).mono (fun r h c => ?_) (Cert.Reference13Ideal.Value.run m' g')⟩
  · obtain ⟨d0, d1, d2, d3, d4, d5, d6, d7, d8, d9, d10, d11⟩ := cut4 (done m c) _ _ _ _ _ _ _ _ _ _ _ _ (lies4 m c)
    obtain ⟨n0, n1, n2, n3, n4, n5, n6, n7, n8, n9, n10, n11⟩ := cut5 (done m c) _ _ _ _ _ _ _ _ _ _ _ _ (lies5 m c)
    obtain ⟨s0, s1, s2, s3, s4, s5, s6, s7, s8, s9, s10, s11⟩ := cut6 (done m c) _ _ _ _ _ _ _ _ _ _ _ _ (lies6 m c)
    exact ⟨((h.2 c).2 main_v59 (Pipeline.mem_restRefs_of main_v59 (by decide) (by decide))).trans d0,
      ((h.2 c).2 main_v61 (Pipeline.mem_restRefs_of main_v61 (by decide) (by decide))).trans d1,
      ((h.2 c).2 main_v63 (Pipeline.mem_restRefs_of main_v63 (by decide) (by decide))).trans d2,
      ((h.2 c).2 main_v65 (Pipeline.mem_restRefs_of main_v65 (by decide) (by decide))).trans d3,
      ((h.2 c).2 main_v67 (Pipeline.mem_restRefs_of main_v67 (by decide) (by decide))).trans d4,
      ((h.2 c).2 main_v69 (Pipeline.mem_restRefs_of main_v69 (by decide) (by decide))).trans d5,
      ((h.2 c).2 main_v71 (Pipeline.mem_restRefs_of main_v71 (by decide) (by decide))).trans d6,
      ((h.2 c).2 main_v73 (Pipeline.mem_restRefs_of main_v73 (by decide) (by decide))).trans d7,
      ((h.2 c).2 main_v75 (Pipeline.mem_restRefs_of main_v75 (by decide) (by decide))).trans d8,
      ((h.2 c).2 main_v77 (Pipeline.mem_restRefs_of main_v77 (by decide) (by decide))).trans d9,
      ((h.2 c).2 main_v78 (Pipeline.mem_restRefs_of main_v78 (by decide) (by decide))).trans d10,
      ((h.2 c).2 main_v80 (Pipeline.mem_restRefs_of main_v80 (by decide) (by decide))).trans d11,
      ((h.2 c).2 main_v83 (Pipeline.mem_restRefs_of main_v83 (by decide) (by decide))).trans n0,
      ((h.2 c).2 main_v85 (Pipeline.mem_restRefs_of main_v85 (by decide) (by decide))).trans n1,
      ((h.2 c).2 main_v87 (Pipeline.mem_restRefs_of main_v87 (by decide) (by decide))).trans n2,
      ((h.2 c).2 main_v89 (Pipeline.mem_restRefs_of main_v89 (by decide) (by decide))).trans n3,
      ((h.2 c).2 main_v91 (Pipeline.mem_restRefs_of main_v91 (by decide) (by decide))).trans n4,
      ((h.2 c).2 main_v93 (Pipeline.mem_restRefs_of main_v93 (by decide) (by decide))).trans n5,
      ((h.2 c).2 main_v95 (Pipeline.mem_restRefs_of main_v95 (by decide) (by decide))).trans n6,
      ((h.2 c).2 main_v97 (Pipeline.mem_restRefs_of main_v97 (by decide) (by decide))).trans n7,
      ((h.2 c).2 main_v99 (Pipeline.mem_restRefs_of main_v99 (by decide) (by decide))).trans n8,
      ((h.2 c).2 main_v101 (Pipeline.mem_restRefs_of main_v101 (by decide) (by decide))).trans n9,
      ((h.2 c).2 main_v102 (Pipeline.mem_restRefs_of main_v102 (by decide) (by decide))).trans n10,
      ((h.2 c).2 main_v104 (Pipeline.mem_restRefs_of main_v104 (by decide) (by decide))).trans n11,
      ((h.2 c).2 main_v107 (Pipeline.mem_restRefs_of main_v107 (by decide) (by decide))).trans s0,
      ((h.2 c).2 main_v109 (Pipeline.mem_restRefs_of main_v109 (by decide) (by decide))).trans s1,
      ((h.2 c).2 main_v111 (Pipeline.mem_restRefs_of main_v111 (by decide) (by decide))).trans s2,
      ((h.2 c).2 main_v113 (Pipeline.mem_restRefs_of main_v113 (by decide) (by decide))).trans s3,
      ((h.2 c).2 main_v115 (Pipeline.mem_restRefs_of main_v115 (by decide) (by decide))).trans s4,
      ((h.2 c).2 main_v117 (Pipeline.mem_restRefs_of main_v117 (by decide) (by decide))).trans s5,
      ((h.2 c).2 main_v119 (Pipeline.mem_restRefs_of main_v119 (by decide) (by decide))).trans s6,
      ((h.2 c).2 main_v121 (Pipeline.mem_restRefs_of main_v121 (by decide) (by decide))).trans s7,
      ((h.2 c).2 main_v123 (Pipeline.mem_restRefs_of main_v123 (by decide) (by decide))).trans s8,
      ((h.2 c).2 main_v125 (Pipeline.mem_restRefs_of main_v125 (by decide) (by decide))).trans s9,
      ((h.2 c).2 main_v126 (Pipeline.mem_restRefs_of main_v126 (by decide) (by decide))).trans s10,
      ((h.2 c).2 main_v128 (Pipeline.mem_restRefs_of main_v128 (by decide) (by decide))).trans s11,
      h.1 c⟩
  · obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := ha c
    obtain ⟨r0, r1, r2, r3, r4, r5, r6, r7, r8, r9, r10, r11, r12, r13, r14, r15, r16, r17, r18, r19, r20, r21, r22, r23, r24, r25, r26, r27, r28, r29, r30, r31, r32, r33, r34, r35, rest⟩ := h c
    exact ⟨r0.trans (moved_congr a0 a12 a24 a36),
      r1.trans (moved_congr a1 a13 a25 a37),
      r2.trans (moved_congr a2 a14 a26 a38),
      r3.trans (moved_congr a3 a15 a27 a39),
      r4.trans (moved_congr a4 a16 a28 a40),
      r5.trans (moved_congr a5 a17 a29 a41),
      r6.trans (moved_congr a6 a18 a30 a42),
      r7.trans (moved_congr a7 a19 a31 a43),
      r8.trans (moved_congr a8 a20 a32 a44),
      r9.trans (moved_congr a9 a21 a33 a45),
      r10.trans (moved_congr a10 a22 a34 a46),
      r11.trans (moved_congr a11 a23 a35 a47),
      r12.trans (mean_congr a24 a0),
      r13.trans (mean_congr a25 a1),
      r14.trans (mean_congr a26 a2),
      r15.trans (mean_congr a27 a3),
      r16.trans (mean_congr a28 a4),
      r17.trans (mean_congr a29 a5),
      r18.trans (mean_congr a30 a6),
      r19.trans (mean_congr a31 a7),
      r20.trans (mean_congr a32 a8),
      r21.trans (mean_congr a33 a9),
      r22.trans (mean_congr a34 a10),
      r23.trans (mean_congr a35 a11),
      r24.trans (square_congr a36 a0),
      r25.trans (square_congr a37 a1),
      r26.trans (square_congr a38 a2),
      r27.trans (square_congr a39 a3),
      r28.trans (square_congr a40 a4),
      r29.trans (square_congr a41 a5),
      r30.trans (square_congr a42 a6),
      r31.trans (square_congr a43 a7),
      r32.trans (square_congr a44 a8),
      r33.trans (square_congr a45 a9),
      r34.trans (square_congr a46 a10),
      r35.trans (square_congr a47 a11),
      rest⟩

end Cert.Kernel13Ideal.Mul

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Attn.Words
public import proofs.«01_k».proof.Proof.Attn.Equal
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Frame
public import proofs.«01_k».proof.Proof.Gen.Reference13Ideal.Run
public import proofs.«01_k».proof.Proof.Mul.BwdX
public import proofs.«01_k».proof.Proof.Mul.BwdW
public import proofs.«01_k».proof.Proof.Mul.OutFwd
public import proofs.«01_k».proof.Proof.Mul.ProjBwdX
public import proofs.«01_k».proof.Proof.Mul.ProjBwdW
public import proofs.«01_k».proof.Proof.Mul.ProjFwd
public import proofs.«01_k».proof.Proof.Mul.PwBwdX
public import proofs.«01_k».proof.Proof.Mul.PwBwdW
public import proofs.«01_k».proof.Proof.Mul.PwFwd
public import proofs.«01_k».proof.Proof.Mul.PleBwdW
public import proofs.«01_k».proof.Proof.Mul.GateFwd
public import proofs.«01_k».proof.Proof.Mul.AdamSmall
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts,
  Cert.Attn.kernel_frame,
  fun m ρ _ => Cert.KernelIdeal.Attn.frame m ρ,
  fun m ρ _ => Cert.KernelIdeal.Attn.frame m ρ,
  Cert.Attn.reference_frame,
  fun m ρ _ => Cert.Attn.reference_frame m ρ trivial,
  fun m ρ _ => Cert.Kernel2.Gen.frame m ρ, fun m ρ _ => Cert.Kernel2Ideal.Gen.frame m ρ, Cert.Reference2Ideal.Mul.frame,
  fun m ρ _ => Cert.Kernel3.Gen.frame m ρ, fun m ρ _ => Cert.Kernel3Ideal.Gen.frame m ρ, Cert.Reference3Ideal.Mul.frame,
  fun m ρ _ => Cert.Kernel4.Gen.frame m ρ, fun m ρ _ => Cert.Kernel4Ideal.Gen.frame m ρ, Cert.Reference4Ideal.Mul.frame,
  fun m ρ _ => Cert.Kernel5.Gen.frame m ρ, fun m ρ _ => Cert.Kernel5Ideal.Gen.frame m ρ, Cert.Reference5Ideal.Mul.frame,
  fun m ρ _ => Cert.Kernel6.Gen.frame m ρ, fun m ρ _ => Cert.Kernel6Ideal.Gen.frame m ρ, Cert.Reference6Ideal.Mul.frame,
  fun m ρ _ => Cert.Kernel7.Gen.frame m ρ, fun m ρ _ => Cert.Kernel7Ideal.Gen.frame m ρ, Cert.Reference7Ideal.Mul.frame,
  fun m ρ _ => Cert.Kernel8.Gen.frame m ρ, fun m ρ _ => Cert.Kernel8Ideal.Gen.frame m ρ, Cert.Reference8Ideal.Mul.frame,
  fun m ρ _ => Cert.Kernel9.Gen.frame m ρ, fun m ρ _ => Cert.Kernel9Ideal.Gen.frame m ρ, Cert.Reference9Ideal.Mul.frame,
  fun m ρ _ => Cert.Kernel10.Gen.frame m ρ, fun m ρ _ => Cert.Kernel10Ideal.Gen.frame m ρ, Cert.Reference10Ideal.Mul.frame,
  fun m ρ _ => Cert.Kernel11.Gen.frame m ρ, fun m ρ _ => Cert.Kernel11Ideal.Gen.frame m ρ, Cert.Reference11Ideal.Mul.frame,
  fun m ρ _ => Cert.Kernel12.Gen.frame m ρ, fun m ρ _ => Cert.Kernel12Ideal.Gen.frame m ρ, Cert.Reference12Ideal.Mul.frame,
  fun m ρ _ => Cert.Kernel13.Gen.frame m ρ, fun m ρ _ => Cert.Kernel13Ideal.Gen.frame m ρ, Cert.Kernel13Ideal.Mul.reference_frame,
  IdealRules.named_const.statement Cert.KernelIdeal.κ "mask" .f32 0xF149F2CA#32 ⊥ rfl,
  Cert.Attn.equal,
  trivial, Cert.Reference2Ideal.Mul.equal,
  trivial, Cert.Reference3Ideal.Mul.equal,
  trivial, Cert.Reference4Ideal.Mul.equal,
  trivial, Cert.Reference5Ideal.Mul.equal,
  trivial, Cert.Reference6Ideal.Mul.equal,
  trivial, Cert.Reference7Ideal.Mul.equal,
  trivial, Cert.Reference8Ideal.Mul.equal,
  trivial, Cert.Reference9Ideal.Mul.equal,
  trivial, Cert.Reference10Ideal.Mul.equal,
  trivial, Cert.Reference11Ideal.Mul.equal,
  trivial, Cert.Reference12Ideal.Mul.equal,
  trivial, Cert.Kernel13Ideal.Mul.equal⟩

end Cert.Proof

end
